-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_ties [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_no_ties [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_ties : Cert.Pre_no_ties.Facts),
    quiescent_Kernel (hKernel := hKernel)
    ∧ quiescent_KernelIdeal (hKernelIdeal := hKernelIdeal)
    ∧ quiescent_KernelIdeal_pre_no_ties (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal_pre_no_ties (hKernelIdeal := hKernelIdeal) (hReferenceIdeal := hReferenceIdeal) (hPre_no_ties := hPre_no_ties)
-- ==== Pre_no_ties.lean ====
abbrev S4096x64 : Shape := ⟨2, ![4096, 64]⟩
abbrev S_ : Shape := ⟨0, ![]⟩
abbrev S1 : Shape := ⟨1, ![1]⟩
abbrev S2 : Shape := ⟨1, ![2]⟩
abbrev S1x1x1 : Shape := ⟨3, ![1, 1, 1]⟩
abbrev S64x4096x64 : Shape := ⟨3, ![64, 4096, 64]⟩
abbrev S1x4096x64 : Shape := ⟨3, ![1, 4096, 64]⟩
abbrev S64x64 : Shape := ⟨2, ![64, 64]⟩
abbrev S64x4096x64x1 : Shape := ⟨4, ![64, 4096, 64, 1]⟩
abbrev S64x4096x1x64 : Shape := ⟨4, ![64, 4096, 1, 64]⟩
abbrev S64x4096x64x64 : Shape := ⟨4, ![64, 4096, 64, 64]⟩
abbrev S1x1x64x64 : Shape := ⟨4, ![1, 1, 64, 64]⟩

class Facts : Prop where
  bcast_S_S1 : S_.BroadcastsInDim S1 (![] : Fin 0 → Fin S1.rank)
  concatenates_S1_S1_S2_d0 : Shape.Concatenates [S1, S1] S2 0
  bcast_S_S1x1x1 : S_.BroadcastsInDim S1x1x1 (![] : Fin 0 → Fin S1x1x1.rank)
  slices_S2_S1_0 : S2.Slices ![0] S1
  shapeCasts_S1_S_ : S1.ShapeCasts S_
  slices_S2_S1_1 : S2.Slices ![1] S1
  bcast_S_S64x4096x64 : S_.BroadcastsInDim S64x4096x64 (![] : Fin 0 → Fin S64x4096x64.rank)
  natLt_32_64 : 32 < 64
  bcast_S1x1x1_S64x4096x64_0_1_2 : S1x1x1.BroadcastsInDim S64x4096x64 (![0, 1, 2] : Fin 3 → Fin S64x4096x64.rank)
  bcast_S4096x64_S1x4096x64_1_2 : S4096x64.BroadcastsInDim S1x4096x64 (![1, 2] : Fin 2 → Fin S1x4096x64.rank)
  bcast_S1x4096x64_S64x4096x64_0_1_2 : S1x4096x64.BroadcastsInDim S64x4096x64 (![0, 1, 2] : Fin 3 → Fin S64x4096x64.rank)
  bcast_S64x4096x64_S64x4096x64x1_0_1_2 : S64x4096x64.BroadcastsInDim S64x4096x64x1 (![0, 1, 2] : Fin 3 → Fin S64x4096x64x1.rank)
  bcast_S64x4096x64_S64x4096x1x64_0_1_3 : S64x4096x64.BroadcastsInDim S64x4096x1x64 (![0, 1, 3] : Fin 3 → Fin S64x4096x1x64.rank)
  bcast_S64x4096x64x1_S64x4096x64x64_0_1_2_3 : S64x4096x64x1.BroadcastsInDim S64x4096x64x64 (![0, 1, 2, 3] : Fin 4 → Fin S64x4096x64x64.rank)
  bcast_S64x4096x1x64_S64x4096x64x64_0_1_2_3 : S64x4096x1x64.BroadcastsInDim S64x4096x64x64 (![0, 1, 2, 3] : Fin 4 → Fin S64x4096x64x64.rank)
  bcast_S64x64_S1x1x64x64_2_3 : S64x64.BroadcastsInDim S1x1x64x64 (![2, 3] : Fin 2 → Fin S1x1x64x64.rank)
  bcast_S1x1x64x64_S64x4096x64x64_0_1_2_3 : S1x1x64x64.BroadcastsInDim S64x4096x64x64 (![0, 1, 2, 3] : Fin 4 → Fin S64x4096x64x64.rank)
  reducesTo_S64x4096x64x64_S_d0_1_2_3 : S64x4096x64x64.ReducesTo [0, 1, 2, 3] S_
  h_S_ : 0 < S_.numel

variable [Facts]

def fn_threefry2x32_part9 {F : FTy → Type} [FloatOps F] (arg0 : IVec S_ 32) (v163 : IVec S64x4096x64 32) (v169 : IVec S64x4096x64 32) (v170 : IVec S64x4096x64 32) : IVec S64x4096x64 32 × IVec S64x4096x64 32 :=
  let v171 : IVec S64x4096x64 32 := addi v163 v170
  let v172 : IVec S64x4096x64 32 := broadcastInDim S64x4096x64 ![] bcast_S_S64x4096x64 arg0
  let v173 : IVec S64x4096x64 32 := addi v169 v172
  let c_44 : IVec S_ 32 := constantI S_ 32 5#32
  let v174 : IVec S64x4096x64 32 := broadcastInDim S64x4096x64 ![] bcast_S_S64x4096x64 c_44
  let v175 : IVec S64x4096x64 32 := addi v173 v174
  (v171, v175)

def fn_threefry2x32_part8 {F : FTy → Type} [FloatOps F] (arg0 : IVec S_ 32) (v1 : IVec S_ 32) (v148 : IVec S64x4096x64 32) (v149 : IVec S64x4096x64 32) (v151 : IVec S64x4096x64 32) : IVec S64x4096x64 32 × IVec S64x4096x64 32 :=
  let c_39 : IVec S_ 32 := constantI S_ 32 17#32
  let v152 : IVec S64x4096x64 32 := broadcastInDim S64x4096x64 ![] bcast_S_S64x4096x64 c_39
  let v153 : IVec S64x4096x64 32 := Host.shrui v148 v152
  let v154 : IVec S64x4096x64 32 := ori v151 v153
  let v155 : IVec S64x4096x64 32 := xori v149 v154
  let v156 : IVec S64x4096x64 32 := addi v149 v155
  let c_40 : IVec S_ 32 := constantI S_ 32 26#32
  let v157 : IVec S64x4096x64 32 := broadcastInDim S64x4096x64 ![] bcast_S_S64x4096x64 c_40
  let v158 : IVec S64x4096x64 32 := Host.shli v155 v157
  let c_41 : IVec S_ 32 := constantI S_ 32 6#32
  let v159 : IVec S64x4096x64 32 := broadcastInDim S64x4096x64 ![] bcast_S_S64x4096x64 c_41
  let v160 : IVec S64x4096x64 32 := Host.shrui v155 v159
  let v161 : IVec S64x4096x64 32 := ori v158 v160
  let v162 : IVec S64x4096x64 32 := xori v156 v161
  let v163 : IVec S64x4096x64 32 := addi v156 v162
  let c_42 : IVec S_ 32 := constantI S_ 32 6#32
  let v164 : IVec S64x4096x64 32 := broadcastInDim S64x4096x64 ![] bcast_S_S64x4096x64 c_42
  let v165 : IVec S64x4096x64 32 := Host.shli v162 v164
  let c_43 : IVec S_ 32 := constantI S_ 32 26#32
  let v166 : IVec S64x4096x64 32 := broadcastInDim S64x4096x64 ![] bcast_S_S64x4096x64 c_43
  let v167 : IVec S64x4096x64 32 := Host.shrui v162 v166
  let v168 : IVec S64x4096x64 32 := ori v165 v167
  let v169 : IVec S64x4096x64 32 := xori v163 v168
  let v170 : IVec S64x4096x64 32 := broadcastInDim S64x4096x64 ![] bcast_S_S64x4096x64 v1
  fn_threefry2x32_part9 (F := F) arg0 v163 v169 v170

def fn_threefry2x32_part7 {F : FTy → Type} [FloatOps F] (arg0 : IVec S_ 32) (arg1 : IVec S_ 32) (v1 : IVec S_ 32) (v128 : IVec S64x4096x64 32) (v129 : IVec S64x4096x64 32) (v131 : IVec S64x4096x64 32) (c_34 : IVec S_ 32) : IVec S64x4096x64 32 × IVec S64x4096x64 32 :=
  let v132 : IVec S64x4096x64 32 := broadcastInDim S64x4096x64 ![] bcast_S_S64x4096x64 c_34
  let v133 : IVec S64x4096x64 32 := Host.shrui v128 v132
  let v134 : IVec S64x4096x64 32 := ori v131 v133
  let v135 : IVec S64x4096x64 32 := xori v129 v134
  let v136 : IVec S64x4096x64 32 := broadcastInDim S64x4096x64 ![] bcast_S_S64x4096x64 arg1
  let v137 : IVec S64x4096x64 32 := addi v129 v136
  let v138 : IVec S64x4096x64 32 := broadcastInDim S64x4096x64 ![] bcast_S_S64x4096x64 v1
  let v139 : IVec S64x4096x64 32 := addi v135 v138
  let c_35 : IVec S_ 32 := constantI S_ 32 4#32
  let v140 : IVec S64x4096x64 32 := broadcastInDim S64x4096x64 ![] bcast_S_S64x4096x64 c_35
  let v141 : IVec S64x4096x64 32 := addi v139 v140
  let v142 : IVec S64x4096x64 32 := addi v137 v141
  let c_36 : IVec S_ 32 := constantI S_ 32 13#32
  let v143 : IVec S64x4096x64 32 := broadcastInDim S64x4096x64 ![] bcast_S_S64x4096x64 c_36
  let v144 : IVec S64x4096x64 32 := Host.shli v141 v143
  let c_37 : IVec S_ 32 := constantI S_ 32 19#32
  let v145 : IVec S64x4096x64 32 := broadcastInDim S64x4096x64 ![] bcast_S_S64x4096x64 c_37
  let v146 : IVec S64x4096x64 32 := Host.shrui v141 v145
  let v147 : IVec S64x4096x64 32 := ori v144 v146
  let v148 : IVec S64x4096x64 32 := xori v142 v147
  let v149 : IVec S64x4096x64 32 := addi v142 v148
  let c_38 : IVec S_ 32 := constantI S_ 32 15#32
  let v150 : IVec S64x4096x64 32 := broadcastInDim S64x4096x64 ![] bcast_S_S64x4096x64 c_38
  let v151 : IVec S64x4096x64 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S64x4096x64 32) (v113 : IVec S64x4096x64 32) : IVec S64x4096x64 32 × IVec S64x4096x64 32 :=
  let v114 : IVec S64x4096x64 32 := xori v108 v113
  let v115 : IVec S64x4096x64 32 := addi v108 v114
  let c_29 : IVec S_ 32 := constantI S_ 32 29#32
  let v116 : IVec S64x4096x64 32 := broadcastInDim S64x4096x64 ![] bcast_S_S64x4096x64 c_29
  let v117 : IVec S64x4096x64 32 := Host.shli v114 v116
  let c_30 : IVec S_ 32 := constantI S_ 32 3#32
  let v118 : IVec S64x4096x64 32 := broadcastInDim S64x4096x64 ![] bcast_S_S64x4096x64 c_30
  let v119 : IVec S64x4096x64 32 := Host.shrui v114 v118
  let v120 : IVec S64x4096x64 32 := ori v117 v119
  let v121 : IVec S64x4096x64 32 := xori v115 v120
  let v122 : IVec S64x4096x64 32 := addi v115 v121
  let c_31 : IVec S_ 32 := constantI S_ 32 16#32
  let v123 : IVec S64x4096x64 32 := broadcastInDim S64x4096x64 ![] bcast_S_S64x4096x64 c_31
  let v124 : IVec S64x4096x64 32 := Host.shli v121 v123
  let c_32 : IVec S_ 32 := constantI S_ 32 16#32
  let v125 : IVec S64x4096x64 32 := broadcastInDim S64x4096x64 ![] bcast_S_S64x4096x64 c_32
  let v126 : IVec S64x4096x64 32 := Host.shrui v121 v125
  let v127 : IVec S64x4096x64 32 := ori v124 v126
  let v128 : IVec S64x4096x64 32 := xori v122 v127
  let v129 : IVec S64x4096x64 32 := addi v122 v128
  let c_33 : IVec S_ 32 := constantI S_ 32 24#32
  let v130 : IVec S64x4096x64 32 := broadcastInDim S64x4096x64 ![] bcast_S_S64x4096x64 c_33
  let v131 : IVec S64x4096x64 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S64x4096x64 32) (v94 : IVec S64x4096x64 32) : IVec S64x4096x64 32 × IVec S64x4096x64 32 :=
  let v95 : IVec S64x4096x64 32 := addi v88 v94
  let c_24 : IVec S_ 32 := constantI S_ 32 6#32
  let v96 : IVec S64x4096x64 32 := broadcastInDim S64x4096x64 ![] bcast_S_S64x4096x64 c_24
  let v97 : IVec S64x4096x64 32 := Host.shli v94 v96
  let c_25 : IVec S_ 32 := constantI S_ 32 26#32
  let v98 : IVec S64x4096x64 32 := broadcastInDim S64x4096x64 ![] bcast_S_S64x4096x64 c_25
  let v99 : IVec S64x4096x64 32 := Host.shrui v94 v98
  let v100 : IVec S64x4096x64 32 := ori v97 v99
  let v101 : IVec S64x4096x64 32 := xori v95 v100
  let v102 : IVec S64x4096x64 32 := broadcastInDim S64x4096x64 ![] bcast_S_S64x4096x64 arg0
  let v103 : IVec S64x4096x64 32 := addi v95 v102
  let v104 : IVec S64x4096x64 32 := broadcastInDim S64x4096x64 ![] bcast_S_S64x4096x64 arg1
  let v105 : IVec S64x4096x64 32 := addi v101 v104
  let c_26 : IVec S_ 32 := constantI S_ 32 3#32
  let v106 : IVec S64x4096x64 32 := broadcastInDim S64x4096x64 ![] bcast_S_S64x4096x64 c_26
  let v107 : IVec S64x4096x64 32 := addi v105 v106
  let v108 : IVec S64x4096x64 32 := addi v103 v107
  let c_27 : IVec S_ 32 := constantI S_ 32 17#32
  let v109 : IVec S64x4096x64 32 := broadcastInDim S64x4096x64 ![] bcast_S_S64x4096x64 c_27
  let v110 : IVec S64x4096x64 32 := Host.shli v107 v109
  let c_28 : IVec S_ 32 := constantI S_ 32 15#32
  let v111 : IVec S64x4096x64 32 := broadcastInDim S64x4096x64 ![] bcast_S_S64x4096x64 c_28
  let v112 : IVec S64x4096x64 32 := Host.shrui v107 v111
  let v113 : IVec S64x4096x64 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S64x4096x64 32) (v74 : IVec S64x4096x64 32) (v75 : IVec S64x4096x64 32) : IVec S64x4096x64 32 × IVec S64x4096x64 32 :=
  let v76 : IVec S64x4096x64 32 := Host.shli v73 v75
  let c_19 : IVec S_ 32 := constantI S_ 32 19#32
  let v77 : IVec S64x4096x64 32 := broadcastInDim S64x4096x64 ![] bcast_S_S64x4096x64 c_19
  let v78 : IVec S64x4096x64 32 := Host.shrui v73 v77
  let v79 : IVec S64x4096x64 32 := ori v76 v78
  let v80 : IVec S64x4096x64 32 := xori v74 v79
  let v81 : IVec S64x4096x64 32 := addi v74 v80
  let c_20 : IVec S_ 32 := constantI S_ 32 15#32
  let v82 : IVec S64x4096x64 32 := broadcastInDim S64x4096x64 ![] bcast_S_S64x4096x64 c_20
  let v83 : IVec S64x4096x64 32 := Host.shli v80 v82
  let c_21 : IVec S_ 32 := constantI S_ 32 17#32
  let v84 : IVec S64x4096x64 32 := broadcastInDim S64x4096x64 ![] bcast_S_S64x4096x64 c_21
  let v85 : IVec S64x4096x64 32 := Host.shrui v80 v84
  let v86 : IVec S64x4096x64 32 := ori v83 v85
  let v87 : IVec S64x4096x64 32 := xori v81 v86
  let v88 : IVec S64x4096x64 32 := addi v81 v87
  let c_22 : IVec S_ 32 := constantI S_ 32 26#32
  let v89 : IVec S64x4096x64 32 := broadcastInDim S64x4096x64 ![] bcast_S_S64x4096x64 c_22
  let v90 : IVec S64x4096x64 32 := Host.shli v87 v89
  let c_23 : IVec S_ 32 := constantI S_ 32 6#32
  let v91 : IVec S64x4096x64 32 := broadcastInDim S64x4096x64 ![] bcast_S_S64x4096x64 c_23
  let v92 : IVec S64x4096x64 32 := Host.shrui v87 v91
  let v93 : IVec S64x4096x64 32 := ori v90 v92
  let v94 : IVec S64x4096x64 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S64x4096x64 32) (v54 : IVec S64x4096x64 32) (v56 : IVec S64x4096x64 32) : IVec S64x4096x64 32 × IVec S64x4096x64 32 :=
  let c_14 : IVec S_ 32 := constantI S_ 32 16#32
  let v57 : IVec S64x4096x64 32 := broadcastInDim S64x4096x64 ![] bcast_S_S64x4096x64 c_14
  let v58 : IVec S64x4096x64 32 := Host.shrui v53 v57
  let v59 : IVec S64x4096x64 32 := ori v56 v58
  let v60 : IVec S64x4096x64 32 := xori v54 v59
  let v61 : IVec S64x4096x64 32 := addi v54 v60
  let c_15 : IVec S_ 32 := constantI S_ 32 24#32
  let v62 : IVec S64x4096x64 32 := broadcastInDim S64x4096x64 ![] bcast_S_S64x4096x64 c_15
  let v63 : IVec S64x4096x64 32 := Host.shli v60 v62
  let c_16 : IVec S_ 32 := constantI S_ 32 8#32
  let v64 : IVec S64x4096x64 32 := broadcastInDim S64x4096x64 ![] bcast_S_S64x4096x64 c_16
  let v65 : IVec S64x4096x64 32 := Host.shrui v60 v64
  let v66 : IVec S64x4096x64 32 := ori v63 v65
  let v67 : IVec S64x4096x64 32 := xori v61 v66
  let v68 : IVec S64x4096x64 32 := broadcastInDim S64x4096x64 ![] bcast_S_S64x4096x64 v1
  let v69 : IVec S64x4096x64 32 := addi v61 v68
  let v70 : IVec S64x4096x64 32 := broadcastInDim S64x4096x64 ![] bcast_S_S64x4096x64 arg0
  let v71 : IVec S64x4096x64 32 := addi v67 v70
  let c_17 : IVec S_ 32 := constantI S_ 32 2#32
  let v72 : IVec S64x4096x64 32 := broadcastInDim S64x4096x64 ![] bcast_S_S64x4096x64 c_17
  let v73 : IVec S64x4096x64 32 := addi v71 v72
  let v74 : IVec S64x4096x64 32 := addi v69 v73
  let c_18 : IVec S_ 32 := constantI S_ 32 13#32
  let v75 : IVec S64x4096x64 32 := broadcastInDim S64x4096x64 ![] bcast_S_S64x4096x64 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S64x4096x64 32) (v37 : IVec S64x4096x64 32) (c_8 : IVec S_ 32) : IVec S64x4096x64 32 × IVec S64x4096x64 32 :=
  let v38 : IVec S64x4096x64 32 := broadcastInDim S64x4096x64 ![] bcast_S_S64x4096x64 c_8
  let v39 : IVec S64x4096x64 32 := addi v37 v38
  let v40 : IVec S64x4096x64 32 := addi v35 v39
  let c_9 : IVec S_ 32 := constantI S_ 32 17#32
  let v41 : IVec S64x4096x64 32 := broadcastInDim S64x4096x64 ![] bcast_S_S64x4096x64 c_9
  let v42 : IVec S64x4096x64 32 := Host.shli v39 v41
  let c_10 : IVec S_ 32 := constantI S_ 32 15#32
  let v43 : IVec S64x4096x64 32 := broadcastInDim S64x4096x64 ![] bcast_S_S64x4096x64 c_10
  let v44 : IVec S64x4096x64 32 := Host.shrui v39 v43
  let v45 : IVec S64x4096x64 32 := ori v42 v44
  let v46 : IVec S64x4096x64 32 := xori v40 v45
  let v47 : IVec S64x4096x64 32 := addi v40 v46
  let c_11 : IVec S_ 32 := constantI S_ 32 29#32
  let v48 : IVec S64x4096x64 32 := broadcastInDim S64x4096x64 ![] bcast_S_S64x4096x64 c_11
  let v49 : IVec S64x4096x64 32 := Host.shli v46 v48
  let c_12 : IVec S_ 32 := constantI S_ 32 3#32
  let v50 : IVec S64x4096x64 32 := broadcastInDim S64x4096x64 ![] bcast_S_S64x4096x64 c_12
  let v51 : IVec S64x4096x64 32 := Host.shrui v46 v50
  let v52 : IVec S64x4096x64 32 := ori v49 v51
  let v53 : IVec S64x4096x64 32 := xori v47 v52
  let v54 : IVec S64x4096x64 32 := addi v47 v53
  let c_13 : IVec S_ 32 := constantI S_ 32 16#32
  let v55 : IVec S64x4096x64 32 := broadcastInDim S64x4096x64 ![] bcast_S_S64x4096x64 c_13
  let v56 : IVec S64x4096x64 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S64x4096x64 32) (v18 : IVec S64x4096x64 32) : IVec S64x4096x64 32 × IVec S64x4096x64 32 :=
  let v19 : IVec S64x4096x64 32 := xori v13 v18
  let v20 : IVec S64x4096x64 32 := addi v13 v19
  let c_4 : IVec S_ 32 := constantI S_ 32 26#32
  let v21 : IVec S64x4096x64 32 := broadcastInDim S64x4096x64 ![] bcast_S_S64x4096x64 c_4
  let v22 : IVec S64x4096x64 32 := Host.shli v19 v21
  let c_5 : IVec S_ 32 := constantI S_ 32 6#32
  let v23 : IVec S64x4096x64 32 := broadcastInDim S64x4096x64 ![] bcast_S_S64x4096x64 c_5
  let v24 : IVec S64x4096x64 32 := Host.shrui v19 v23
  let v25 : IVec S64x4096x64 32 := ori v22 v24
  let v26 : IVec S64x4096x64 32 := xori v20 v25
  let v27 : IVec S64x4096x64 32 := addi v20 v26
  let c_6 : IVec S_ 32 := constantI S_ 32 6#32
  let v28 : IVec S64x4096x64 32 := broadcastInDim S64x4096x64 ![] bcast_S_S64x4096x64 c_6
  let v29 : IVec S64x4096x64 32 := Host.shli v26 v28
  let c_7 : IVec S_ 32 := constantI S_ 32 26#32
  let v30 : IVec S64x4096x64 32 := broadcastInDim S64x4096x64 ![] bcast_S_S64x4096x64 c_7
  let v31 : IVec S64x4096x64 32 := Host.shrui v26 v30
  let v32 : IVec S64x4096x64 32 := ori v29 v31
  let v33 : IVec S64x4096x64 32 := xori v27 v32
  let v34 : IVec S64x4096x64 32 := broadcastInDim S64x4096x64 ![] bcast_S_S64x4096x64 arg1
  let v35 : IVec S64x4096x64 32 := addi v27 v34
  let v36 : IVec S64x4096x64 32 := broadcastInDim S64x4096x64 ![] bcast_S_S64x4096x64 v1
  let v37 : IVec S64x4096x64 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S64x4096x64 32) (arg3 : IVec S64x4096x64 32) : IVec S64x4096x64 32 × IVec S64x4096x64 32 :=
  let v0 : IVec S_ 32 := xori arg0 arg1
  let c : IVec S_ 32 := constantI S_ 32 466688986#32
  let v1 : IVec S_ 32 := xori v0 c
  let v2 : IVec S64x4096x64 32 := broadcastInDim S64x4096x64 ![] bcast_S_S64x4096x64 arg0
  let v3 : IVec S64x4096x64 32 := addi arg2 v2
  let v4 : IVec S64x4096x64 32 := broadcastInDim S64x4096x64 ![] bcast_S_S64x4096x64 arg1
  let v5 : IVec S64x4096x64 32 := addi arg3 v4
  let v6 : IVec S64x4096x64 32 := addi v3 v5
  let c_0 : IVec S_ 32 := constantI S_ 32 13#32
  let v7 : IVec S64x4096x64 32 := broadcastInDim S64x4096x64 ![] bcast_S_S64x4096x64 c_0
  let v8 : IVec S64x4096x64 32 := Host.shli v5 v7
  let c_1 : IVec S_ 32 := constantI S_ 32 19#32
  let v9 : IVec S64x4096x64 32 := broadcastInDim S64x4096x64 ![] bcast_S_S64x4096x64 c_1
  let v10 : IVec S64x4096x64 32 := Host.shrui v5 v9
  let v11 : IVec S64x4096x64 32 := ori v8 v10
  let v12 : IVec S64x4096x64 32 := xori v6 v11
  let v13 : IVec S64x4096x64 32 := addi v6 v12
  let c_2 : IVec S_ 32 := constantI S_ 32 15#32
  let v14 : IVec S64x4096x64 32 := broadcastInDim S64x4096x64 ![] bcast_S_S64x4096x64 c_2
  let v15 : IVec S64x4096x64 32 := Host.shli v12 v14
  let c_3 : IVec S_ 32 := constantI S_ 32 17#32
  let v16 : IVec S64x4096x64 32 := broadcastInDim S64x4096x64 ![] bcast_S_S64x4096x64 c_3
  let v17 : IVec S64x4096x64 32 := Host.shrui v12 v16
  let v18 : IVec S64x4096x64 32 := ori v15 v17
  fn_threefry2x32_part1 (F := F) arg0 arg1 v1 v13 v18

def fn_uniform_part1 {F : FTy → Type} [FloatOps F] (v1 : FVec F S1x1x1 .f32) (v2 : FVec F S1x1x1 .f32) (v4 : IVec S_ 32) (v6 : IVec S_ 32) (v17 : IVec S64x4096x64 64) (v19 : IVec S64x4096x64 64) : FVec F S64x4096x64 .f32 :=
  let v20 : IVec S64x4096x64 32 := (trunci 32 · natLt_32_64) v17
  let v21 : IVec S64x4096x64 32 := (trunci 32 · natLt_32_64) v19
  let v22_0 : IVec S64x4096x64 32 := (fn_threefry2x32 (F := F) v4 v6 v21 v20).1
  let v22_1 : IVec S64x4096x64 32 := (fn_threefry2x32 (F := F) v4 v6 v21 v20).2
  let v23 : IVec S64x4096x64 32 := xori v22_0 v22_1
  let c_3 : IVec S_ 32 := constantI S_ 32 9#32
  let v24 : IVec S64x4096x64 32 := broadcastInDim S64x4096x64 ![] bcast_S_S64x4096x64 c_3
  let v25 : IVec S64x4096x64 32 := Host.shrui v23 v24
  let c_4 : IVec S_ 32 := constantI S_ 32 1065353216#32
  let v26 : IVec S64x4096x64 32 := broadcastInDim S64x4096x64 ![] bcast_S_S64x4096x64 c_4
  let v27 : IVec S64x4096x64 32 := ori v25 v26
  let v28 : FVec F S64x4096x64 .f32 := bitcastToFloat .f32 v27
  let cst : FVec F S_ .f32 := constant S_ .f32 0x3F800000#32
  let v29 : FVec F S64x4096x64 .f32 := broadcastInDim S64x4096x64 ![] bcast_S_S64x4096x64 cst
  let v30 : FVec F S64x4096x64 .f32 := subf v28 v29
  let v31 : FVec F S1x1x1 .f32 := subf v2 v1
  let v32 : FVec F S64x4096x64 .f32 := broadcastInDim S64x4096x64 ![0, 1, 2] bcast_S1x1x1_S64x4096x64_0_1_2 v31
  let v33 : FVec F S64x4096x64 .f32 := mulf v30 v32
  let v34 : FVec F S64x4096x64 .f32 := broadcastInDim S64x4096x64 ![0, 1, 2] bcast_S1x1x1_S64x4096x64_0_1_2 v1
  let v35 : FVec F S64x4096x64 .f32 := addf v33 v34
  let v36 : FVec F S64x4096x64 .f32 := broadcastInDim S64x4096x64 ![0, 1, 2] bcast_S1x1x1_S64x4096x64_0_1_2 v1
  let v37 : FVec F S64x4096x64 .f32 := maximumf v36 v35
  v37

def fn_uniform {F : FTy → Type} [FloatOps F] (arg0 : IVec S2 32) (arg1 : FVec F S_ .f32) (arg2 : FVec F S_ .f32) : FVec F S64x4096x64 .f32 :=
  let v0 : FVec F S_ .f32 := id arg1
  let v1 : FVec F S1x1x1 .f32 := broadcastInDim S1x1x1 ![] bcast_S_S1x1x1 arg2
  let v2 : FVec F S1x1x1 .f32 := broadcastInDim S1x1x1 ![] bcast_S_S1x1x1 v0
  let v3 : IVec S1 32 := (extractStridedSlice S1 ![0] · slices_S2_S1_0) arg0
  let v4 : IVec S_ 32 := shapeCast S_ v3 shapeCasts_S1_S_
  let v5 : IVec S1 32 := (extractStridedSlice S1 ![1] · slices_S2_S1_1) arg0
  let v6 : IVec S_ 32 := shapeCast S_ v5 shapeCasts_S1_S_
  let v7 : IVec S64x4096x64 64 := iotaInDim S64x4096x64 64 0
  let v8 : IVec S64x4096x64 64 := iotaInDim S64x4096x64 64 1
  let v9 : IVec S64x4096x64 64 := iotaInDim S64x4096x64 64 2
  let c : IVec S_ 64 := constantI S_ 64 262144#64
  let v10 : IVec S64x4096x64 64 := broadcastInDim S64x4096x64 ![] bcast_S_S64x4096x64 c
  let v11 : IVec S64x4096x64 64 := muli v10 v7
  let c_0 : IVec S_ 64 := constantI S_ 64 64#64
  let v12 : IVec S64x4096x64 64 := broadcastInDim S64x4096x64 ![] bcast_S_S64x4096x64 c_0
  let v13 : IVec S64x4096x64 64 := muli v12 v8
  let c_1 : IVec S_ 64 := constantI S_ 64 1#64
  let v14 : IVec S64x4096x64 64 := broadcastInDim S64x4096x64 ![] bcast_S_S64x4096x64 c_1
  let v15 : IVec S64x4096x64 64 := muli v14 v9
  let v16 : IVec S64x4096x64 64 := addi v11 v13
  let v17 : IVec S64x4096x64 64 := addi v16 v15
  let c_2 : IVec S_ 64 := constantI S_ 64 32#64
  let v18 : IVec S64x4096x64 64 := broadcastInDim S64x4096x64 ![] bcast_S_S64x4096x64 c_2
  let v19 : IVec S64x4096x64 64 := Host.shrui v17 v18
  fn_uniform_part1 (F := F) v1 v2 v4 v6 v17 v19

def fn_gumbel {F : FTy → Type} [FloatOps F] (arg0 : IVec S2 32) : FVec F S64x4096x64 .f32 :=
  let cst : FVec F S_ .f32 := constant S_ .f32 0x3F800000#32
  let cst_0 : FVec F S_ .f32 := constant S_ .f32 0x00800000#32
  let v0 : FVec F S64x4096x64 .f32 := fn_uniform (F := F) arg0 cst cst_0
  let v1 : FVec F S64x4096x64 .f32 := Host.log v0
  let v2 : FVec F S64x4096x64 .f32 := Host.negf v1
  let v3 : FVec F S64x4096x64 .f32 := Host.log v2
  let v4 : FVec F S64x4096x64 .f32 := Host.negf v3
  v4

def fn_part1 {F : FTy → Type} [FloatOps F] (main_v13 : IVec S64x64 32) (main_v14 : IVec S64x64 32) (main_v19 : IVec S64x4096x64x64 1) : IVec S_ 1 :=
  let main_v20 : IVec S64x64 1 := cmpi .eq main_v13 main_v14
  let main_v21 : IVec S1x1x64x64 1 := broadcastInDim S1x1x64x64 ![2, 3] bcast_S64x64_S1x1x64x64_2_3 main_v20
  let main_v22 : IVec S64x4096x64x64 1 := broadcastInDim S64x4096x64x64 ![0, 1, 2, 3] bcast_S1x1x64x64_S64x4096x64x64_0_1_2_3 main_v21
  let main_v23 : IVec S64x4096x64x64 1 := ori main_v19 main_v22
  let main_c_2 : IVec S_ 1 := constantI S_ 1 1#1
  let main_v24 : IVec S_ 1 := (fun x v => Host.reduce IntOp.andi x v reducesTo_S64x4096x64x64_S_d0_1_2_3 h_S_) main_v23 main_c_2
  main_v24

def fn {F : FTy → Type} [FloatOps F] (main_arg0 : FVec F S4096x64 .f32) : IVec S_ 1 :=
  let main_c : IVec S_ 32 := constantI S_ 32 42#32
  let main_c_0 : IVec S_ 32 := constantI S_ 32 32#32
  let main_v0 : IVec S_ 32 := Host.shrui main_c main_c_0
  let main_v1 : IVec S_ 32 := id main_v0
  let main_v2 : IVec S1 32 := broadcastInDim S1 ![] bcast_S_S1 main_v1
  let main_c_1 : IVec S_ 32 := constantI S_ 32 4294967295#32
  let main_v3 : IVec S_ 32 := andi main_c main_c_1
  let main_v4 : IVec S_ 32 := id main_v3
  let main_v5 : IVec S1 32 := broadcastInDim S1 ![] bcast_S_S1 main_v4
  let main_v6 : IVec S2 32 := (fun a b => concatenate S2 0 [⟨S1, a⟩, ⟨S1, b⟩] concatenates_S1_S1_S2_d0) main_v2 main_v5
  let main_v7 : FVec F S64x4096x64 .f32 := fn_gumbel (F := F) main_v6
  let main_v8 : FVec F S1x4096x64 .f32 := broadcastInDim S1x4096x64 ![1, 2] bcast_S4096x64_S1x4096x64_1_2 main_arg0
  let main_cst : FVec F S_ .f32 := constant S_ .f32 0x3D4CCCCD#32
  let main_v9 : FVec F S64x4096x64 .f32 := broadcastInDim S64x4096x64 ![] bcast_S_S64x4096x64 main_cst
  let main_v10 : FVec F S64x4096x64 .f32 := mulf main_v9 main_v7
  let main_v11 : FVec F S64x4096x64 .f32 := broadcastInDim S64x4096x64 ![0, 1, 2] bcast_S1x4096x64_S64x4096x64_0_1_2 main_v8
  let main_v12 : FVec F S64x4096x64 .f32 := addf main_v11 main_v10
  let main_v13 : IVec S64x64 32 := iotaInDim S64x64 32 0
  let main_v14 : IVec S64x64 32 := iotaInDim S64x64 32 1
  let main_v15 : FVec F S64x4096x64x1 .f32 := broadcastInDim S64x4096x64x1 ![0, 1, 2] bcast_S64x4096x64_S64x4096x64x1_0_1_2 main_v12
  let main_v16 : FVec F S64x4096x1x64 .f32 := broadcastInDim S64x4096x1x64 ![0, 1, 3] bcast_S64x4096x64_S64x4096x1x64_0_1_3 main_v12
  let main_v17 : FVec F S64x4096x64x64 .f32 := broadcastInDim S64x4096x64x64 ![0, 1, 2, 3] bcast_S64x4096x64x1_S64x4096x64x64_0_1_2_3 main_v15
  let main_v18 : FVec F S64x4096x64x64 .f32 := broadcastInDim S64x4096x64x64 ![0, 1, 2, 3] bcast_S64x4096x1x64_S64x4096x64x64_0_1_2_3 main_v16
  let main_v19 : IVec S64x4096x64x64 1 := cmpf .une main_v17 main_v18
  fn_part1 (F := F) main_v13 main_v14 main_v19
-- ==== Kernel.lean ====
abbrev S4096x64 : Shape := ⟨2, ![4096, 64]⟩
abbrev S_ : Shape := ⟨0, ![]⟩
abbrev S1 : Shape := ⟨1, ![1]⟩
abbrev S2 : Shape := ⟨1, ![2]⟩
abbrev S1x1x1 : Shape := ⟨3, ![1, 1, 1]⟩
abbrev S64x4096x64 : Shape := ⟨3, ![64, 4096, 64]⟩
abbrev S64x1792x64 : Shape := ⟨3, ![64, 1792, 64]⟩
abbrev S64x64x1792 : Shape := ⟨3, ![64, 64, 1792]⟩
abbrev S64x512x64 : Shape := ⟨3, ![64, 512, 64]⟩
abbrev S64x32x16x64 : Shape := ⟨4, ![64, 32, 16, 64]⟩
abbrev S32x64x64x16 : Shape := ⟨4, ![32, 64, 64, 16]⟩
abbrev S512x64 : Shape := ⟨2, ![512, 64]⟩
abbrev S32x16x64 : Shape := ⟨3, ![32, 16, 64]⟩
abbrev S32x64x16 : Shape := ⟨3, ![32, 64, 16]⟩
abbrev S64x16 : Shape := ⟨2, ![64, 16]⟩
abbrev S1x64x16 : Shape := ⟨3, ![1, 64, 16]⟩
abbrev S16 : Shape := ⟨1, ![16]⟩
abbrev S1x16 : Shape := ⟨2, ![1, 16]⟩
abbrev S1x1x64x16 : Shape := ⟨4, ![1, 1, 64, 16]⟩
abbrev S3584x64 : Shape := ⟨2, ![3584, 64]⟩
abbrev S64x3584 : Shape := ⟨2, ![64, 3584]⟩
abbrev S64x1792 : Shape := ⟨2, ![64, 1792]⟩
abbrev S64x128 : Shape := ⟨2, ![64, 128]⟩
abbrev S64x64x128 : Shape := ⟨3, ![64, 64, 128]⟩
abbrev S1x64x128 : Shape := ⟨3, ![1, 64, 128]⟩
abbrev S1x128 : Shape := ⟨2, ![1, 128]⟩
abbrev S1792x64 : Shape := ⟨2, ![1792, 64]⟩

abbrev nBuf : Table → Nat
  | .hbm => 308
  | .local .tc .vmem => 12
  | .local .scVector .vmem => 4
  | _ => 0

abbrev hbmTy0_0 (i : Nat) : BufTy := match i % 128 with
  | 0 => ⟨S4096x64, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S1x1x1, .f32⟩
  | 15 => ⟨S1x1x1, .f32⟩
  | 16 => ⟨S1, .i32⟩
  | 17 => ⟨S_, .i32⟩
  | 18 => ⟨S1, .i32⟩
  | 19 => ⟨S_, .i32⟩
  | 20 => ⟨S64x4096x64, .i64⟩
  | 21 => ⟨S64x4096x64, .i64⟩
  | 22 => ⟨S64x4096x64, .i64⟩
  | 23 => ⟨S_, .i64⟩
  | 24 => ⟨S64x4096x64, .i64⟩
  | 25 => ⟨S64x4096x64, .i64⟩
  | 26 => ⟨S_, .i64⟩
  | 27 => ⟨S64x4096x64, .i64⟩
  | 28 => ⟨S64x4096x64, .i64⟩
  | 29 => ⟨S_, .i64⟩
  | 30 => ⟨S64x4096x64, .i64⟩
  | 31 => ⟨S64x4096x64, .i64⟩
  | 32 => ⟨S64x4096x64, .i64⟩
  | 33 => ⟨S64x4096x64, .i64⟩
  | 34 => ⟨S_, .i64⟩
  | 35 => ⟨S64x4096x64, .i64⟩
  | 36 => ⟨S64x4096x64, .i64⟩
  | 37 => ⟨S64x4096x64, .i32⟩
  | 38 => ⟨S64x4096x64, .i32⟩
  | 39 => ⟨S_, .i32⟩
  | 40 => ⟨S_, .i32⟩
  | 41 => ⟨S_, .i32⟩
  | 42 => ⟨S64x4096x64, .i32⟩
  | 43 => ⟨S64x4096x64, .i32⟩
  | 44 => ⟨S64x4096x64, .i32⟩
  | 45 => ⟨S64x4096x64, .i32⟩
  | 46 => ⟨S64x4096x64, .i32⟩
  | 47 => ⟨S_, .i32⟩
  | 48 => ⟨S64x4096x64, .i32⟩
  | 49 => ⟨S64x4096x64, .i32⟩
  | 50 => ⟨S_, .i32⟩
  | 51 => ⟨S64x4096x64, .i32⟩
  | 52 => ⟨S64x4096x64, .i32⟩
  | 53 => ⟨S64x4096x64, .i32⟩
  | 54 => ⟨S64x4096x64, .i32⟩
  | 55 => ⟨S64x4096x64, .i32⟩
  | 56 => ⟨S_, .i32⟩
  | 57 => ⟨S64x4096x64, .i32⟩
  | 58 => ⟨S64x4096x64, .i32⟩
  | 59 => ⟨S_, .i32⟩
  | 60 => ⟨S64x4096x64, .i32⟩
  | 61 => ⟨S64x4096x64, .i32⟩
  | 62 => ⟨S64x4096x64, .i32⟩
  | 63 => ⟨S64x4096x64, .i32⟩
  | 64 => ⟨S64x4096x64, .i32⟩
  | 65 => ⟨S_, .i32⟩
  | 66 => ⟨S64x4096x64, .i32⟩
  | 67 => ⟨S64x4096x64, .i32⟩
  | 68 => ⟨S_, .i32⟩
  | 69 => ⟨S64x4096x64, .i32⟩
  | 70 => ⟨S64x4096x64, .i32⟩
  | 71 => ⟨S64x4096x64, .i32⟩
  | 72 => ⟨S64x4096x64, .i32⟩
  | 73 => ⟨S64x4096x64, .i32⟩
  | 74 => ⟨S_, .i32⟩
  | 75 => ⟨S64x4096x64, .i32⟩
  | 76 => ⟨S64x4096x64, .i32⟩
  | 77 => ⟨S_, .i32⟩
  | 78 => ⟨S64x4096x64, .i32⟩
  | 79 => ⟨S64x4096x64, .i32⟩
  | 80 => ⟨S64x4096x64, .i32⟩
  | 81 => ⟨S64x4096x64, .i32⟩
  | 82 => ⟨S64x4096x64, .i32⟩
  | 83 => ⟨S64x4096x64, .i32⟩
  | 84 => ⟨S64x4096x64, .i32⟩
  | 85 => ⟨S64x4096x64, .i32⟩
  | 86 => ⟨S_, .i32⟩
  | 87 => ⟨S64x4096x64, .i32⟩
  | 88 => ⟨S64x4096x64, .i32⟩
  | 89 => ⟨S64x4096x64, .i32⟩
  | 90 => ⟨S_, .i32⟩
  | 91 => ⟨S64x4096x64, .i32⟩
  | 92 => ⟨S64x4096x64, .i32⟩
  | 93 => ⟨S_, .i32⟩
  | 94 => ⟨S64x4096x64, .i32⟩
  | 95 => ⟨S64x4096x64, .i32⟩
  | 96 => ⟨S64x4096x64, .i32⟩
  | 97 => ⟨S64x4096x64, .i32⟩
  | 98 => ⟨S64x4096x64, .i32⟩
  | 99 => ⟨S_, .i32⟩
  | 100 => ⟨S64x4096x64, .i32⟩
  | 101 => ⟨S64x4096x64, .i32⟩
  | 102 => ⟨S_, .i32⟩
  | 103 => ⟨S64x4096x64, .i32⟩
  | 104 => ⟨S64x4096x64, .i32⟩
  | 105 => ⟨S64x4096x64, .i32⟩
  | 106 => ⟨S64x4096x64, .i32⟩
  | 107 => ⟨S64x4096x64, .i32⟩
  | 108 => ⟨S_, .i32⟩
  | 109 => ⟨S64x4096x64, .i32⟩
  | 110 => ⟨S64x4096x64, .i32⟩
  | 111 => ⟨S_, .i32⟩
  | 112 => ⟨S64x4096x64, .i32⟩
  | 113 => ⟨S64x4096x64, .i32⟩
  | 114 => ⟨S64x4096x64, .i32⟩
  | 115 => ⟨S64x4096x64, .i32⟩
  | 116 => ⟨S64x4096x64, .i32⟩
  | 117 => ⟨S_, .i32⟩
  | 118 => ⟨S64x4096x64, .i32⟩
  | 119 => ⟨S64x4096x64, .i32⟩
  | 120 => ⟨S_, .i32⟩
  | 121 => ⟨S64x4096x64, .i32⟩
  | 122 => ⟨S64x4096x64, .i32⟩
  | 123 => ⟨S64x4096x64, .i32⟩
  | 124 => ⟨S64x4096x64, .i32⟩
  | 125 => ⟨S64x4096x64, .i32⟩
  | 126 => ⟨S64x4096x64, .i32⟩
  | 127 => ⟨S64x4096x64, .i32⟩
  | _ => ⟨S4096x64, .f32⟩

abbrev hbmTy0_1 (i : Nat) : BufTy := match i % 128 with
  | 0 => ⟨S64x4096x64, .i32⟩
  | 1 => ⟨S_, .i32⟩
  | 2 => ⟨S64x4096x64, .i32⟩
  | 3 => ⟨S64x4096x64, .i32⟩
  | 4 => ⟨S64x4096x64, .i32⟩
  | 5 => ⟨S_, .i32⟩
  | 6 => ⟨S64x4096x64, .i32⟩
  | 7 => ⟨S64x4096x64, .i32⟩
  | 8 => ⟨S_, .i32⟩
  | 9 => ⟨S64x4096x64, .i32⟩
  | 10 => ⟨S64x4096x64, .i32⟩
  | 11 => ⟨S64x4096x64, .i32⟩
  | 12 => ⟨S64x4096x64, .i32⟩
  | 13 => ⟨S64x4096x64, .i32⟩
  | 14 => ⟨S_, .i32⟩
  | 15 => ⟨S64x4096x64, .i32⟩
  | 16 => ⟨S64x4096x64, .i32⟩
  | 17 => ⟨S_, .i32⟩
  | 18 => ⟨S64x4096x64, .i32⟩
  | 19 => ⟨S64x4096x64, .i32⟩
  | 20 => ⟨S64x4096x64, .i32⟩
  | 21 => ⟨S64x4096x64, .i32⟩
  | 22 => ⟨S64x4096x64, .i32⟩
  | 23 => ⟨S_, .i32⟩
  | 24 => ⟨S64x4096x64, .i32⟩
  | 25 => ⟨S64x4096x64, .i32⟩
  | 26 => ⟨S_, .i32⟩
  | 27 => ⟨S64x4096x64, .i32⟩
  | 28 => ⟨S64x4096x64, .i32⟩
  | 29 => ⟨S64x4096x64, .i32⟩
  | 30 => ⟨S64x4096x64, .i32⟩
  | 31 => ⟨S64x4096x64, .i32⟩
  | 32 => ⟨S_, .i32⟩
  | 33 => ⟨S64x4096x64, .i32⟩
  | 34 => ⟨S64x4096x64, .i32⟩
  | 35 => ⟨S_, .i32⟩
  | 36 => ⟨S64x4096x64, .i32⟩
  | 37 => ⟨S64x4096x64, .i32⟩
  | 38 => ⟨S64x4096x64, .i32⟩
  | 39 => ⟨S64x4096x64, .i32⟩
  | 40 => ⟨S64x4096x64, .i32⟩
  | 41 => ⟨S64x4096x64, .i32⟩
  | 42 => ⟨S64x4096x64, .i32⟩
  | 43 => ⟨S64x4096x64, .i32⟩
  | 44 => ⟨S_, .i32⟩
  | 45 => ⟨S64x4096x64, .i32⟩
  | 46 => ⟨S64x4096x64, .i32⟩
  | 47 => ⟨S64x4096x64, .i32⟩
  | 48 => ⟨S_, .i32⟩
  | 49 => ⟨S64x4096x64, .i32⟩
  | 50 => ⟨S64x4096x64, .i32⟩
  | 51 => ⟨S_, .i32⟩
  | 52 => ⟨S64x4096x64, .i32⟩
  | 53 => ⟨S64x4096x64, .i32⟩
  | 54 => ⟨S64x4096x64, .i32⟩
  | 55 => ⟨S64x4096x64, .i32⟩
  | 56 => ⟨S64x4096x64, .i32⟩
  | 57 => ⟨S_, .i32⟩
  | 58 => ⟨S64x4096x64, .i32⟩
  | 59 => ⟨S64x4096x64, .i32⟩
  | 60 => ⟨S_, .i32⟩
  | 61 => ⟨S64x4096x64, .i32⟩
  | 62 => ⟨S64x4096x64, .i32⟩
  | 63 => ⟨S64x4096x64, .i32⟩
  | 64 => ⟨S64x4096x64, .i32⟩
  | 65 => ⟨S64x4096x64, .i32⟩
  | 66 => ⟨S_, .i32⟩
  | 67 => ⟨S64x4096x64, .i32⟩
  | 68 => ⟨S64x4096x64, .i32⟩
  | 69 => ⟨S_, .i32⟩
  | 70 => ⟨S64x4096x64, .i32⟩
  | 71 => ⟨S64x4096x64, .i32⟩
  | 72 => ⟨S64x4096x64, .i32⟩
  | 73 => ⟨S64x4096x64, .i32⟩
  | 74 => ⟨S64x4096x64, .i32⟩
  | 75 => ⟨S_, .i32⟩
  | 76 => ⟨S64x4096x64, .i32⟩
  | 77 => ⟨S64x4096x64, .i32⟩
  | 78 => ⟨S_, .i32⟩
  | 79 => ⟨S64x4096x64, .i32⟩
  | 80 => ⟨S64x4096x64, .i32⟩
  | 81 => ⟨S64x4096x64, .i32⟩
  | 82 => ⟨S64x4096x64, .i32⟩
  | 83 => ⟨S64x4096x64, .i32⟩
  | 84 => ⟨S64x4096x64, .i32⟩
  | 85 => ⟨S64x4096x64, .i32⟩
  | 86 => ⟨S64x4096x64, .i32⟩
  | 87 => ⟨S_, .i32⟩
  | 88 => ⟨S64x4096x64, .i32⟩
  | 89 => ⟨S64x4096x64, .i32⟩
  | 90 => ⟨S64x4096x64, .i32⟩
  | 91 => ⟨S_, .i32⟩
  | 92 => ⟨S64x4096x64, .i32⟩
  | 93 => ⟨S64x4096x64, .i32⟩
  | 94 => ⟨S_, .i32⟩
  | 95 => ⟨S64x4096x64, .i32⟩
  | 96 => ⟨S64x4096x64, .i32⟩
  | 97 => ⟨S64x4096x64, .i32⟩
  | 98 => ⟨S64x4096x64, .i32⟩
  | 99 => ⟨S64x4096x64, .i32⟩
  | 100 => ⟨S_, .i32⟩
  | 101 => ⟨S64x4096x64, .i32⟩
  | 102 => ⟨S64x4096x64, .i32⟩
  | 103 => ⟨S_, .i32⟩
  | 104 => ⟨S64x4096x64, .i32⟩
  | 105 => ⟨S64x4096x64, .i32⟩
  | 106 => ⟨S64x4096x64, .i32⟩
  | 107 => ⟨S64x4096x64, .i32⟩
  | 108 => ⟨S64x4096x64, .i32⟩
  | 109 => ⟨S_, .i32⟩
  | 110 => ⟨S64x4096x64, .i32⟩
  | 111 => ⟨S64x4096x64, .i32⟩
  | 112 => ⟨S_, .i32⟩
  | 113 => ⟨S64x4096x64, .i32⟩
  | 114 => ⟨S64x4096x64, .i32⟩
  | 115 => ⟨S64x4096x64, .i32⟩
  | 116 => ⟨S64x4096x64, .i32⟩
  | 117 => ⟨S64x4096x64, .i32⟩
  | 118 => ⟨S_, .i32⟩
  | 119 => ⟨S64x4096x64, .i32⟩
  | 120 => ⟨S64x4096x64, .i32⟩
  | 121 => ⟨S_, .i32⟩
  | 122 => ⟨S64x4096x64, .i32⟩
  | 123 => ⟨S64x4096x64, .i32⟩
  | 124 => ⟨S64x4096x64, .i32⟩
  | 125 => ⟨S64x4096x64, .i32⟩
  | 126 => ⟨S64x4096x64, .i32⟩
  | 127 => ⟨S64x4096x64, .i32⟩
  | _ => ⟨S4096x64, .f32⟩

abbrev hbmTy0_2 (i : Nat) : BufTy := match i % 128 with
  | 0 => ⟨S64x4096x64, .i32⟩
  | 1 => ⟨S64x4096x64, .i32⟩
  | 2 => ⟨S_, .i32⟩
  | 3 => ⟨S64x4096x64, .i32⟩
  | 4 => ⟨S64x4096x64, .i32⟩
  | 5 => ⟨S64x4096x64, .i32⟩
  | 6 => ⟨S_, .i32⟩
  | 7 => ⟨S64x4096x64, .i32⟩
  | 8 => ⟨S64x4096x64, .i32⟩
  | 9 => ⟨S_, .i32⟩
  | 10 => ⟨S64x4096x64, .i32⟩
  | 11 => ⟨S64x4096x64, .i32⟩
  | 12 => ⟨S64x4096x64, .f32⟩
  | 13 => ⟨S_, .f32⟩
  | 14 => ⟨S64x4096x64, .f32⟩
  | 15 => ⟨S64x4096x64, .f32⟩
  | 16 => ⟨S1x1x1, .f32⟩
  | 17 => ⟨S64x4096x64, .f32⟩
  | 18 => ⟨S64x4096x64, .f32⟩
  | 19 => ⟨S64x4096x64, .f32⟩
  | 20 => ⟨S64x4096x64, .f32⟩
  | 21 => ⟨S64x4096x64, .f32⟩
  | 22 => ⟨S64x4096x64, .f32⟩
  | 23 => ⟨S64x4096x64, .f32⟩
  | 24 => ⟨S64x4096x64, .f32⟩
  | 25 => ⟨S64x4096x64, .f32⟩
  | 26 => ⟨S64x4096x64, .f32⟩
  | 27 => ⟨S_, .f32⟩
  | 28 => ⟨S64x4096x64, .f32⟩
  | 29 => ⟨S64x4096x64, .f32⟩
  | 30 => ⟨S64x1792x64, .f32⟩
  | 31 => ⟨S64x64x1792, .f32⟩
  | 32 => ⟨S64x1792x64, .f32⟩
  | 33 => ⟨S64x64x1792, .f32⟩
  | 34 => ⟨S64x512x64, .f32⟩
  | 35 => ⟨S64x32x16x64, .f32⟩
  | 36 => ⟨S32x64x64x16, .f32⟩
  | 37 => ⟨S512x64, .f32⟩
  | 38 => ⟨S32x16x64, .f32⟩
  | 39 => ⟨S32x64x16, .f32⟩
  | 40 => ⟨S32x64x16, .f32⟩
  | 41 => ⟨S3584x64, .f32⟩
  | 42 => ⟨S64x3584, .f32⟩
  | 43 => ⟨S64x1792, .f32⟩
  | 44 => ⟨S64x1792, .f32⟩
  | 45 => ⟨S64x1792, .f32⟩
  | 46 => ⟨S64x1792, .f32⟩
  | 47 => ⟨S1792x64, .f32⟩
  | 48 => ⟨S1792x64, .f32⟩
  | 49 => ⟨S32x16x64, .f32⟩
  | 50 => ⟨S512x64, .f32⟩
  | 51 => ⟨S4096x64, .f32⟩
  | _ => ⟨S4096x64, .f32⟩

abbrev hbmTy (i : Nat) : BufTy := match i / 128 with
  | 0 => hbmTy0_0 i
  | 1 => hbmTy0_1 i
  | 2 => hbmTy0_2 i
  | _ => ⟨S4096x64, .f32⟩

abbrev bufTy : (tb : Table) → Fin (nBuf tb) → BufTy
  | .hbm, ⟨i, _⟩ => hbmTy i
  | .local .tc .vmem, ⟨0, _⟩ => ⟨S64x128, .f32⟩
  | .local .tc .vmem, ⟨1, _⟩ => ⟨S64x128, .f32⟩
  | .local .tc .vmem, ⟨2, _⟩ => ⟨S64x64x128, .f32⟩
  | .local .tc .vmem, ⟨3, _⟩ => ⟨S64x64x128, .f32⟩
  | .local .tc .vmem, ⟨4, _⟩ => ⟨S64x128, .f32⟩
  | .local .tc .vmem, ⟨5, _⟩ => ⟨S64x128, .f32⟩
  | .local .tc .vmem, ⟨6, _⟩ => ⟨S64x128, .f32⟩
  | .local .tc .vmem, ⟨7, _⟩ => ⟨S64x128, .f32⟩
  | .local .tc .vmem, ⟨8, _⟩ => ⟨S64x64x128, .f32⟩
  | .local .tc .vmem, ⟨9, _⟩ => ⟨S64x64x128, .f32⟩
  | .local .tc .vmem, ⟨10, _⟩ => ⟨S64x128, .f32⟩
  | .local .tc .vmem, ⟨11, _⟩ => ⟨S64x128, .f32⟩
  | .local .scVector .vmem, ⟨0, _⟩ => ⟨S64x16, .f32⟩
  | .local .scVector .vmem, ⟨1, _⟩ => ⟨S64x16, .f32⟩
  | .local .scVector .vmem, ⟨2, _⟩ => ⟨S64x16, .f32⟩
  | .local .scVector .vmem, ⟨3, _⟩ => ⟨S64x16, .f32⟩
  | _, _ => ⟨S4096x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_cst_0 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_c : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_call0_c_0 : Ref sig .tc := ⟨.hbm, 26, rfl⟩
abbrev main_call0_call0_v12 : Ref sig .tc := ⟨.hbm, 27, rfl⟩
abbrev main_call0_call0_v13 : Ref sig .tc := ⟨.hbm, 28, rfl⟩
abbrev main_call0_call0_c_1 : Ref sig .tc := ⟨.hbm, 29, rfl⟩
abbrev main_call0_call0_v14 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_call0_v17 : Ref sig .tc := ⟨.hbm, 33, rfl⟩
abbrev main_call0_call0_c_2 : Ref sig .tc := ⟨.hbm, 34, rfl⟩
abbrev main_call0_call0_v18 : Ref sig .tc := ⟨.hbm, 35, rfl⟩
abbrev main_call0_call0_v19 : Ref sig .tc := ⟨.hbm, 36, rfl⟩
abbrev main_call0_call0_v20 : Ref sig .tc := ⟨.hbm, 37, rfl⟩
abbrev main_call0_call0_v21 : Ref sig .tc := ⟨.hbm, 38, rfl⟩
abbrev main_call0_call0_call0_v0 : Ref sig .tc := ⟨.hbm, 39, rfl⟩
abbrev main_call0_call0_call0_c : Ref sig .tc := ⟨.hbm, 40, rfl⟩
abbrev main_call0_call0_call0_v1 : Ref sig .tc := ⟨.hbm, 41, rfl⟩
abbrev main_call0_call0_call0_v2 : Ref sig .tc := ⟨.hbm, 42, rfl⟩
abbrev main_call0_call0_call0_v3 : Ref sig .tc := ⟨.hbm, 43, rfl⟩
abbrev main_call0_call0_call0_v4 : Ref sig .tc := ⟨.hbm, 44, rfl⟩
abbrev main_call0_call0_call0_v5 : Ref sig .tc := ⟨.hbm, 45, rfl⟩
abbrev main_call0_call0_call0_v6 : Ref sig .tc := ⟨.hbm, 46, rfl⟩
abbrev main_call0_call0_call0_c_0 : Ref sig .tc := ⟨.hbm, 47, rfl⟩
abbrev main_call0_call0_call0_v7 : Ref sig .tc := ⟨.hbm, 48, rfl⟩
abbrev main_call0_call0_call0_v8 : Ref sig .tc := ⟨.hbm, 49, rfl⟩
abbrev main_call0_call0_call0_c_1 : Ref sig .tc := ⟨.hbm, 50, rfl⟩
abbrev main_call0_call0_call0_v9 : Ref sig .tc := ⟨.hbm, 51, rfl⟩
abbrev main_call0_call0_call0_v10 : Ref sig .tc := ⟨.hbm, 52, rfl⟩
abbrev main_call0_call0_call0_v11 : Ref sig .tc := ⟨.hbm, 53, rfl⟩
abbrev main_call0_call0_call0_v12 : Ref sig .tc := ⟨.hbm, 54, rfl⟩
abbrev main_call0_call0_call0_v13 : Ref sig .tc := ⟨.hbm, 55, rfl⟩
abbrev main_call0_call0_call0_c_2 : Ref sig .tc := ⟨.hbm, 56, rfl⟩
abbrev main_call0_call0_call0_v14 : Ref sig .tc := ⟨.hbm, 57, rfl⟩
abbrev main_call0_call0_call0_v15 : Ref sig .tc := ⟨.hbm, 58, rfl⟩
abbrev main_call0_call0_call0_c_3 : Ref sig .tc := ⟨.hbm, 59, rfl⟩
abbrev main_call0_call0_call0_v16 : Ref sig .tc := ⟨.hbm, 60, rfl⟩
abbrev main_call0_call0_call0_v17 : Ref sig .tc := ⟨.hbm, 61, rfl⟩
abbrev main_call0_call0_call0_v18 : Ref sig .tc := ⟨.hbm, 62, rfl⟩
abbrev main_call0_call0_call0_v19 : Ref sig .tc := ⟨.hbm, 63, rfl⟩
abbrev main_call0_call0_call0_v20 : Ref sig .tc := ⟨.hbm, 64, rfl⟩
abbrev main_call0_call0_call0_c_4 : Ref sig .tc := ⟨.hbm, 65, rfl⟩
abbrev main_call0_call0_call0_v21 : Ref sig .tc := ⟨.hbm, 66, rfl⟩
abbrev main_call0_call0_call0_v22 : Ref sig .tc := ⟨.hbm, 67, rfl⟩
abbrev main_call0_call0_call0_c_5 : Ref sig .tc := ⟨.hbm, 68, rfl⟩
abbrev main_call0_call0_call0_v23 : Ref sig .tc := ⟨.hbm, 69, rfl⟩
abbrev main_call0_call0_call0_v24 : Ref sig .tc := ⟨.hbm, 70, rfl⟩
abbrev main_call0_call0_call0_v25 : Ref sig .tc := ⟨.hbm, 71, rfl⟩
abbrev main_call0_call0_call0_v26 : Ref sig .tc := ⟨.hbm, 72, rfl⟩
abbrev main_call0_call0_call0_v27 : Ref sig .tc := ⟨.hbm, 73, rfl⟩
abbrev main_call0_call0_call0_c_6 : Ref sig .tc := ⟨.hbm, 74, rfl⟩
abbrev main_call0_call0_call0_v28 : Ref sig .tc := ⟨.hbm, 75, rfl⟩
abbrev main_call0_call0_call0_v29 : Ref sig .tc := ⟨.hbm, 76, rfl⟩
abbrev main_call0_call0_call0_c_7 : Ref sig .tc := ⟨.hbm, 77, rfl⟩
abbrev main_call0_call0_call0_v30 : Ref sig .tc := ⟨.hbm, 78, rfl⟩
abbrev main_call0_call0_call0_v31 : Ref sig .tc := ⟨.hbm, 79, rfl⟩
abbrev main_call0_call0_call0_v32 : Ref sig .tc := ⟨.hbm, 80, rfl⟩
abbrev main_call0_call0_call0_v33 : Ref sig .tc := ⟨.hbm, 81, rfl⟩
abbrev main_call0_call0_call0_v34 : Ref sig .tc := ⟨.hbm, 82, rfl⟩
abbrev main_call0_call0_call0_v35 : Ref sig .tc := ⟨.hbm, 83, rfl⟩
abbrev main_call0_call0_call0_v36 : Ref sig .tc := ⟨.hbm, 84, rfl⟩
abbrev main_call0_call0_call0_v37 : Ref sig .tc := ⟨.hbm, 85, rfl⟩
abbrev main_call0_call0_call0_c_8 : Ref sig .tc := ⟨.hbm, 86, rfl⟩
abbrev main_call0_call0_call0_v38 : Ref sig .tc := ⟨.hbm, 87, rfl⟩
abbrev main_call0_call0_call0_v39 : Ref sig .tc := ⟨.hbm, 88, rfl⟩
abbrev main_call0_call0_call0_v40 : Ref sig .tc := ⟨.hbm, 89, rfl⟩
abbrev main_call0_call0_call0_c_9 : Ref sig .tc := ⟨.hbm, 90, rfl⟩
abbrev main_call0_call0_call0_v41 : Ref sig .tc := ⟨.hbm, 91, rfl⟩
abbrev main_call0_call0_call0_v42 : Ref sig .tc := ⟨.hbm, 92, rfl⟩
abbrev main_call0_call0_call0_c_10 : Ref sig .tc := ⟨.hbm, 93, rfl⟩
abbrev main_call0_call0_call0_v43 : Ref sig .tc := ⟨.hbm, 94, rfl⟩
abbrev main_call0_call0_call0_v44 : Ref sig .tc := ⟨.hbm, 95, rfl⟩
abbrev main_call0_call0_call0_v45 : Ref sig .tc := ⟨.hbm, 96, rfl⟩
abbrev main_call0_call0_call0_v46 : Ref sig .tc := ⟨.hbm, 97, rfl⟩
abbrev main_call0_call0_call0_v47 : Ref sig .tc := ⟨.hbm, 98, rfl⟩
abbrev main_call0_call0_call0_c_11 : Ref sig .tc := ⟨.hbm, 99, rfl⟩
abbrev main_call0_call0_call0_v48 : Ref sig .tc := ⟨.hbm, 100, rfl⟩
abbrev main_call0_call0_call0_v49 : Ref sig .tc := ⟨.hbm, 101, rfl⟩
abbrev main_call0_call0_call0_c_12 : Ref sig .tc := ⟨.hbm, 102, rfl⟩
abbrev main_call0_call0_call0_v50 : Ref sig .tc := ⟨.hbm, 103, rfl⟩
abbrev main_call0_call0_call0_v51 : Ref sig .tc := ⟨.hbm, 104, rfl⟩
abbrev main_call0_call0_call0_v52 : Ref sig .tc := ⟨.hbm, 105, rfl⟩
abbrev main_call0_call0_call0_v53 : Ref sig .tc := ⟨.hbm, 106, rfl⟩
abbrev main_call0_call0_call0_v54 : Ref sig .tc := ⟨.hbm, 107, rfl⟩
abbrev main_call0_call0_call0_c_13 : Ref sig .tc := ⟨.hbm, 108, rfl⟩
abbrev main_call0_call0_call0_v55 : Ref sig .tc := ⟨.hbm, 109, rfl⟩
abbrev main_call0_call0_call0_v56 : Ref sig .tc := ⟨.hbm, 110, rfl⟩
abbrev main_call0_call0_call0_c_14 : Ref sig .tc := ⟨.hbm, 111, rfl⟩
abbrev main_call0_call0_call0_v57 : Ref sig .tc := ⟨.hbm, 112, rfl⟩
abbrev main_call0_call0_call0_v58 : Ref sig .tc := ⟨.hbm, 113, rfl⟩
abbrev main_call0_call0_call0_v59 : Ref sig .tc := ⟨.hbm, 114, rfl⟩
abbrev main_call0_call0_call0_v60 : Ref sig .tc := ⟨.hbm, 115, rfl⟩
abbrev main_call0_call0_call0_v61 : Ref sig .tc := ⟨.hbm, 116, rfl⟩
abbrev main_call0_call0_call0_c_15 : Ref sig .tc := ⟨.hbm, 117, rfl⟩
abbrev main_call0_call0_call0_v62 : Ref sig .tc := ⟨.hbm, 118, rfl⟩
abbrev main_call0_call0_call0_v63 : Ref sig .tc := ⟨.hbm, 119, rfl⟩
abbrev main_call0_call0_call0_c_16 : Ref sig .tc := ⟨.hbm, 120, rfl⟩
abbrev main_call0_call0_call0_v64 : Ref sig .tc := ⟨.hbm, 121, rfl⟩
abbrev main_call0_call0_call0_v65 : Ref sig .tc := ⟨.hbm, 122, rfl⟩
abbrev main_call0_call0_call0_v66 : Ref sig .tc := ⟨.hbm, 123, rfl⟩
abbrev main_call0_call0_call0_v67 : Ref sig .tc := ⟨.hbm, 124, rfl⟩
abbrev main_call0_call0_call0_v68 : Ref sig .tc := ⟨.hbm, 125, rfl⟩
abbrev main_call0_call0_call0_v69 : Ref sig .tc := ⟨.hbm, 126, rfl⟩
abbrev main_call0_call0_call0_v70 : Ref sig .tc := ⟨.hbm, 127, rfl⟩
abbrev main_call0_call0_call0_v71 : Ref sig .tc := ⟨.hbm, 128, rfl⟩
abbrev main_call0_call0_call0_c_17 : Ref sig .tc := ⟨.hbm, 129, rfl⟩
abbrev main_call0_call0_call0_v72 : Ref sig .tc := ⟨.hbm, 130, rfl⟩
abbrev main_call0_call0_call0_v73 : Ref sig .tc := ⟨.hbm, 131, rfl⟩
abbrev main_call0_call0_call0_v74 : Ref sig .tc := ⟨.hbm, 132, rfl⟩
abbrev main_call0_call0_call0_c_18 : Ref sig .tc := ⟨.hbm, 133, rfl⟩
abbrev main_call0_call0_call0_v75 : Ref sig .tc := ⟨.hbm, 134, rfl⟩
abbrev main_call0_call0_call0_v76 : Ref sig .tc := ⟨.hbm, 135, rfl⟩
abbrev main_call0_call0_call0_c_19 : Ref sig .tc := ⟨.hbm, 136, rfl⟩
abbrev main_call0_call0_call0_v77 : Ref sig .tc := ⟨.hbm, 137, rfl⟩
abbrev main_call0_call0_call0_v78 : Ref sig .tc := ⟨.hbm, 138, rfl⟩
abbrev main_call0_call0_call0_v79 : Ref sig .tc := ⟨.hbm, 139, rfl⟩
abbrev main_call0_call0_call0_v80 : Ref sig .tc := ⟨.hbm, 140, rfl⟩
abbrev main_call0_call0_call0_v81 : Ref sig .tc := ⟨.hbm, 141, rfl⟩
abbrev main_call0_call0_call0_c_20 : Ref sig .tc := ⟨.hbm, 142, rfl⟩
abbrev main_call0_call0_call0_v82 : Ref sig .tc := ⟨.hbm, 143, rfl⟩
abbrev main_call0_call0_call0_v83 : Ref sig .tc := ⟨.hbm, 144, rfl⟩
abbrev main_call0_call0_call0_c_21 : Ref sig .tc := ⟨.hbm, 145, rfl⟩
abbrev main_call0_call0_call0_v84 : Ref sig .tc := ⟨.hbm, 146, rfl⟩
abbrev main_call0_call0_call0_v85 : Ref sig .tc := ⟨.hbm, 147, rfl⟩
abbrev main_call0_call0_call0_v86 : Ref sig .tc := ⟨.hbm, 148, rfl⟩
abbrev main_call0_call0_call0_v87 : Ref sig .tc := ⟨.hbm, 149, rfl⟩
abbrev main_call0_call0_call0_v88 : Ref sig .tc := ⟨.hbm, 150, rfl⟩
abbrev main_call0_call0_call0_c_22 : Ref sig .tc := ⟨.hbm, 151, rfl⟩
abbrev main_call0_call0_call0_v89 : Ref sig .tc := ⟨.hbm, 152, rfl⟩
abbrev main_call0_call0_call0_v90 : Ref sig .tc := ⟨.hbm, 153, rfl⟩
abbrev main_call0_call0_call0_c_23 : Ref sig .tc := ⟨.hbm, 154, rfl⟩
abbrev main_call0_call0_call0_v91 : Ref sig .tc := ⟨.hbm, 155, rfl⟩
abbrev main_call0_call0_call0_v92 : Ref sig .tc := ⟨.hbm, 156, rfl⟩
abbrev main_call0_call0_call0_v93 : Ref sig .tc := ⟨.hbm, 157, rfl⟩
abbrev main_call0_call0_call0_v94 : Ref sig .tc := ⟨.hbm, 158, rfl⟩
abbrev main_call0_call0_call0_v95 : Ref sig .tc := ⟨.hbm, 159, rfl⟩
abbrev main_call0_call0_call0_c_24 : Ref sig .tc := ⟨.hbm, 160, rfl⟩
abbrev main_call0_call0_call0_v96 : Ref sig .tc := ⟨.hbm, 161, rfl⟩
abbrev main_call0_call0_call0_v97 : Ref sig .tc := ⟨.hbm, 162, rfl⟩
abbrev main_call0_call0_call0_c_25 : Ref sig .tc := ⟨.hbm, 163, rfl⟩
abbrev main_call0_call0_call0_v98 : Ref sig .tc := ⟨.hbm, 164, rfl⟩
abbrev main_call0_call0_call0_v99 : Ref sig .tc := ⟨.hbm, 165, rfl⟩
abbrev main_call0_call0_call0_v100 : Ref sig .tc := ⟨.hbm, 166, rfl⟩
abbrev main_call0_call0_call0_v101 : Ref sig .tc := ⟨.hbm, 167, rfl⟩
abbrev main_call0_call0_call0_v102 : Ref sig .tc := ⟨.hbm, 168, rfl⟩
abbrev main_call0_call0_call0_v103 : Ref sig .tc := ⟨.hbm, 169, rfl⟩
abbrev main_call0_call0_call0_v104 : Ref sig .tc := ⟨.hbm, 170, rfl⟩
abbrev main_call0_call0_call0_v105 : Ref sig .tc := ⟨.hbm, 171, rfl⟩
abbrev main_call0_call0_call0_c_26 : Ref sig .tc := ⟨.hbm, 172, rfl⟩
abbrev main_call0_call0_call0_v106 : Ref sig .tc := ⟨.hbm, 173, rfl⟩
abbrev main_call0_call0_call0_v107 : Ref sig .tc := ⟨.hbm, 174, rfl⟩
abbrev main_call0_call0_call0_v108 : Ref sig .tc := ⟨.hbm, 175, rfl⟩
abbrev main_call0_call0_call0_c_27 : Ref sig .tc := ⟨.hbm, 176, rfl⟩
abbrev main_call0_call0_call0_v109 : Ref sig .tc := ⟨.hbm, 177, rfl⟩
abbrev main_call0_call0_call0_v110 : Ref sig .tc := ⟨.hbm, 178, rfl⟩
abbrev main_call0_call0_call0_c_28 : Ref sig .tc := ⟨.hbm, 179, rfl⟩
abbrev main_call0_call0_call0_v111 : Ref sig .tc := ⟨.hbm, 180, rfl⟩
abbrev main_call0_call0_call0_v112 : Ref sig .tc := ⟨.hbm, 181, rfl⟩
abbrev main_call0_call0_call0_v113 : Ref sig .tc := ⟨.hbm, 182, rfl⟩
abbrev main_call0_call0_call0_v114 : Ref sig .tc := ⟨.hbm, 183, rfl⟩
abbrev main_call0_call0_call0_v115 : Ref sig .tc := ⟨.hbm, 184, rfl⟩
abbrev main_call0_call0_call0_c_29 : Ref sig .tc := ⟨.hbm, 185, rfl⟩
abbrev main_call0_call0_call0_v116 : Ref sig .tc := ⟨.hbm, 186, rfl⟩
abbrev main_call0_call0_call0_v117 : Ref sig .tc := ⟨.hbm, 187, rfl⟩
abbrev main_call0_call0_call0_c_30 : Ref sig .tc := ⟨.hbm, 188, rfl⟩
abbrev main_call0_call0_call0_v118 : Ref sig .tc := ⟨.hbm, 189, rfl⟩
abbrev main_call0_call0_call0_v119 : Ref sig .tc := ⟨.hbm, 190, rfl⟩
abbrev main_call0_call0_call0_v120 : Ref sig .tc := ⟨.hbm, 191, rfl⟩
abbrev main_call0_call0_call0_v121 : Ref sig .tc := ⟨.hbm, 192, rfl⟩
abbrev main_call0_call0_call0_v122 : Ref sig .tc := ⟨.hbm, 193, rfl⟩
abbrev main_call0_call0_call0_c_31 : Ref sig .tc := ⟨.hbm, 194, rfl⟩
abbrev main_call0_call0_call0_v123 : Ref sig .tc := ⟨.hbm, 195, rfl⟩
abbrev main_call0_call0_call0_v124 : Ref sig .tc := ⟨.hbm, 196, rfl⟩
abbrev main_call0_call0_call0_c_32 : Ref sig .tc := ⟨.hbm, 197, rfl⟩
abbrev main_call0_call0_call0_v125 : Ref sig .tc := ⟨.hbm, 198, rfl⟩
abbrev main_call0_call0_call0_v126 : Ref sig .tc := ⟨.hbm, 199, rfl⟩
abbrev main_call0_call0_call0_v127 : Ref sig .tc := ⟨.hbm, 200, rfl⟩
abbrev main_call0_call0_call0_v128 : Ref sig .tc := ⟨.hbm, 201, rfl⟩
abbrev main_call0_call0_call0_v129 : Ref sig .tc := ⟨.hbm, 202, rfl⟩
abbrev main_call0_call0_call0_c_33 : Ref sig .tc := ⟨.hbm, 203, rfl⟩
abbrev main_call0_call0_call0_v130 : Ref sig .tc := ⟨.hbm, 204, rfl⟩
abbrev main_call0_call0_call0_v131 : Ref sig .tc := ⟨.hbm, 205, rfl⟩
abbrev main_call0_call0_call0_c_34 : Ref sig .tc := ⟨.hbm, 206, rfl⟩
abbrev main_call0_call0_call0_v132 : Ref sig .tc := ⟨.hbm, 207, rfl⟩
abbrev main_call0_call0_call0_v133 : Ref sig .tc := ⟨.hbm, 208, rfl⟩
abbrev main_call0_call0_call0_v134 : Ref sig .tc := ⟨.hbm, 209, rfl⟩
abbrev main_call0_call0_call0_v135 : Ref sig .tc := ⟨.hbm, 210, rfl⟩
abbrev main_call0_call0_call0_v136 : Ref sig .tc := ⟨.hbm, 211, rfl⟩
abbrev main_call0_call0_call0_v137 : Ref sig .tc := ⟨.hbm, 212, rfl⟩
abbrev main_call0_call0_call0_v138 : Ref sig .tc := ⟨.hbm, 213, rfl⟩
abbrev main_call0_call0_call0_v139 : Ref sig .tc := ⟨.hbm, 214, rfl⟩
abbrev main_call0_call0_call0_c_35 : Ref sig .tc := ⟨.hbm, 215, rfl⟩
abbrev main_call0_call0_call0_v140 : Ref sig .tc := ⟨.hbm, 216, rfl⟩
abbrev main_call0_call0_call0_v141 : Ref sig .tc := ⟨.hbm, 217, rfl⟩
abbrev main_call0_call0_call0_v142 : Ref sig .tc := ⟨.hbm, 218, rfl⟩
abbrev main_call0_call0_call0_c_36 : Ref sig .tc := ⟨.hbm, 219, rfl⟩
abbrev main_call0_call0_call0_v143 : Ref sig .tc := ⟨.hbm, 220, rfl⟩
abbrev main_call0_call0_call0_v144 : Ref sig .tc := ⟨.hbm, 221, rfl⟩
abbrev main_call0_call0_call0_c_37 : Ref sig .tc := ⟨.hbm, 222, rfl⟩
abbrev main_call0_call0_call0_v145 : Ref sig .tc := ⟨.hbm, 223, rfl⟩
abbrev main_call0_call0_call0_v146 : Ref sig .tc := ⟨.hbm, 224, rfl⟩
abbrev main_call0_call0_call0_v147 : Ref sig .tc := ⟨.hbm, 225, rfl⟩
abbrev main_call0_call0_call0_v148 : Ref sig .tc := ⟨.hbm, 226, rfl⟩
abbrev main_call0_call0_call0_v149 : Ref sig .tc := ⟨.hbm, 227, rfl⟩
abbrev main_call0_call0_call0_c_38 : Ref sig .tc := ⟨.hbm, 228, rfl⟩
abbrev main_call0_call0_call0_v150 : Ref sig .tc := ⟨.hbm, 229, rfl⟩
abbrev main_call0_call0_call0_v151 : Ref sig .tc := ⟨.hbm, 230, rfl⟩
abbrev main_call0_call0_call0_c_39 : Ref sig .tc := ⟨.hbm, 231, rfl⟩
abbrev main_call0_call0_call0_v152 : Ref sig .tc := ⟨.hbm, 232, rfl⟩
abbrev main_call0_call0_call0_v153 : Ref sig .tc := ⟨.hbm, 233, rfl⟩
abbrev main_call0_call0_call0_v154 : Ref sig .tc := ⟨.hbm, 234, rfl⟩
abbrev main_call0_call0_call0_v155 : Ref sig .tc := ⟨.hbm, 235, rfl⟩
abbrev main_call0_call0_call0_v156 : Ref sig .tc := ⟨.hbm, 236, rfl⟩
abbrev main_call0_call0_call0_c_40 : Ref sig .tc := ⟨.hbm, 237, rfl⟩
abbrev main_call0_call0_call0_v157 : Ref sig .tc := ⟨.hbm, 238, rfl⟩
abbrev main_call0_call0_call0_v158 : Ref sig .tc := ⟨.hbm, 239, rfl⟩
abbrev main_call0_call0_call0_c_41 : Ref sig .tc := ⟨.hbm, 240, rfl⟩
abbrev main_call0_call0_call0_v159 : Ref sig .tc := ⟨.hbm, 241, rfl⟩
abbrev main_call0_call0_call0_v160 : Ref sig .tc := ⟨.hbm, 242, rfl⟩
abbrev main_call0_call0_call0_v161 : Ref sig .tc := ⟨.hbm, 243, rfl⟩
abbrev main_call0_call0_call0_v162 : Ref sig .tc := ⟨.hbm, 244, rfl⟩
abbrev main_call0_call0_call0_v163 : Ref sig .tc := ⟨.hbm, 245, rfl⟩
abbrev main_call0_call0_call0_c_42 : Ref sig .tc := ⟨.hbm, 246, rfl⟩
abbrev main_call0_call0_call0_v164 : Ref sig .tc := ⟨.hbm, 247, rfl⟩
abbrev main_call0_call0_call0_v165 : Ref sig .tc := ⟨.hbm, 248, rfl⟩
abbrev main_call0_call0_call0_c_43 : Ref sig .tc := ⟨.hbm, 249, rfl⟩
abbrev main_call0_call0_call0_v166 : Ref sig .tc := ⟨.hbm, 250, rfl⟩
abbrev main_call0_call0_call0_v167 : Ref sig .tc := ⟨.hbm, 251, rfl⟩
abbrev main_call0_call0_call0_v168 : Ref sig .tc := ⟨.hbm, 252, rfl⟩
abbrev main_call0_call0_call0_v169 : Ref sig .tc := ⟨.hbm, 253, rfl⟩
abbrev main_call0_call0_call0_v170 : Ref sig .tc := ⟨.hbm, 254, rfl⟩
abbrev main_call0_call0_v22_0 : Ref sig .tc := ⟨.hbm, 255, rfl⟩
abbrev main_call0_call0_call0_v172 : Ref sig .tc := ⟨.hbm, 256, rfl⟩
abbrev main_call0_call0_call0_v173 : Ref sig .tc := ⟨.hbm, 257, rfl⟩
abbrev main_call0_call0_call0_c_44 : Ref sig .tc := ⟨.hbm, 258, rfl⟩
abbrev main_call0_call0_call0_v174 : Ref sig .tc := ⟨.hbm, 259, rfl⟩
abbrev main_call0_call0_v22_1 : Ref sig .tc := ⟨.hbm, 260, rfl⟩
abbrev main_call0_call0_v23 : Ref sig .tc := ⟨.hbm, 261, rfl⟩
abbrev main_call0_call0_c_3 : Ref sig .tc := ⟨.hbm, 262, rfl⟩
abbrev main_call0_call0_v24 : Ref sig .tc := ⟨.hbm, 263, rfl⟩
abbrev main_call0_call0_v25 : Ref sig .tc := ⟨.hbm, 264, rfl⟩
abbrev main_call0_call0_c_4 : Ref sig .tc := ⟨.hbm, 265, rfl⟩
abbrev main_call0_call0_v26 : Ref sig .tc := ⟨.hbm, 266, rfl⟩
abbrev main_call0_call0_v27 : Ref sig .tc := ⟨.hbm, 267, rfl⟩
abbrev main_call0_call0_v28 : Ref sig .tc := ⟨.hbm, 268, rfl⟩
abbrev main_call0_call0_cst : Ref sig .tc := ⟨.hbm, 269, rfl⟩
abbrev main_call0_call0_v29 : Ref sig .tc := ⟨.hbm, 270, rfl⟩
abbrev main_call0_call0_v30 : Ref sig .tc := ⟨.hbm, 271, rfl⟩
abbrev main_call0_call0_v31 : Ref sig .tc := ⟨.hbm, 272, rfl⟩
abbrev main_call0_call0_v32 : Ref sig .tc := ⟨.hbm, 273, rfl⟩
abbrev main_call0_call0_v33 : Ref sig .tc := ⟨.hbm, 274, rfl⟩
abbrev main_call0_call0_v34 : Ref sig .tc := ⟨.hbm, 275, rfl⟩
abbrev main_call0_call0_v35 : Ref sig .tc := ⟨.hbm, 276, rfl⟩
abbrev main_call0_call0_v36 : Ref sig .tc := ⟨.hbm, 277, rfl⟩
abbrev main_call0_v0 : Ref sig .tc := ⟨.hbm, 278, rfl⟩
abbrev main_call0_v1 : Ref sig .tc := ⟨.hbm, 279, rfl⟩
abbrev main_call0_v2 : Ref sig .tc := ⟨.hbm, 280, rfl⟩
abbrev main_call0_v3 : Ref sig .tc := ⟨.hbm, 281, rfl⟩
abbrev main_v7 : Ref sig .tc := ⟨.hbm, 282, rfl⟩
abbrev main_cst : Ref sig .tc := ⟨.hbm, 283, rfl⟩
abbrev main_v8 : Ref sig .tc := ⟨.hbm, 284, rfl⟩
abbrev main_v9 : Ref sig .tc := ⟨.hbm, 285, rfl⟩
abbrev main_v10 : Ref sig .tc := ⟨.hbm, 286, rfl⟩
abbrev main_v11 : Ref sig .tc := ⟨.hbm, 287, rfl⟩
abbrev main_v12 : Ref sig .tc := ⟨.hbm, 288, rfl⟩
abbrev main_v13 : Ref sig .tc := ⟨.hbm, 289, rfl⟩
abbrev main_v14 : Ref sig .tc := ⟨.hbm, 290, rfl⟩
abbrev main_v15 : Ref sig .tc := ⟨.hbm, 291, rfl⟩
abbrev main_v16 : Ref sig .tc := ⟨.hbm, 292, rfl⟩
abbrev main_v17 : Ref sig .tc := ⟨.hbm, 293, rfl⟩
abbrev main_v18 : Ref sig .tc := ⟨.hbm, 294, rfl⟩
abbrev main_v19 : Ref sig .tc := ⟨.hbm, 295, rfl⟩
abbrev main_v20 : Ref sig .tc := ⟨.hbm, 296, rfl⟩
abbrev main_v21 : Ref sig .tc := ⟨.hbm, 297, rfl⟩
abbrev main_v22 : Ref sig .tc := ⟨.hbm, 298, rfl⟩
abbrev main_v23 : Ref sig .tc := ⟨.hbm, 299, rfl⟩
abbrev main_v24 : Ref sig .tc := ⟨.hbm, 300, rfl⟩
abbrev main_v25 : Ref sig .tc := ⟨.hbm, 301, rfl⟩
abbrev main_v26 : Ref sig .tc := ⟨.hbm, 302, rfl⟩
abbrev main_v27 : Ref sig .tc := ⟨.hbm, 303, rfl⟩
abbrev main_v28 : Ref sig .tc := ⟨.hbm, 304, rfl⟩
abbrev main_v29 : Ref sig .tc := ⟨.hbm, 305, rfl⟩
abbrev main_v30 : Ref sig .tc := ⟨.hbm, 306, rfl⟩
abbrev main_v31 : Ref sig .tc := ⟨.hbm, 307, rfl⟩
abbrev main_v19_scv : Ref sig .scVector := ⟨.hbm, 295, rfl⟩
abbrev main_v16_scv : Ref sig .scVector := ⟨.hbm, 292, rfl⟩
abbrev main_v20_scv : Ref sig .scVector := ⟨.hbm, 296, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_12_r0 : BitVec 32 := 0#32
  let c0_i32_13_r0 : BitVec 32 := 0#32
  ![v1.toNat, 0, 0]
@[reducible] def k0_t1_loop : Scf.Loop 32 :=
  let c0_i32_0 : BitVec 32 := 0#32
  let c64_i32 : BitVec 32 := 64#32
  let v2 : BitVec 32 := Scalar.addi c0_i32_0 c64_i32
  let c1_i32 : BitVec 32 := 1#32
  ⟨c0_i32_0, v2, c1_i32⟩
def k0_off2 (k0_t1 : Fin k0_t1_loop.trips) : Fin 2 → Nat :=
  let c0_i32_0 : BitVec 32 := 0#32
  let c1_i32 : BitVec 32 := 1#32
  let arg9 : BitVec 32 := Scf.iv c0_i32_0 c1_i32 k0_t1
  let v6 : Index := Scalar.indexCast arg9
  let c0 : Index := 0#32
  ![v6.toNat, 0]
@[reducible] def k0_t2_loop : Scf.Loop 32 :=
  let c0_i32_3 : BitVec 32 := 0#32
  let c64_i32_4 : BitVec 32 := 64#32
  let v3 : BitVec 32 := Scalar.addi c0_i32_3 c64_i32_4
  let c1_i32_5 : BitVec 32 := 1#32
  ⟨c0_i32_3, v3, c1_i32_5⟩
def k0_off3 (i : grid0.Coords) (k0_t2 : Fin k0_t2_loop.trips) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_3 : BitVec 32 := 0#32
  let c1_i32_5 : BitVec 32 := 1#32
  let arg9 : BitVec 32 := Scf.iv c0_i32_3 c1_i32_5 k0_t2
  let c0_i32_339_r1 : BitVec 32 := 0#32
  let c0_i32_340_r1 : BitVec 32 := 0#32
  ![v1.toNat, arg9.toNat, 0, 0]
@[reducible] def k0_t3_loop : Scf.Loop 32 :=
  let c0_i32_335 : BitVec 32 := 0#32
  let c64_i32_336 : BitVec 32 := 64#32
  let v709 : BitVec 32 := Scalar.addi c0_i32_335 c64_i32_336
  let c1_i32_337 : BitVec 32 := 1#32
  ⟨c0_i32_335, v709, c1_i32_337⟩
def k0_off4 (k0_t3 : Fin k0_t3_loop.trips) : Fin 2 → Nat :=
  let c0_i32_335 : BitVec 32 := 0#32
  let c1_i32_337 : BitVec 32 := 1#32
  let arg10 : BitVec 32 := Scf.iv c0_i32_335 c1_i32_337 k0_t3
  let v710 : Index := Scalar.indexCast arg10
  let c0_339 : Index := 0#32
  ![v710.toNat, 0]
@[reducible] def k0_t4_loop : Scf.Loop 32 :=
  let c0_i32_8 : BitVec 32 := 0#32
  let c64_i32_9 : BitVec 32 := 64#32
  let v4 : BitVec 32 := Scalar.addi c0_i32_8 c64_i32_9
  let c1_i32_10 : BitVec 32 := 1#32
  ⟨c0_i32_8, v4, c1_i32_10⟩
def k0_off5 (k0_t4 : Fin k0_t4_loop.trips) : Fin 2 → Nat :=
  let c0_i32_8 : BitVec 32 := 0#32
  let c1_i32_10 : BitVec 32 := 1#32
  let arg9 : BitVec 32 := Scf.iv c0_i32_8 c1_i32_10 k0_t4
  let v5 : Index := Scalar.indexCast arg9
  let c0 : Index := 0#32
  ![v5.toNat, 0]
abbrev grid1 : Pipeline.Grid := ⟨1, ![14], ![false]⟩

@[reducible] def k1_t1_loop : Scf.Loop 32 :=
  let c0_i32 : BitVec 32 := 0#32
  let c64_i32 : BitVec 32 := 64#32
  let v3 : BitVec 32 := Scalar.addi c0_i32 c64_i32
  let c1_i32 : BitVec 32 := 1#32
  ⟨c0_i32, v3, c1_i32⟩
def k1_off1 (k1_t1 : Fin k1_t1_loop.trips) : Fin 3 → Nat :=
  let c0_i32 : BitVec 32 := 0#32
  let c1_i32 : BitVec 32 := 1#32
  let arg4 : BitVec 32 := Scf.iv c0_i32 c1_i32 k1_t1
  let v12 : Index := Scalar.indexCast arg4
  let c0_7 : Index := 0#32
  let c0_8 : Index := 0#32
  ![v12.toNat, 0, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![14], ![false]⟩

@[reducible] def k2_t1_loop : Scf.Loop 32 :=
  let c0_i32 : BitVec 32 := 0#32
  let c64_i32 : BitVec 32 := 64#32
  let v3 : BitVec 32 := Scalar.addi c0_i32 c64_i32
  let c1_i32 : BitVec 32 := 1#32
  ⟨c0_i32, v3, c1_i32⟩
def k2_off1 (k2_t1 : Fin k2_t1_loop.trips) : Fin 3 → Nat :=
  let c0_i32 : BitVec 32 := 0#32
  let c1_i32 : BitVec 32 := 1#32
  let arg4 : BitVec 32 := Scf.iv c0_i32 c1_i32 k2_t1
  let v12 : Index := Scalar.indexCast arg4
  let c0_7 : Index := 0#32
  let c0_8 : Index := 0#32
  ![v12.toNat, 0, 0]
def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S64x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x64x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x64 : Shape := ⟨2, ![4096, 64]⟩
abbrev S64 : Shape := ⟨1, ![64]⟩
abbrev S_ : Shape := ⟨0, ![]⟩
abbrev S64x1 : Shape := ⟨2, ![64, 1]⟩
abbrev S1 : Shape := ⟨1, ![1]⟩
abbrev S2 : Shape := ⟨1, ![2]⟩
abbrev S1x1x1 : Shape := ⟨3, ![1, 1, 1]⟩
abbrev S64x4096x64 : Shape := ⟨3, ![64, 4096, 64]⟩
abbrev S1x4096x64 : Shape := ⟨3, ![1, 4096, 64]⟩

abbrev nBuf : Space → Nat
  | .hbm => 331
  | .vmem => 0
  | .smem => 0
  | _ => 0

abbrev hbmTy0_0 (i : Nat) : BufTy := match i % 128 with
  | 0 => ⟨S4096x64, .f32⟩
  | 1 => ⟨S64, .i32⟩
  | 2 => ⟨S_, .i32⟩
  | 3 => ⟨S64, .i32⟩
  | 4 => ⟨S64, .i1⟩
  | 5 => ⟨S_, .i32⟩
  | 6 => ⟨S64, .i32⟩
  | 7 => ⟨S64, .i32⟩
  | 8 => ⟨S64, .i32⟩
  | 9 => ⟨S64x1, .i32⟩
  | 10 => ⟨S4096x64, .f32⟩
  | 11 => ⟨S_, .i32⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S1, .i32⟩
  | 20 => ⟨S2, .i32⟩
  | 21 => ⟨S_, .f32⟩
  | 22 => ⟨S_, .f32⟩
  | 23 => ⟨S_, .f32⟩
  | 24 => ⟨S1x1x1, .f32⟩
  | 25 => ⟨S1x1x1, .f32⟩
  | 26 => ⟨S1, .i32⟩
  | 27 => ⟨S_, .i32⟩
  | 28 => ⟨S1, .i32⟩
  | 29 => ⟨S_, .i32⟩
  | 30 => ⟨S64x4096x64, .i64⟩
  | 31 => ⟨S64x4096x64, .i64⟩
  | 32 => ⟨S64x4096x64, .i64⟩
  | 33 => ⟨S_, .i64⟩
  | 34 => ⟨S64x4096x64, .i64⟩
  | 35 => ⟨S64x4096x64, .i64⟩
  | 36 => ⟨S_, .i64⟩
  | 37 => ⟨S64x4096x64, .i64⟩
  | 38 => ⟨S64x4096x64, .i64⟩
  | 39 => ⟨S_, .i64⟩
  | 40 => ⟨S64x4096x64, .i64⟩
  | 41 => ⟨S64x4096x64, .i64⟩
  | 42 => ⟨S64x4096x64, .i64⟩
  | 43 => ⟨S64x4096x64, .i64⟩
  | 44 => ⟨S_, .i64⟩
  | 45 => ⟨S64x4096x64, .i64⟩
  | 46 => ⟨S64x4096x64, .i64⟩
  | 47 => ⟨S64x4096x64, .i32⟩
  | 48 => ⟨S64x4096x64, .i32⟩
  | 49 => ⟨S_, .i32⟩
  | 50 => ⟨S_, .i32⟩
  | 51 => ⟨S_, .i32⟩
  | 52 => ⟨S64x4096x64, .i32⟩
  | 53 => ⟨S64x4096x64, .i32⟩
  | 54 => ⟨S64x4096x64, .i32⟩
  | 55 => ⟨S64x4096x64, .i32⟩
  | 56 => ⟨S64x4096x64, .i32⟩
  | 57 => ⟨S_, .i32⟩
  | 58 => ⟨S64x4096x64, .i32⟩
  | 59 => ⟨S64x4096x64, .i32⟩
  | 60 => ⟨S_, .i32⟩
  | 61 => ⟨S64x4096x64, .i32⟩
  | 62 => ⟨S64x4096x64, .i32⟩
  | 63 => ⟨S64x4096x64, .i32⟩
  | 64 => ⟨S64x4096x64, .i32⟩
  | 65 => ⟨S64x4096x64, .i32⟩
  | 66 => ⟨S_, .i32⟩
  | 67 => ⟨S64x4096x64, .i32⟩
  | 68 => ⟨S64x4096x64, .i32⟩
  | 69 => ⟨S_, .i32⟩
  | 70 => ⟨S64x4096x64, .i32⟩
  | 71 => ⟨S64x4096x64, .i32⟩
  | 72 => ⟨S64x4096x64, .i32⟩
  | 73 => ⟨S64x4096x64, .i32⟩
  | 74 => ⟨S64x4096x64, .i32⟩
  | 75 => ⟨S_, .i32⟩
  | 76 => ⟨S64x4096x64, .i32⟩
  | 77 => ⟨S64x4096x64, .i32⟩
  | 78 => ⟨S_, .i32⟩
  | 79 => ⟨S64x4096x64, .i32⟩
  | 80 => ⟨S64x4096x64, .i32⟩
  | 81 => ⟨S64x4096x64, .i32⟩
  | 82 => ⟨S64x4096x64, .i32⟩
  | 83 => ⟨S64x4096x64, .i32⟩
  | 84 => ⟨S_, .i32⟩
  | 85 => ⟨S64x4096x64, .i32⟩
  | 86 => ⟨S64x4096x64, .i32⟩
  | 87 => ⟨S_, .i32⟩
  | 88 => ⟨S64x4096x64, .i32⟩
  | 89 => ⟨S64x4096x64, .i32⟩
  | 90 => ⟨S64x4096x64, .i32⟩
  | 91 => ⟨S64x4096x64, .i32⟩
  | 92 => ⟨S64x4096x64, .i32⟩
  | 93 => ⟨S64x4096x64, .i32⟩
  | 94 => ⟨S64x4096x64, .i32⟩
  | 95 => ⟨S64x4096x64, .i32⟩
  | 96 => ⟨S_, .i32⟩
  | 97 => ⟨S64x4096x64, .i32⟩
  | 98 => ⟨S64x4096x64, .i32⟩
  | 99 => ⟨S64x4096x64, .i32⟩
  | 100 => ⟨S_, .i32⟩
  | 101 => ⟨S64x4096x64, .i32⟩
  | 102 => ⟨S64x4096x64, .i32⟩
  | 103 => ⟨S_, .i32⟩
  | 104 => ⟨S64x4096x64, .i32⟩
  | 105 => ⟨S64x4096x64, .i32⟩
  | 106 => ⟨S64x4096x64, .i32⟩
  | 107 => ⟨S64x4096x64, .i32⟩
  | 108 => ⟨S64x4096x64, .i32⟩
  | 109 => ⟨S_, .i32⟩
  | 110 => ⟨S64x4096x64, .i32⟩
  | 111 => ⟨S64x4096x64, .i32⟩
  | 112 => ⟨S_, .i32⟩
  | 113 => ⟨S64x4096x64, .i32⟩
  | 114 => ⟨S64x4096x64, .i32⟩
  | 115 => ⟨S64x4096x64, .i32⟩
  | 116 => ⟨S64x4096x64, .i32⟩
  | 117 => ⟨S64x4096x64, .i32⟩
  | 118 => ⟨S_, .i32⟩
  | 119 => ⟨S64x4096x64, .i32⟩
  | 120 => ⟨S64x4096x64, .i32⟩
  | 121 => ⟨S_, .i32⟩
  | 122 => ⟨S64x4096x64, .i32⟩
  | 123 => ⟨S64x4096x64, .i32⟩
  | 124 => ⟨S64x4096x64, .i32⟩
  | 125 => ⟨S64x4096x64, .i32⟩
  | 126 => ⟨S64x4096x64, .i32⟩
  | 127 => ⟨S_, .i32⟩
  | _ => ⟨S4096x64, .f32⟩

abbrev hbmTy0_1 (i : Nat) : BufTy := match i % 128 with
  | 0 => ⟨S64x4096x64, .i32⟩
  | 1 => ⟨S64x4096x64, .i32⟩
  | 2 => ⟨S_, .i32⟩
  | 3 => ⟨S64x4096x64, .i32⟩
  | 4 => ⟨S64x4096x64, .i32⟩
  | 5 => ⟨S64x4096x64, .i32⟩
  | 6 => ⟨S64x4096x64, .i32⟩
  | 7 => ⟨S64x4096x64, .i32⟩
  | 8 => ⟨S64x4096x64, .i32⟩
  | 9 => ⟨S64x4096x64, .i32⟩
  | 10 => ⟨S64x4096x64, .i32⟩
  | 11 => ⟨S_, .i32⟩
  | 12 => ⟨S64x4096x64, .i32⟩
  | 13 => ⟨S64x4096x64, .i32⟩
  | 14 => ⟨S64x4096x64, .i32⟩
  | 15 => ⟨S_, .i32⟩
  | 16 => ⟨S64x4096x64, .i32⟩
  | 17 => ⟨S64x4096x64, .i32⟩
  | 18 => ⟨S_, .i32⟩
  | 19 => ⟨S64x4096x64, .i32⟩
  | 20 => ⟨S64x4096x64, .i32⟩
  | 21 => ⟨S64x4096x64, .i32⟩
  | 22 => ⟨S64x4096x64, .i32⟩
  | 23 => ⟨S64x4096x64, .i32⟩
  | 24 => ⟨S_, .i32⟩
  | 25 => ⟨S64x4096x64, .i32⟩
  | 26 => ⟨S64x4096x64, .i32⟩
  | 27 => ⟨S_, .i32⟩
  | 28 => ⟨S64x4096x64, .i32⟩
  | 29 => ⟨S64x4096x64, .i32⟩
  | 30 => ⟨S64x4096x64, .i32⟩
  | 31 => ⟨S64x4096x64, .i32⟩
  | 32 => ⟨S64x4096x64, .i32⟩
  | 33 => ⟨S_, .i32⟩
  | 34 => ⟨S64x4096x64, .i32⟩
  | 35 => ⟨S64x4096x64, .i32⟩
  | 36 => ⟨S_, .i32⟩
  | 37 => ⟨S64x4096x64, .i32⟩
  | 38 => ⟨S64x4096x64, .i32⟩
  | 39 => ⟨S64x4096x64, .i32⟩
  | 40 => ⟨S64x4096x64, .i32⟩
  | 41 => ⟨S64x4096x64, .i32⟩
  | 42 => ⟨S_, .i32⟩
  | 43 => ⟨S64x4096x64, .i32⟩
  | 44 => ⟨S64x4096x64, .i32⟩
  | 45 => ⟨S_, .i32⟩
  | 46 => ⟨S64x4096x64, .i32⟩
  | 47 => ⟨S64x4096x64, .i32⟩
  | 48 => ⟨S64x4096x64, .i32⟩
  | 49 => ⟨S64x4096x64, .i32⟩
  | 50 => ⟨S64x4096x64, .i32⟩
  | 51 => ⟨S64x4096x64, .i32⟩
  | 52 => ⟨S64x4096x64, .i32⟩
  | 53 => ⟨S64x4096x64, .i32⟩
  | 54 => ⟨S_, .i32⟩
  | 55 => ⟨S64x4096x64, .i32⟩
  | 56 => ⟨S64x4096x64, .i32⟩
  | 57 => ⟨S64x4096x64, .i32⟩
  | 58 => ⟨S_, .i32⟩
  | 59 => ⟨S64x4096x64, .i32⟩
  | 60 => ⟨S64x4096x64, .i32⟩
  | 61 => ⟨S_, .i32⟩
  | 62 => ⟨S64x4096x64, .i32⟩
  | 63 => ⟨S64x4096x64, .i32⟩
  | 64 => ⟨S64x4096x64, .i32⟩
  | 65 => ⟨S64x4096x64, .i32⟩
  | 66 => ⟨S64x4096x64, .i32⟩
  | 67 => ⟨S_, .i32⟩
  | 68 => ⟨S64x4096x64, .i32⟩
  | 69 => ⟨S64x4096x64, .i32⟩
  | 70 => ⟨S_, .i32⟩
  | 71 => ⟨S64x4096x64, .i32⟩
  | 72 => ⟨S64x4096x64, .i32⟩
  | 73 => ⟨S64x4096x64, .i32⟩
  | 74 => ⟨S64x4096x64, .i32⟩
  | 75 => ⟨S64x4096x64, .i32⟩
  | 76 => ⟨S_, .i32⟩
  | 77 => ⟨S64x4096x64, .i32⟩
  | 78 => ⟨S64x4096x64, .i32⟩
  | 79 => ⟨S_, .i32⟩
  | 80 => ⟨S64x4096x64, .i32⟩
  | 81 => ⟨S64x4096x64, .i32⟩
  | 82 => ⟨S64x4096x64, .i32⟩
  | 83 => ⟨S64x4096x64, .i32⟩
  | 84 => ⟨S64x4096x64, .i32⟩
  | 85 => ⟨S_, .i32⟩
  | 86 => ⟨S64x4096x64, .i32⟩
  | 87 => ⟨S64x4096x64, .i32⟩
  | 88 => ⟨S_, .i32⟩
  | 89 => ⟨S64x4096x64, .i32⟩
  | 90 => ⟨S64x4096x64, .i32⟩
  | 91 => ⟨S64x4096x64, .i32⟩
  | 92 => ⟨S64x4096x64, .i32⟩
  | 93 => ⟨S64x4096x64, .i32⟩
  | 94 => ⟨S64x4096x64, .i32⟩
  | 95 => ⟨S64x4096x64, .i32⟩
  | 96 => ⟨S64x4096x64, .i32⟩
  | 97 => ⟨S_, .i32⟩
  | 98 => ⟨S64x4096x64, .i32⟩
  | 99 => ⟨S64x4096x64, .i32⟩
  | 100 => ⟨S64x4096x64, .i32⟩
  | 101 => ⟨S_, .i32⟩
  | 102 => ⟨S64x4096x64, .i32⟩
  | 103 => ⟨S64x4096x64, .i32⟩
  | 104 => ⟨S_, .i32⟩
  | 105 => ⟨S64x4096x64, .i32⟩
  | 106 => ⟨S64x4096x64, .i32⟩
  | 107 => ⟨S64x4096x64, .i32⟩
  | 108 => ⟨S64x4096x64, .i32⟩
  | 109 => ⟨S64x4096x64, .i32⟩
  | 110 => ⟨S_, .i32⟩
  | 111 => ⟨S64x4096x64, .i32⟩
  | 112 => ⟨S64x4096x64, .i32⟩
  | 113 => ⟨S_, .i32⟩
  | 114 => ⟨S64x4096x64, .i32⟩
  | 115 => ⟨S64x4096x64, .i32⟩
  | 116 => ⟨S64x4096x64, .i32⟩
  | 117 => ⟨S64x4096x64, .i32⟩
  | 118 => ⟨S64x4096x64, .i32⟩
  | 119 => ⟨S_, .i32⟩
  | 120 => ⟨S64x4096x64, .i32⟩
  | 121 => ⟨S64x4096x64, .i32⟩
  | 122 => ⟨S_, .i32⟩
  | 123 => ⟨S64x4096x64, .i32⟩
  | 124 => ⟨S64x4096x64, .i32⟩
  | 125 => ⟨S64x4096x64, .i32⟩
  | 126 => ⟨S64x4096x64, .i32⟩
  | 127 => ⟨S64x4096x64, .i32⟩
  | _ => ⟨S4096x64, .f32⟩

abbrev hbmTy0_2 (i : Nat) : BufTy := match i % 128 with
  | 0 => ⟨S_, .i32⟩
  | 1 => ⟨S64x4096x64, .i32⟩
  | 2 => ⟨S64x4096x64, .i32⟩
  | 3 => ⟨S_, .i32⟩
  | 4 => ⟨S64x4096x64, .i32⟩
  | 5 => ⟨S64x4096x64, .i32⟩
  | 6 => ⟨S64x4096x64, .i32⟩
  | 7 => ⟨S64x4096x64, .i32⟩
  | 8 => ⟨S64x4096x64, .i32⟩
  | 9 => ⟨S64x4096x64, .i32⟩
  | 10 => ⟨S64x4096x64, .i32⟩
  | 11 => ⟨S64x4096x64, .i32⟩
  | 12 => ⟨S_, .i32⟩
  | 13 => ⟨S64x4096x64, .i32⟩
  | 14 => ⟨S64x4096x64, .i32⟩
  | 15 => ⟨S64x4096x64, .i32⟩
  | 16 => ⟨S_, .i32⟩
  | 17 => ⟨S64x4096x64, .i32⟩
  | 18 => ⟨S64x4096x64, .i32⟩
  | 19 => ⟨S_, .i32⟩
  | 20 => ⟨S64x4096x64, .i32⟩
  | 21 => ⟨S64x4096x64, .i32⟩
  | 22 => ⟨S64x4096x64, .f32⟩
  | 23 => ⟨S_, .f32⟩
  | 24 => ⟨S64x4096x64, .f32⟩
  | 25 => ⟨S64x4096x64, .f32⟩
  | 26 => ⟨S1x1x1, .f32⟩
  | 27 => ⟨S64x4096x64, .f32⟩
  | 28 => ⟨S64x4096x64, .f32⟩
  | 29 => ⟨S64x4096x64, .f32⟩
  | 30 => ⟨S64x4096x64, .f32⟩
  | 31 => ⟨S64x4096x64, .f32⟩
  | 32 => ⟨S64x4096x64, .f32⟩
  | 33 => ⟨S64x4096x64, .f32⟩
  | 34 => ⟨S64x4096x64, .f32⟩
  | 35 => ⟨S64x4096x64, .f32⟩
  | 36 => ⟨S64x4096x64, .f32⟩
  | 37 => ⟨S1x4096x64, .f32⟩
  | 38 => ⟨S_, .f32⟩
  | 39 => ⟨S64x4096x64, .f32⟩
  | 40 => ⟨S64x4096x64, .f32⟩
  | 41 => ⟨S64x4096x64, .f32⟩
  | 42 => ⟨S64x4096x64, .f32⟩
  | 43 => ⟨S64x4096x64, .i32⟩
  | 44 => ⟨S64x4096x64, .f32⟩
  | 45 => ⟨S64x4096x64, .i32⟩
  | 46 => ⟨S64x4096x64, .i32⟩
  | 47 => ⟨S64x4096x64, .i32⟩
  | 48 => ⟨S64x4096x64, .i32⟩
  | 49 => ⟨S64x4096x64, .f32⟩
  | 50 => ⟨S_, .f32⟩
  | 51 => ⟨S4096x64, .f32⟩
  | 52 => ⟨S_, .f32⟩
  | 53 => ⟨S4096x64, .f32⟩
  | 54 => ⟨S4096x64, .f32⟩
  | 55 => ⟨S_, .i32⟩
  | 56 => ⟨S64, .i32⟩
  | 57 => ⟨S64, .i1⟩
  | 58 => ⟨S_, .i32⟩
  | 59 => ⟨S64, .i32⟩
  | 60 => ⟨S64, .i32⟩
  | 61 => ⟨S64, .i32⟩
  | 62 => ⟨S64x1, .i32⟩
  | 63 => ⟨S4096x64, .f32⟩
  | 64 => ⟨S_, .f32⟩
  | 65 => ⟨S4096x64, .f32⟩
  | 66 => ⟨S4096x64, .f32⟩
  | 67 => ⟨S_, .f32⟩
  | 68 => ⟨S_, .f32⟩
  | 69 => ⟨S_, .f32⟩
  | 70 => ⟨S4096x64, .f32⟩
  | 71 => ⟨S4096x64, .f32⟩
  | 72 => ⟨S_, .f32⟩
  | 73 => ⟨S4096x64, .f32⟩
  | 74 => ⟨S4096x64, .f32⟩
  | _ => ⟨S4096x64, .f32⟩

abbrev hbmTy (i : Nat) : BufTy := match i / 128 with
  | 0 => hbmTy0_0 i
  | 1 => hbmTy0_1 i
  | 2 => hbmTy0_2 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_c_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_4 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_cst_0 : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_c : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_call0_c_0 : Ref sig .tc := ⟨.hbm, 36, rfl⟩
abbrev main_call0_call0_v12 : Ref sig .tc := ⟨.hbm, 37, rfl⟩
abbrev main_call0_call0_v13 : Ref sig .tc := ⟨.hbm, 38, rfl⟩
abbrev main_call0_call0_c_1 : Ref sig .tc := ⟨.hbm, 39, rfl⟩
abbrev main_call0_call0_v14 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_v17 : Ref sig .tc := ⟨.hbm, 43, rfl⟩
abbrev main_call0_call0_c_2 : Ref sig .tc := ⟨.hbm, 44, rfl⟩
abbrev main_call0_call0_v18 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_call0_call0_call0_v0 : Ref sig .tc := ⟨.hbm, 49, rfl⟩
abbrev main_call0_call0_call0_c : Ref sig .tc := ⟨.hbm, 50, rfl⟩
abbrev main_call0_call0_call0_v1 : Ref sig .tc := ⟨.hbm, 51, rfl⟩
abbrev main_call0_call0_call0_v2 : Ref sig .tc := ⟨.hbm, 52, rfl⟩
abbrev main_call0_call0_call0_v3 : Ref sig .tc := ⟨.hbm, 53, rfl⟩
abbrev main_call0_call0_call0_v4 : Ref sig .tc := ⟨.hbm, 54, rfl⟩
abbrev main_call0_call0_call0_v5 : Ref sig .tc := ⟨.hbm, 55, rfl⟩
abbrev main_call0_call0_call0_v6 : Ref sig .tc := ⟨.hbm, 56, rfl⟩
abbrev main_call0_call0_call0_c_0 : Ref sig .tc := ⟨.hbm, 57, rfl⟩
abbrev main_call0_call0_call0_v7 : Ref sig .tc := ⟨.hbm, 58, rfl⟩
abbrev main_call0_call0_call0_v8 : Ref sig .tc := ⟨.hbm, 59, rfl⟩
abbrev main_call0_call0_call0_c_1 : Ref sig .tc := ⟨.hbm, 60, rfl⟩
abbrev main_call0_call0_call0_v9 : Ref sig .tc := ⟨.hbm, 61, rfl⟩
abbrev main_call0_call0_call0_v10 : Ref sig .tc := ⟨.hbm, 62, rfl⟩
abbrev main_call0_call0_call0_v11 : Ref sig .tc := ⟨.hbm, 63, rfl⟩
abbrev main_call0_call0_call0_v12 : Ref sig .tc := ⟨.hbm, 64, rfl⟩
abbrev main_call0_call0_call0_v13 : Ref sig .tc := ⟨.hbm, 65, rfl⟩
abbrev main_call0_call0_call0_c_2 : Ref sig .tc := ⟨.hbm, 66, rfl⟩
abbrev main_call0_call0_call0_v14 : Ref sig .tc := ⟨.hbm, 67, rfl⟩
abbrev main_call0_call0_call0_v15 : Ref sig .tc := ⟨.hbm, 68, rfl⟩
abbrev main_call0_call0_call0_c_3 : Ref sig .tc := ⟨.hbm, 69, rfl⟩
abbrev main_call0_call0_call0_v16 : Ref sig .tc := ⟨.hbm, 70, rfl⟩
abbrev main_call0_call0_call0_v17 : Ref sig .tc := ⟨.hbm, 71, rfl⟩
abbrev main_call0_call0_call0_v18 : Ref sig .tc := ⟨.hbm, 72, rfl⟩
abbrev main_call0_call0_call0_v19 : Ref sig .tc := ⟨.hbm, 73, rfl⟩
abbrev main_call0_call0_call0_v20 : Ref sig .tc := ⟨.hbm, 74, rfl⟩
abbrev main_call0_call0_call0_c_4 : Ref sig .tc := ⟨.hbm, 75, rfl⟩
abbrev main_call0_call0_call0_v21 : Ref sig .tc := ⟨.hbm, 76, rfl⟩
abbrev main_call0_call0_call0_v22 : Ref sig .tc := ⟨.hbm, 77, rfl⟩
abbrev main_call0_call0_call0_c_5 : Ref sig .tc := ⟨.hbm, 78, rfl⟩
abbrev main_call0_call0_call0_v23 : Ref sig .tc := ⟨.hbm, 79, rfl⟩
abbrev main_call0_call0_call0_v24 : Ref sig .tc := ⟨.hbm, 80, rfl⟩
abbrev main_call0_call0_call0_v25 : Ref sig .tc := ⟨.hbm, 81, rfl⟩
abbrev main_call0_call0_call0_v26 : Ref sig .tc := ⟨.hbm, 82, rfl⟩
abbrev main_call0_call0_call0_v27 : Ref sig .tc := ⟨.hbm, 83, rfl⟩
abbrev main_call0_call0_call0_c_6 : Ref sig .tc := ⟨.hbm, 84, rfl⟩
abbrev main_call0_call0_call0_v28 : Ref sig .tc := ⟨.hbm, 85, rfl⟩
abbrev main_call0_call0_call0_v29 : Ref sig .tc := ⟨.hbm, 86, rfl⟩
abbrev main_call0_call0_call0_c_7 : Ref sig .tc := ⟨.hbm, 87, rfl⟩
abbrev main_call0_call0_call0_v30 : Ref sig .tc := ⟨.hbm, 88, rfl⟩
abbrev main_call0_call0_call0_v31 : Ref sig .tc := ⟨.hbm, 89, rfl⟩
abbrev main_call0_call0_call0_v32 : Ref sig .tc := ⟨.hbm, 90, rfl⟩
abbrev main_call0_call0_call0_v33 : Ref sig .tc := ⟨.hbm, 91, rfl⟩
abbrev main_call0_call0_call0_v34 : Ref sig .tc := ⟨.hbm, 92, rfl⟩
abbrev main_call0_call0_call0_v35 : Ref sig .tc := ⟨.hbm, 93, rfl⟩
abbrev main_call0_call0_call0_v36 : Ref sig .tc := ⟨.hbm, 94, rfl⟩
abbrev main_call0_call0_call0_v37 : Ref sig .tc := ⟨.hbm, 95, rfl⟩
abbrev main_call0_call0_call0_c_8 : Ref sig .tc := ⟨.hbm, 96, rfl⟩
abbrev main_call0_call0_call0_v38 : Ref sig .tc := ⟨.hbm, 97, rfl⟩
abbrev main_call0_call0_call0_v39 : Ref sig .tc := ⟨.hbm, 98, rfl⟩
abbrev main_call0_call0_call0_v40 : Ref sig .tc := ⟨.hbm, 99, rfl⟩
abbrev main_call0_call0_call0_c_9 : Ref sig .tc := ⟨.hbm, 100, rfl⟩
abbrev main_call0_call0_call0_v41 : Ref sig .tc := ⟨.hbm, 101, rfl⟩
abbrev main_call0_call0_call0_v42 : Ref sig .tc := ⟨.hbm, 102, rfl⟩
abbrev main_call0_call0_call0_c_10 : Ref sig .tc := ⟨.hbm, 103, rfl⟩
abbrev main_call0_call0_call0_v43 : Ref sig .tc := ⟨.hbm, 104, rfl⟩
abbrev main_call0_call0_call0_v44 : Ref sig .tc := ⟨.hbm, 105, rfl⟩
abbrev main_call0_call0_call0_v45 : Ref sig .tc := ⟨.hbm, 106, rfl⟩
abbrev main_call0_call0_call0_v46 : Ref sig .tc := ⟨.hbm, 107, rfl⟩
abbrev main_call0_call0_call0_v47 : Ref sig .tc := ⟨.hbm, 108, rfl⟩
abbrev main_call0_call0_call0_c_11 : Ref sig .tc := ⟨.hbm, 109, rfl⟩
abbrev main_call0_call0_call0_v48 : Ref sig .tc := ⟨.hbm, 110, rfl⟩
abbrev main_call0_call0_call0_v49 : Ref sig .tc := ⟨.hbm, 111, rfl⟩
abbrev main_call0_call0_call0_c_12 : Ref sig .tc := ⟨.hbm, 112, rfl⟩
abbrev main_call0_call0_call0_v50 : Ref sig .tc := ⟨.hbm, 113, rfl⟩
abbrev main_call0_call0_call0_v51 : Ref sig .tc := ⟨.hbm, 114, rfl⟩
abbrev main_call0_call0_call0_v52 : Ref sig .tc := ⟨.hbm, 115, rfl⟩
abbrev main_call0_call0_call0_v53 : Ref sig .tc := ⟨.hbm, 116, rfl⟩
abbrev main_call0_call0_call0_v54 : Ref sig .tc := ⟨.hbm, 117, rfl⟩
abbrev main_call0_call0_call0_c_13 : Ref sig .tc := ⟨.hbm, 118, rfl⟩
abbrev main_call0_call0_call0_v55 : Ref sig .tc := ⟨.hbm, 119, rfl⟩
abbrev main_call0_call0_call0_v56 : Ref sig .tc := ⟨.hbm, 120, rfl⟩
abbrev main_call0_call0_call0_c_14 : Ref sig .tc := ⟨.hbm, 121, rfl⟩
abbrev main_call0_call0_call0_v57 : Ref sig .tc := ⟨.hbm, 122, rfl⟩
abbrev main_call0_call0_call0_v58 : Ref sig .tc := ⟨.hbm, 123, rfl⟩
abbrev main_call0_call0_call0_v59 : Ref sig .tc := ⟨.hbm, 124, rfl⟩
abbrev main_call0_call0_call0_v60 : Ref sig .tc := ⟨.hbm, 125, rfl⟩
abbrev main_call0_call0_call0_v61 : Ref sig .tc := ⟨.hbm, 126, rfl⟩
abbrev main_call0_call0_call0_c_15 : Ref sig .tc := ⟨.hbm, 127, rfl⟩
abbrev main_call0_call0_call0_v62 : Ref sig .tc := ⟨.hbm, 128, rfl⟩
abbrev main_call0_call0_call0_v63 : Ref sig .tc := ⟨.hbm, 129, rfl⟩
abbrev main_call0_call0_call0_c_16 : Ref sig .tc := ⟨.hbm, 130, rfl⟩
abbrev main_call0_call0_call0_v64 : Ref sig .tc := ⟨.hbm, 131, rfl⟩
abbrev main_call0_call0_call0_v65 : Ref sig .tc := ⟨.hbm, 132, rfl⟩
abbrev main_call0_call0_call0_v66 : Ref sig .tc := ⟨.hbm, 133, rfl⟩
abbrev main_call0_call0_call0_v67 : Ref sig .tc := ⟨.hbm, 134, rfl⟩
abbrev main_call0_call0_call0_v68 : Ref sig .tc := ⟨.hbm, 135, rfl⟩
abbrev main_call0_call0_call0_v69 : Ref sig .tc := ⟨.hbm, 136, rfl⟩
abbrev main_call0_call0_call0_v70 : Ref sig .tc := ⟨.hbm, 137, rfl⟩
abbrev main_call0_call0_call0_v71 : Ref sig .tc := ⟨.hbm, 138, rfl⟩
abbrev main_call0_call0_call0_c_17 : Ref sig .tc := ⟨.hbm, 139, rfl⟩
abbrev main_call0_call0_call0_v72 : Ref sig .tc := ⟨.hbm, 140, rfl⟩
abbrev main_call0_call0_call0_v73 : Ref sig .tc := ⟨.hbm, 141, rfl⟩
abbrev main_call0_call0_call0_v74 : Ref sig .tc := ⟨.hbm, 142, rfl⟩
abbrev main_call0_call0_call0_c_18 : Ref sig .tc := ⟨.hbm, 143, rfl⟩
abbrev main_call0_call0_call0_v75 : Ref sig .tc := ⟨.hbm, 144, rfl⟩
abbrev main_call0_call0_call0_v76 : Ref sig .tc := ⟨.hbm, 145, rfl⟩
abbrev main_call0_call0_call0_c_19 : Ref sig .tc := ⟨.hbm, 146, rfl⟩
abbrev main_call0_call0_call0_v77 : Ref sig .tc := ⟨.hbm, 147, rfl⟩
abbrev main_call0_call0_call0_v78 : Ref sig .tc := ⟨.hbm, 148, rfl⟩
abbrev main_call0_call0_call0_v79 : Ref sig .tc := ⟨.hbm, 149, rfl⟩
abbrev main_call0_call0_call0_v80 : Ref sig .tc := ⟨.hbm, 150, rfl⟩
abbrev main_call0_call0_call0_v81 : Ref sig .tc := ⟨.hbm, 151, rfl⟩
abbrev main_call0_call0_call0_c_20 : Ref sig .tc := ⟨.hbm, 152, rfl⟩
abbrev main_call0_call0_call0_v82 : Ref sig .tc := ⟨.hbm, 153, rfl⟩
abbrev main_call0_call0_call0_v83 : Ref sig .tc := ⟨.hbm, 154, rfl⟩
abbrev main_call0_call0_call0_c_21 : Ref sig .tc := ⟨.hbm, 155, rfl⟩
abbrev main_call0_call0_call0_v84 : Ref sig .tc := ⟨.hbm, 156, rfl⟩
abbrev main_call0_call0_call0_v85 : Ref sig .tc := ⟨.hbm, 157, rfl⟩
abbrev main_call0_call0_call0_v86 : Ref sig .tc := ⟨.hbm, 158, rfl⟩
abbrev main_call0_call0_call0_v87 : Ref sig .tc := ⟨.hbm, 159, rfl⟩
abbrev main_call0_call0_call0_v88 : Ref sig .tc := ⟨.hbm, 160, rfl⟩
abbrev main_call0_call0_call0_c_22 : Ref sig .tc := ⟨.hbm, 161, rfl⟩
abbrev main_call0_call0_call0_v89 : Ref sig .tc := ⟨.hbm, 162, rfl⟩
abbrev main_call0_call0_call0_v90 : Ref sig .tc := ⟨.hbm, 163, rfl⟩
abbrev main_call0_call0_call0_c_23 : Ref sig .tc := ⟨.hbm, 164, rfl⟩
abbrev main_call0_call0_call0_v91 : Ref sig .tc := ⟨.hbm, 165, rfl⟩
abbrev main_call0_call0_call0_v92 : Ref sig .tc := ⟨.hbm, 166, rfl⟩
abbrev main_call0_call0_call0_v93 : Ref sig .tc := ⟨.hbm, 167, rfl⟩
abbrev main_call0_call0_call0_v94 : Ref sig .tc := ⟨.hbm, 168, rfl⟩
abbrev main_call0_call0_call0_v95 : Ref sig .tc := ⟨.hbm, 169, rfl⟩
abbrev main_call0_call0_call0_c_24 : Ref sig .tc := ⟨.hbm, 170, rfl⟩
abbrev main_call0_call0_call0_v96 : Ref sig .tc := ⟨.hbm, 171, rfl⟩
abbrev main_call0_call0_call0_v97 : Ref sig .tc := ⟨.hbm, 172, rfl⟩
abbrev main_call0_call0_call0_c_25 : Ref sig .tc := ⟨.hbm, 173, rfl⟩
abbrev main_call0_call0_call0_v98 : Ref sig .tc := ⟨.hbm, 174, rfl⟩
abbrev main_call0_call0_call0_v99 : Ref sig .tc := ⟨.hbm, 175, rfl⟩
abbrev main_call0_call0_call0_v100 : Ref sig .tc := ⟨.hbm, 176, rfl⟩
abbrev main_call0_call0_call0_v101 : Ref sig .tc := ⟨.hbm, 177, rfl⟩
abbrev main_call0_call0_call0_v102 : Ref sig .tc := ⟨.hbm, 178, rfl⟩
abbrev main_call0_call0_call0_v103 : Ref sig .tc := ⟨.hbm, 179, rfl⟩
abbrev main_call0_call0_call0_v104 : Ref sig .tc := ⟨.hbm, 180, rfl⟩
abbrev main_call0_call0_call0_v105 : Ref sig .tc := ⟨.hbm, 181, rfl⟩
abbrev main_call0_call0_call0_c_26 : Ref sig .tc := ⟨.hbm, 182, rfl⟩
abbrev main_call0_call0_call0_v106 : Ref sig .tc := ⟨.hbm, 183, rfl⟩
abbrev main_call0_call0_call0_v107 : Ref sig .tc := ⟨.hbm, 184, rfl⟩
abbrev main_call0_call0_call0_v108 : Ref sig .tc := ⟨.hbm, 185, rfl⟩
abbrev main_call0_call0_call0_c_27 : Ref sig .tc := ⟨.hbm, 186, rfl⟩
abbrev main_call0_call0_call0_v109 : Ref sig .tc := ⟨.hbm, 187, rfl⟩
abbrev main_call0_call0_call0_v110 : Ref sig .tc := ⟨.hbm, 188, rfl⟩
abbrev main_call0_call0_call0_c_28 : Ref sig .tc := ⟨.hbm, 189, rfl⟩
abbrev main_call0_call0_call0_v111 : Ref sig .tc := ⟨.hbm, 190, rfl⟩
abbrev main_call0_call0_call0_v112 : Ref sig .tc := ⟨.hbm, 191, rfl⟩
abbrev main_call0_call0_call0_v113 : Ref sig .tc := ⟨.hbm, 192, rfl⟩
abbrev main_call0_call0_call0_v114 : Ref sig .tc := ⟨.hbm, 193, rfl⟩
abbrev main_call0_call0_call0_v115 : Ref sig .tc := ⟨.hbm, 194, rfl⟩
abbrev main_call0_call0_call0_c_29 : Ref sig .tc := ⟨.hbm, 195, rfl⟩
abbrev main_call0_call0_call0_v116 : Ref sig .tc := ⟨.hbm, 196, rfl⟩
abbrev main_call0_call0_call0_v117 : Ref sig .tc := ⟨.hbm, 197, rfl⟩
abbrev main_call0_call0_call0_c_30 : Ref sig .tc := ⟨.hbm, 198, rfl⟩
abbrev main_call0_call0_call0_v118 : Ref sig .tc := ⟨.hbm, 199, rfl⟩
abbrev main_call0_call0_call0_v119 : Ref sig .tc := ⟨.hbm, 200, rfl⟩
abbrev main_call0_call0_call0_v120 : Ref sig .tc := ⟨.hbm, 201, rfl⟩
abbrev main_call0_call0_call0_v121 : Ref sig .tc := ⟨.hbm, 202, rfl⟩
abbrev main_call0_call0_call0_v122 : Ref sig .tc := ⟨.hbm, 203, rfl⟩
abbrev main_call0_call0_call0_c_31 : Ref sig .tc := ⟨.hbm, 204, rfl⟩
abbrev main_call0_call0_call0_v123 : Ref sig .tc := ⟨.hbm, 205, rfl⟩
abbrev main_call0_call0_call0_v124 : Ref sig .tc := ⟨.hbm, 206, rfl⟩
abbrev main_call0_call0_call0_c_32 : Ref sig .tc := ⟨.hbm, 207, rfl⟩
abbrev main_call0_call0_call0_v125 : Ref sig .tc := ⟨.hbm, 208, rfl⟩
abbrev main_call0_call0_call0_v126 : Ref sig .tc := ⟨.hbm, 209, rfl⟩
abbrev main_call0_call0_call0_v127 : Ref sig .tc := ⟨.hbm, 210, rfl⟩
abbrev main_call0_call0_call0_v128 : Ref sig .tc := ⟨.hbm, 211, rfl⟩
abbrev main_call0_call0_call0_v129 : Ref sig .tc := ⟨.hbm, 212, rfl⟩
abbrev main_call0_call0_call0_c_33 : Ref sig .tc := ⟨.hbm, 213, rfl⟩
abbrev main_call0_call0_call0_v130 : Ref sig .tc := ⟨.hbm, 214, rfl⟩
abbrev main_call0_call0_call0_v131 : Ref sig .tc := ⟨.hbm, 215, rfl⟩
abbrev main_call0_call0_call0_c_34 : Ref sig .tc := ⟨.hbm, 216, rfl⟩
abbrev main_call0_call0_call0_v132 : Ref sig .tc := ⟨.hbm, 217, rfl⟩
abbrev main_call0_call0_call0_v133 : Ref sig .tc := ⟨.hbm, 218, rfl⟩
abbrev main_call0_call0_call0_v134 : Ref sig .tc := ⟨.hbm, 219, rfl⟩
abbrev main_call0_call0_call0_v135 : Ref sig .tc := ⟨.hbm, 220, rfl⟩
abbrev main_call0_call0_call0_v136 : Ref sig .tc := ⟨.hbm, 221, rfl⟩
abbrev main_call0_call0_call0_v137 : Ref sig .tc := ⟨.hbm, 222, rfl⟩
abbrev main_call0_call0_call0_v138 : Ref sig .tc := ⟨.hbm, 223, rfl⟩
abbrev main_call0_call0_call0_v139 : Ref sig .tc := ⟨.hbm, 224, rfl⟩
abbrev main_call0_call0_call0_c_35 : Ref sig .tc := ⟨.hbm, 225, rfl⟩
abbrev main_call0_call0_call0_v140 : Ref sig .tc := ⟨.hbm, 226, rfl⟩
abbrev main_call0_call0_call0_v141 : Ref sig .tc := ⟨.hbm, 227, rfl⟩
abbrev main_call0_call0_call0_v142 : Ref sig .tc := ⟨.hbm, 228, rfl⟩
abbrev main_call0_call0_call0_c_36 : Ref sig .tc := ⟨.hbm, 229, rfl⟩
abbrev main_call0_call0_call0_v143 : Ref sig .tc := ⟨.hbm, 230, rfl⟩
abbrev main_call0_call0_call0_v144 : Ref sig .tc := ⟨.hbm, 231, rfl⟩
abbrev main_call0_call0_call0_c_37 : Ref sig .tc := ⟨.hbm, 232, rfl⟩
abbrev main_call0_call0_call0_v145 : Ref sig .tc := ⟨.hbm, 233, rfl⟩
abbrev main_call0_call0_call0_v146 : Ref sig .tc := ⟨.hbm, 234, rfl⟩
abbrev main_call0_call0_call0_v147 : Ref sig .tc := ⟨.hbm, 235, rfl⟩
abbrev main_call0_call0_call0_v148 : Ref sig .tc := ⟨.hbm, 236, rfl⟩
abbrev main_call0_call0_call0_v149 : Ref sig .tc := ⟨.hbm, 237, rfl⟩
abbrev main_call0_call0_call0_c_38 : Ref sig .tc := ⟨.hbm, 238, rfl⟩
abbrev main_call0_call0_call0_v150 : Ref sig .tc := ⟨.hbm, 239, rfl⟩
abbrev main_call0_call0_call0_v151 : Ref sig .tc := ⟨.hbm, 240, rfl⟩
abbrev main_call0_call0_call0_c_39 : Ref sig .tc := ⟨.hbm, 241, rfl⟩
abbrev main_call0_call0_call0_v152 : Ref sig .tc := ⟨.hbm, 242, rfl⟩
abbrev main_call0_call0_call0_v153 : Ref sig .tc := ⟨.hbm, 243, rfl⟩
abbrev main_call0_call0_call0_v154 : Ref sig .tc := ⟨.hbm, 244, rfl⟩
abbrev main_call0_call0_call0_v155 : Ref sig .tc := ⟨.hbm, 245, rfl⟩
abbrev main_call0_call0_call0_v156 : Ref sig .tc := ⟨.hbm, 246, rfl⟩
abbrev main_call0_call0_call0_c_40 : Ref sig .tc := ⟨.hbm, 247, rfl⟩
abbrev main_call0_call0_call0_v157 : Ref sig .tc := ⟨.hbm, 248, rfl⟩
abbrev main_call0_call0_call0_v158 : Ref sig .tc := ⟨.hbm, 249, rfl⟩
abbrev main_call0_call0_call0_c_41 : Ref sig .tc := ⟨.hbm, 250, rfl⟩
abbrev main_call0_call0_call0_v159 : Ref sig .tc := ⟨.hbm, 251, rfl⟩
abbrev main_call0_call0_call0_v160 : Ref sig .tc := ⟨.hbm, 252, rfl⟩
abbrev main_call0_call0_call0_v161 : Ref sig .tc := ⟨.hbm, 253, rfl⟩
abbrev main_call0_call0_call0_v162 : Ref sig .tc := ⟨.hbm, 254, rfl⟩
abbrev main_call0_call0_call0_v163 : Ref sig .tc := ⟨.hbm, 255, rfl⟩
abbrev main_call0_call0_call0_c_42 : Ref sig .tc := ⟨.hbm, 256, rfl⟩
abbrev main_call0_call0_call0_v164 : Ref sig .tc := ⟨.hbm, 257, rfl⟩
abbrev main_call0_call0_call0_v165 : Ref sig .tc := ⟨.hbm, 258, rfl⟩
abbrev main_call0_call0_call0_c_43 : Ref sig .tc := ⟨.hbm, 259, rfl⟩
abbrev main_call0_call0_call0_v166 : Ref sig .tc := ⟨.hbm, 260, rfl⟩
abbrev main_call0_call0_call0_v167 : Ref sig .tc := ⟨.hbm, 261, rfl⟩
abbrev main_call0_call0_call0_v168 : Ref sig .tc := ⟨.hbm, 262, rfl⟩
abbrev main_call0_call0_call0_v169 : Ref sig .tc := ⟨.hbm, 263, rfl⟩
abbrev main_call0_call0_call0_v170 : Ref sig .tc := ⟨.hbm, 264, rfl⟩
abbrev main_call0_call0_v22_0 : Ref sig .tc := ⟨.hbm, 265, rfl⟩
abbrev main_call0_call0_call0_v172 : Ref sig .tc := ⟨.hbm, 266, rfl⟩
abbrev main_call0_call0_call0_v173 : Ref sig .tc := ⟨.hbm, 267, rfl⟩
abbrev main_call0_call0_call0_c_44 : Ref sig .tc := ⟨.hbm, 268, rfl⟩
abbrev main_call0_call0_call0_v174 : Ref sig .tc := ⟨.hbm, 269, rfl⟩
abbrev main_call0_call0_v22_1 : Ref sig .tc := ⟨.hbm, 270, rfl⟩
abbrev main_call0_call0_v23 : Ref sig .tc := ⟨.hbm, 271, rfl⟩
abbrev main_call0_call0_c_3 : Ref sig .tc := ⟨.hbm, 272, rfl⟩
abbrev main_call0_call0_v24 : Ref sig .tc := ⟨.hbm, 273, rfl⟩
abbrev main_call0_call0_v25 : Ref sig .tc := ⟨.hbm, 274, rfl⟩
abbrev main_call0_call0_c_4 : Ref sig .tc := ⟨.hbm, 275, rfl⟩
abbrev main_call0_call0_v26 : Ref sig .tc := ⟨.hbm, 276, rfl⟩
abbrev main_call0_call0_v27 : Ref sig .tc := ⟨.hbm, 277, rfl⟩
abbrev main_call0_call0_v28 : Ref sig .tc := ⟨.hbm, 278, rfl⟩
abbrev main_call0_call0_cst : Ref sig .tc := ⟨.hbm, 279, rfl⟩
abbrev main_call0_call0_v29 : Ref sig .tc := ⟨.hbm, 280, rfl⟩
abbrev main_call0_call0_v30 : Ref sig .tc := ⟨.hbm, 281, rfl⟩
abbrev main_call0_call0_v31 : Ref sig .tc := ⟨.hbm, 282, rfl⟩
abbrev main_call0_call0_v32 : Ref sig .tc := ⟨.hbm, 283, rfl⟩
abbrev main_call0_call0_v33 : Ref sig .tc := ⟨.hbm, 284, rfl⟩
abbrev main_call0_call0_v34 : Ref sig .tc := ⟨.hbm, 285, rfl⟩
abbrev main_call0_call0_v35 : Ref sig .tc := ⟨.hbm, 286, rfl⟩
abbrev main_call0_call0_v36 : Ref sig .tc := ⟨.hbm, 287, rfl⟩
abbrev main_call0_v0 : Ref sig .tc := ⟨.hbm, 288, rfl⟩
abbrev main_call0_v1 : Ref sig .tc := ⟨.hbm, 289, rfl⟩
abbrev main_call0_v2 : Ref sig .tc := ⟨.hbm, 290, rfl⟩
abbrev main_call0_v3 : Ref sig .tc := ⟨.hbm, 291, rfl⟩
abbrev main_v14 : Ref sig .tc := ⟨.hbm, 292, rfl⟩
abbrev main_v15 : Ref sig .tc := ⟨.hbm, 293, rfl⟩
abbrev main_cst : Ref sig .tc := ⟨.hbm, 294, rfl⟩
abbrev main_v16 : Ref sig .tc := ⟨.hbm, 295, rfl⟩
abbrev main_v17 : Ref sig .tc := ⟨.hbm, 296, rfl⟩
abbrev main_v18 : Ref sig .tc := ⟨.hbm, 297, rfl⟩
abbrev main_v19 : Ref sig .tc := ⟨.hbm, 298, rfl⟩
abbrev main_call1_v0 : Ref sig .tc := ⟨.hbm, 299, rfl⟩
abbrev main_call1_v1_0 : Ref sig .tc := ⟨.hbm, 300, rfl⟩
abbrev main_v20 : Ref sig .tc := ⟨.hbm, 301, rfl⟩
abbrev main_call2_v0 : Ref sig .tc := ⟨.hbm, 302, rfl⟩
abbrev main_call2_v1_0 : Ref sig .tc := ⟨.hbm, 303, rfl⟩
abbrev main_v21 : Ref sig .tc := ⟨.hbm, 304, rfl⟩
abbrev main_v22 : Ref sig .tc := ⟨.hbm, 305, rfl⟩
abbrev main_cst_5 : Ref sig .tc := ⟨.hbm, 306, rfl⟩
abbrev main_v23 : Ref sig .tc := ⟨.hbm, 307, rfl⟩
abbrev main_cst_6 : Ref sig .tc := ⟨.hbm, 308, rfl⟩
abbrev main_v24 : Ref sig .tc := ⟨.hbm, 309, rfl⟩
abbrev main_v25 : Ref sig .tc := ⟨.hbm, 310, rfl⟩
abbrev main_c_7 : Ref sig .tc := ⟨.hbm, 311, rfl⟩
abbrev main_v26 : Ref sig .tc := ⟨.hbm, 312, rfl⟩
abbrev main_v27 : Ref sig .tc := ⟨.hbm, 313, rfl⟩
abbrev main_c_8 : Ref sig .tc := ⟨.hbm, 314, rfl⟩
abbrev main_v28 : Ref sig .tc := ⟨.hbm, 315, rfl⟩
abbrev main_v29 : Ref sig .tc := ⟨.hbm, 316, rfl⟩
abbrev main_v30 : Ref sig .tc := ⟨.hbm, 317, rfl⟩
abbrev main_v31 : Ref sig .tc := ⟨.hbm, 318, rfl⟩
abbrev main_v32 : Ref sig .tc := ⟨.hbm, 319, rfl⟩
abbrev main_cst_9 : Ref sig .tc := ⟨.hbm, 320, rfl⟩
abbrev main_v33 : Ref sig .tc := ⟨.hbm, 321, rfl⟩
abbrev main_v34 : Ref sig .tc := ⟨.hbm, 322, rfl⟩
abbrev main_cst_10 : Ref sig .tc := ⟨.hbm, 323, rfl⟩
abbrev main_cst_11 : Ref sig .tc := ⟨.hbm, 324, rfl⟩
abbrev main_call3_v0 : Ref sig .tc := ⟨.hbm, 325, rfl⟩
abbrev main_call3_v1 : Ref sig .tc := ⟨.hbm, 326, rfl⟩
abbrev main_call3_v2 : Ref sig .tc := ⟨.hbm, 327, rfl⟩
abbrev main_call3_v3 : Ref sig .tc := ⟨.hbm, 328, rfl⟩
abbrev main_call3_v4 : Ref sig .tc := ⟨.hbm, 329, rfl⟩
abbrev main_v35 : Ref sig .tc := ⟨.hbm, 330, rfl⟩

abbrev nD : Nat := 1
abbrev τ : Topo := Topo.v7x

variable {F : FTy → Type} [FloatOps F]
-- ==== Proof.Common.lean ====
/-
  What every module of the launch shares: the program as the SparseCore launch theorem takes it, the facts about its
  handshake cells, the resource algebra (the handshakes' rounds, the two pipelines' rounds, the transfers' counters) and
  the buffers the SparseCore call works on.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Ranks

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The call labels with the two pipelines' entries. -/
abbrev ΛP : Labels := Pipeline.Sig Λ₀ (Fin 2) fun p => (pcfgs (F := F) p).Adm
/-- The SparseCore call's layout. -/
abbrev K : SparseCore.Cfg τ sig (ΛP (F := F)) 1 := sc (F := F)
theorem nSub_zero : (K (F := F)).nSub 0 = 16 := rfl
/-- The body table under the SparseCore call: the kernels and the two pipelines. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake's semaphores are distinct and unscoped, and no buffer a sequencer owns is shared with its tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipelines' rounds, and the whole algebra. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' component. -/
def EH : Emb UH 𝕄 := (Emb.inl : Emb UH UU).trans (uEmb (nD := nD) (sig := sig) (Ix := HIx 1) (Val := Elt F) (Name := ℕ) (U := UU) (Lvl := ℕ)).toEmb
instance : (EH (F := F)).LandsIn (upEmb : UEmb _ 𝕄) := by unfold EH; infer_instance
/-- The pipelines' component. -/
def EP : Emb UP 𝕄 :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance : (EP (F := F)).LandsIn (upEmb : UEmb _ 𝕄) := by unfold EP; infer_instance

/-- The copied-in values, the noise, the result: the SparseCore call's operands on device `d`. -/
abbrev xLoc (d : Dev nD) : Loc nD τ sig := (SparseCore.T d).loc main_v19
abbrev nLoc (d : Dev nD) : Loc nD τ sig := (SparseCore.T d).loc main_v16
abbrev oLoc (d : Dev nD) : Loc nD τ sig := (SparseCore.T d).loc main_v20

end Cert.Proof.Ranks

end

end
-- ==== Proof.TileRows.lean ====
/-
  Rows of a tile's scratch: a scratch of 64 rows of 16 lanes held whole at a matrix, what loading a row reads and what
  storing a row leaves.
-/
module

public import proofs.«01_k».proof.Proof.Common
public import Idealize.ShloMosaic.Lib.Writes
public import Idealize.ShloMosaic.Lib.ValueIdx
public import Idealize.ShloMosaic.Lib.Pipeline.Value

@[expose] public section

noncomputable section

namespace Cert.Proof.Ranks

open Cert.KernelIdeal Cert.KernelIdeal.Gen

open Idealize.ShloMosaic Idealize.ShloMosaic.ValueIdx
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A matrix of 64 rows of 16 lanes. -/
abbrev Mat (F : FTy → Type) : Type := S64x16.Idx → Elt F .f32

/-- Row `r` of a matrix, as a load reads it. -/
def rowOf (X : Mat F) (r : Fin 64) : Vec F S1x16 .f32 := fun y => X (ix2 r (y 1))

/-- The matrix with row `r` replaced by `w`. -/
def setRow (X : Mat F) (r : Fin 64) (w : FVec F S1x16 .f32) : Mat F :=
  fun y => if (y 0).val = r.val then w (ix2 0 (y 1)) else X y

variable (d : Dev nD) (c : Fin τ.nSC) (j : Fin τ.nSub)

/-- The tile's scratch `m` held whole, reading as the matrix `X`. -/
def rd (m : Memref sig .scVector .vmem S64x16 .f32) (X : Mat F) : sProp 𝕄 :=
  iprop(∃ f : Buf (Elt F) (m.view.loc (V d c j)), ⌜m.view.read (Elt F) f = X⌝ ∗ (m.view.loc (V d c j) ↦{fullShare} f))

/-- Row `r` of a scratch, as the body addresses it. -/
abbrev rowRect (off : Fin 2 → ℕ) (inb : ∀ a, off a + S1x16.size a ≤ S64x16.size a) : Rect S64x16 :=
  Rect.unit (s := S64x16) off S1x16.size inb

/-- Loading row `r` reads it and leaves the scratch as it is. -/
theorem load_row (m : Memref sig .scVector .vmem S64x16 .f32) (off : Fin 2 → ℕ) (inb : ∀ a, off a + S1x16.size a ≤ S64x16.size a)
    (r : Fin 64) (hoff : off = ![r.val, 0]) (X : Mat F) {α : Type}
    {hl : m.view.LoadsAt (rowRect off inb).toLoadRect}
    {k : Vec F S1x16 .f32 → Prog (TpuEff nD τ sig (Elt F) Λ₀ (.scVector c j)) α} {Q : α → sProp 𝕄} :
    rd d c j m X ⊢ iprop((rd d c j m X -∗ wp frame (wpE (defs₀ (F := F)) 𝒱₀ (V d c j) none) Set.univ (k (rowOf X r)) Q)
      -∗ wp frame (wpE (defs₀ (F := F)) 𝒱₀ (V d c j) none) Set.univ (.op (.load m (rowRect off inb).toLoadRect hl) k) Q) := by
  subst hoff
  unfold rd
  iintro ⟨%f, %hf, H⟩ Hk
  iapply (wp_load 𝒱₀ (V d c j) none Set.univ (defs := defs₀ (F := F)) (Γ := .empty) (m := m) (r := (rowRect ![r.val, 0] inb).toLoadRect) (hl := hl) (k := k) (S := Finset.univ) (q := fullShare)
    (f := f) (Finset.subset_univ _)) $$ H
  iintro H
  have e : m.view.readAt (Elt F) (rowRect ![r.val, 0] inb).toLoadRect f = rowOf X r := by
    subst hf
    funext y
    rw [View.readAt_apply]
    unfold rowOf
    congr 1
    funext a
    apply Fin.ext
    match a with
    | 0 => have : (y 0).val = 0 := by have := (y 0).isLt; simp [Rect.unit, Shape.size] at this; omega
           show r.val + 1 * (y 0).val = r.val; omega
    | 1 => show 0 + 1 * (y 1).val = (y 1).val; omega
  rw [e]
  iapply Hk
  iexists f
  isplitr; · ipureintro; exact hf
  iexact H

/-- Storing row `r` replaces it. -/
theorem store_row (m : Memref sig .scVector .vmem S64x16 .f32) (off : Fin 2 → ℕ) (inb : ∀ a, off a + S1x16.size a ≤ S64x16.size a)
    (r : Fin 64) (hoff : off = ![r.val, 0]) (X : Mat F) (w : FVec F S1x16 .f32) {α : Type}
    {hx : (m.access (rowRect off inb)).Stores Finset.univ} {hm : (Finset.univ : Finset (rowRect off inb).shape.Idx) = Finset.univ ∨ ∀ a, (rowRect off inb).stride a = 1}
    {k : PUnit → Prog (TpuEff nD τ sig (Elt F) Λ₀ (.scVector c j)) α} {Q : α → sProp 𝕄} :
    rd d c j m X ⊢ iprop((rd d c j m (setRow X r w) -∗ wp frame (wpE (defs₀ (F := F)) 𝒱₀ (V d c j) none) Set.univ (k ⟨⟩) Q)
      -∗ wp frame (wpE (defs₀ (F := F)) 𝒱₀ (V d c j) none) Set.univ (.op (.store m (rowRect off inb) w Finset.univ hx hm) k) Q) := by
  subst hoff
  unfold rd
  iintro ⟨%f, %hf, H⟩ Hk
  iapply (wp_store 𝒱₀ (V d c j) none Set.univ (defs := defs₀ (F := F)) (Γ := .empty) (m := m) (r := rowRect ![r.val, 0] inb) (w := w) (hx := hx) (hm := hm) (k := k)
    (S := Finset.univ) (f := f) (Finset.subset_univ _)) $$ H
  iintro H
  iapply Hk
  iexists _
  isplitr
  swap; · iexact H
  ipureintro
  funext y
  show m.view.read (Elt F) (m.view.writes (Elt F) f [⟨rowRect ![r.val, 0] inb, w⟩]) y = _
  unfold setRow
  split
  · rename_i h
    refine View.read_writes_cons_hit_of_coords m.view f (rowRect ![r.val, 0] inb) w [] (ix2 0 (y 1) : S1x16.Idx) y ?_
    intro a
    match a with
    | 0 => show (y 0).val = r.val + 1 * 0; omega
    | 1 => show (y 1).val = 0 + 1 * (y 1).val; omega
  · rename_i h
    rw [View.read_writes_cons_miss_of_axis m.view f ⟨rowRect ![r.val, 0] inb, w⟩ [] y 0 r.val 1 rfl rfl rfl (by omega)]
    exact congrFun hf y

end Cert.Proof.Ranks

end

end
-- ==== Proof.TileProg.lean ====
/-
  The tile's straight-line code as recursions: one sample's 64 row additions, and the 64 comparisons one row is ranked
  by. The printed parts are these recursions by definitional unfolding.
-/
module

public import proofs.«01_k».proof.Proof.TileRows

@[expose] public section

noncomputable section

namespace Cert.Proof.Ranks

open Cert.KernelIdeal Cert.KernelIdeal.Gen

open Idealize.ShloMosaic Idealize.ShloMosaic.ValueIdx
open Idealize.SL Idealize.SL.Sem

variable {F : FTy → Type} [FloatOps F]

/-- A row's rectangle stays in the scratch. -/
theorem row_inb (r : ℕ) (h : r < 64) : ∀ a, (![r, 0] : Fin 2 → ℕ) a + S1x16.size a ≤ S64x16.size a := by
  intro a
  match a with
  | 0 => show r + 1 ≤ 64; omega
  | 1 => show 0 + 16 ≤ 16; omega

/-- The sum of two rows. -/
def addRow (a b : Vec F S1x16 .f32) : FVec F S1x16 .f32 :=
  shapeCast S1x16 (addf (shapeCast S16 a shapeCasts_S1x16_S16 : FVec F S16 .f32) (shapeCast S16 b shapeCasts_S1x16_S16)) shapeCasts_S16_S1x16

section Prog

variable {c : Fin τ.nSC} {j : Fin τ.nSub} (a5 a6 a7 a8 : Memref sig .scVector .vmem S64x16 .f32)

local notation "ℙ" => Prog (TpuEff nD τ sig (Elt F) Λ₀ (Proc.scVector c j)) Unit

/-- Rows `64 - n` and on: each row of `a5` and `a6` added into `a7`'s. -/
def addRows : (n : ℕ) → n ≤ 64 → ℙ
  | 0, _ => .ret ()
  | n + 1, h =>
    .op (.load a5 (rowRect ![64 - (n + 1), 0] (row_inb _ (by omega))).toLoadRect (View.loadsAt_vmem h_S1x16)) fun x : Vec F S1x16 .f32 =>
    .op (.load a6 (rowRect ![64 - (n + 1), 0] (row_inb _ (by omega))).toLoadRect (View.loadsAt_vmem h_S1x16)) fun y : Vec F S1x16 .f32 =>
    .op (.load a7 (rowRect ![64 - (n + 1), 0] (row_inb _ (by omega))).toLoadRect (View.loadsAt_vmem h_S1x16)) fun _ : Vec F S1x16 .f32 =>
    .op (.store a7 (rowRect ![64 - (n + 1), 0] (row_inb _ (by omega))) (addRow x y) Finset.univ (View.stores_vmem_bits_univ h_S1x16 rfl) (.inl rfl)) fun _ =>
    addRows n (by omega)

/-- One where `v` is smaller than `b`, lane by lane, zero elsewhere. -/
def less (v : Vec F S1x16 .f32) (b : FVec F S16 .f32) : FVec F S16 .f32 :=
  select (cmpf .olt (shapeCast S16 v shapeCasts_S1x16_S16 : FVec F S16 .f32) b) (broadcast S16 (Scalar.ofBits .f32 0x3F800000#32)) (broadcast S16 (Scalar.ofBits .f32 0x00000000#32))

/-- Eight partial counts, one of which takes another row. -/
def bump (s : ℕ → FVec F S16 .f32) (q : ℕ) (w : FVec F S16 .f32) : ℕ → FVec F S16 .f32 := fun p => if p = q then addf (s p) w else s p

/-- The partial counts' total. -/
def total (s : ℕ → FVec F S16 .f32) : FVec F S16 .f32 :=
  addf (addf (addf (s 0) (s 1)) (addf (s 2) (s 3))) (addf (addf (s 4) (s 5)) (addf (s 6) (s 7)))

/-- Rows `64 - n` and on of `a7` compared with `b`, row `k` counted in the partial count `k % 8`. -/
def cmpRows (b : FVec F S16 .f32) : (n : ℕ) → n ≤ 64 → (ℕ → FVec F S16 .f32) → ((ℕ → FVec F S16 .f32) → ℙ) → ℙ
  | 0, _, s, k => k s
  | n + 1, h, s, k =>
    .op (.load a7 (rowRect ![64 - (n + 1), 0] (row_inb _ (by omega))).toLoadRect (View.loadsAt_vmem h_S1x16)) fun v : Vec F S1x16 .f32 =>
    cmpRows b n (by omega) (bump s ((64 - (n + 1)) % 8) (less v b)) k

/-- A row with `w` added. -/
def accRow (a : Vec F S1x16 .f32) (w : FVec F S16 .f32) : FVec F S1x16 .f32 :=
  shapeCast S1x16 (addf (shapeCast S16 a shapeCasts_S1x16_S16 : FVec F S16 .f32) w) shapeCasts_S16_S1x16

/-- One row's ranking. -/
def rankRow (off : Fin 2 → ℕ) (inb : ∀ a, off a + S1x16.size a ≤ S64x16.size a) : ℙ :=
  .op (.load a7 (rowRect off inb).toLoadRect (View.loadsAt_vmem h_S1x16)) fun b : Vec F S1x16 .f32 =>
  cmpRows a7 (shapeCast S16 b shapeCasts_S1x16_S16) 64 le_rfl (fun _ => broadcast S16 (Scalar.ofBits .f32 0x00000000#32)) fun s =>
  .op (.load a8 (rowRect off inb).toLoadRect (View.loadsAt_vmem h_S1x16)) fun a : Vec F S1x16 .f32 =>
  .op (.load a8 (rowRect off inb).toLoadRect (View.loadsAt_vmem h_S1x16)) fun _ : Vec F S1x16 .f32 =>
  .op (.store a8 (rowRect off inb) (accRow a (total s)) Finset.univ (View.stores_vmem_bits_univ h_S1x16 rfl) (.inl rfl)) fun _ => .ret ()

end Prog

section Eqs

variable (i : grid0.Coords) (arg2 : Memref sig .scVector .hbm S32x64x16 .f32) (harg2 : arg2.IsWhole) (arg3 : Memref sig .scVector .hbm S32x64x64x16 .f32)
  (harg3 : arg3.IsWhole) (arg4 : Memref sig .scVector .hbm S32x64x16 .f32) (harg4 : arg4.IsWhole) (arg5 : Memref sig .scVector .vmem S64x16 .f32) (harg5 : arg5.IsWhole)
  (arg6 : Memref sig .scVector .vmem S64x16 .f32) (harg6 : arg6.IsWhole) (arg7 : Memref sig .scVector .vmem S64x16 .f32) (harg7 : arg7.IsWhole)
  (arg8 : Memref sig .scVector .vmem S64x16 .f32) (harg8 : arg8.IsWhole) (s0 s1 s2 : DmaSems sig S_)

set_option maxRecDepth 65536 in
set_option maxHeartbeats 4000000 in
/-- Trip `t` of the ranking loop is one row's ranking. -/
theorem t3_body_eq (t : Fin k0_t3_loop.trips) :
    k0_t3_body (F := F) i arg2 harg2 arg3 harg3 arg4 harg4 arg5 harg5 arg6 harg6 arg7 harg7 arg8 harg8 s0 s1 s2 t ()
      = rankRow arg7 arg8 (k0_off4 t) (k0_off4_inb t) := rfl

set_option maxRecDepth 65536 in
set_option maxHeartbeats 4000000 in
/-- Trip `t` of the sample loop: sample `t` of the tile's noise copied in and waited for, the 64 row sums, the ranking loop. -/
theorem t2_body_eq (t : Fin k0_t2_loop.trips) :
    k0_t2_body (F := F) i arg2 harg2 arg3 harg3 arg4 harg4 arg5 harg5 arg6 harg6 arg7 harg7 arg8 harg8 s0 s1 s2 t ()
      = (Prog.lift (.enqueueDma ((arg3.slice (Rect.unit (s := S32x64x64x16) (k0_off3 i t) S1x1x64x16.size (k0_off3_inb i t)) (fun _ => rfl)).squeeze S64x16 squeezes_S1x1x64x16_S64x16)
          (.here arg6) (.dma s1.sem) ((View.wordExact_bits rfl).reshape _ _) harg6.wordExact ⟨Or.inl rfl, trivial⟩) >>= fun _ =>
        Prog.lift (.waitDma2 s1.sem ((arg3.slice (Rect.unit (s := S32x64x64x16) (k0_off3 i t) S1x1x64x16.size (k0_off3_inb i t)) (fun _ => rfl)).squeeze S64x16 squeezes_S1x1x64x16_S64x16)
          arg6 ((View.wordExact_bits rfl).reshape _ _) harg6.wordExact) >>= fun _ =>
        addRows arg5 arg6 arg7 64 le_rfl >>= fun _ =>
        Scf.Loop.for k0_t3_loop k0_t3_ok ⟨⟩ (k0_t3_body i arg2 harg2 arg3 harg3 arg4 harg4 arg5 harg5 arg6 harg6 arg7 harg7 arg8 harg8 s0 s1 s2) >>= fun _ =>
        pure ⟨⟩) := rfl

end Eqs

end Cert.Proof.Ranks

end

end
-- ==== Proof.TileSteps.lean ====
/-
  The tile's straight-line code and its inner loops, run: what each leaves in the scratches, as functions of the matrices
  they held.
-/
module

public import proofs.«01_k».proof.Proof.TileProg

@[expose] public section

noncomputable section

namespace Cert.Proof.Ranks

open Cert.KernelIdeal Cert.KernelIdeal.Gen

open Idealize.ShloMosaic Idealize.ShloMosaic.ValueIdx
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The matrices -/

/-- A row's element of a matrix of rows. -/
abbrev rowAt (w : FVec F S1x16 .f32) (y : S64x16.Idx) : Elt F .f32 := w (ix2 0 (y 1))

/-- The row of an element. -/
abbrev rw0 (y : S64x16.Idx) : Fin 64 := y 0

/-- The sums of two matrices' rows. -/
def sumMat (X N : Mat F) : Mat F := fun y => rowAt (addRow (rowOf X (rw0 y)) (rowOf N (rw0 y))) y

/-- The eight partial counts after the last `n` rows. -/
def counts (Y : Mat F) (b : FVec F S16 .f32) : (n : ℕ) → n ≤ 64 → (ℕ → FVec F S16 .f32) → (ℕ → FVec F S16 .f32)
  | 0, _, s => s
  | n + 1, h, s => counts Y b n (by omega) (bump s ((64 - (n + 1)) % 8) (less (rowOf Y ⟨64 - (n + 1), by omega⟩) b))

/-- How many rows of `Y` are below row `r`, lane by lane. -/
def rankOf (Y : Mat F) (r : Fin 64) : FVec F S16 .f32 :=
  total (counts Y (shapeCast S16 (rowOf Y r) shapeCasts_S1x16_S16) 64 le_rfl (fun _ => broadcast S16 (Scalar.ofBits .f32 0x00000000#32)))

/-- `A` with each row's ranking among `Y`'s rows added. -/
def rankMat (Y A : Mat F) : Mat F := fun y => rowAt (accRow (rowOf A (rw0 y)) (rankOf Y (rw0 y))) y

/-- The accumulator before the first sample. -/
def zeroMat : Mat F := fun y => rowAt (k0_pay145 (F := F)) y

/-- The accumulator, scaled and clipped. -/
def scaleMat (A : Mat F) : Mat F := fun y => rowAt (k0_pay149 (rowOf A (rw0 y))) y

/-- The accumulator after `k` samples of the noise `N` on the values `X`. -/
def accAt (X : Mat F) (N : ℕ → Mat F) : ℕ → Mat F
  | 0 => zeroMat
  | k + 1 => rankMat (sumMat X (N k)) (accAt X N k)

/-- `A` where the row is below `k`, `B` elsewhere. -/
def below (k : ℕ) (A B : Mat F) : Mat F := fun y => if (y 0).val < k then A y else B y

theorem below_zero (A B : Mat F) : below 0 A B = B := by funext y; simp [below]
theorem below_all (A B : Mat F) : below 64 A B = A := by
  funext y; have := (y 0).isLt; unfold below; exact if_pos this

theorem rowOf_below (A B : Mat F) (r : Fin 64) (k : ℕ) (h : k ≤ r.val) : rowOf (below k A B) r = rowOf B r := by
  funext y; unfold rowOf below; exact if_neg (by show ¬ r.val < k; omega)

/-- Storing row `k` of `A` takes the rows below `k` to those below `k + 1`. -/
theorem setRow_below (A B : Mat F) (r : Fin 64) (w : FVec F S1x16 .f32) (hw : ∀ y : S64x16.Idx, (y 0).val = r.val → w (ix2 0 (y 1)) = A y) :
    setRow (below r.val A B) r w = below (r.val + 1) A B := by
  funext y
  unfold setRow below
  by_cases h : (y 0).val = r.val
  · rw [if_pos h, if_pos (by omega)]; exact hw y h
  · rw [if_neg h]
    by_cases h' : (y 0).val < r.val
    · rw [if_pos h', if_pos (by omega)]
    · rw [if_neg h', if_neg (by omega)]

section Run

variable (d : Dev nD) (c : Fin τ.nSC) (j : Fin τ.nSub)

variable (a5 a6 a7 a8 : Memref sig .scVector .vmem S64x16 .f32)

/-- The row sums, from row `64 - n` on. -/
theorem addRows_wp (X N B : Mat F) : ∀ (n : ℕ) (h : n ≤ 64),
    iprop(rd d c j a5 X ∗ rd d c j a6 N ∗ rd d c j a7 (below (64 - n) (sumMat X N) B))
      ⊢ wp frame (wpE (defs₀ (F := F)) 𝒱₀ (V d c j) none) Set.univ (addRows a5 a6 a7 n h) fun _ => iprop(rd d c j a5 X ∗ rd d c j a6 N ∗ rd d c j a7 (sumMat X N))
  | 0, _ => by
    unfold addRows
    rw [wp_ret, show 64 - 0 = 64 from rfl, below_all]
    iintro H; imodintro; iexact H
  | n + 1, h => by
    unfold addRows
    iintro ⟨H5, H6, H7⟩
    iapply (load_row d c j a5 _ _ ⟨64 - (n + 1), by omega⟩ rfl X) $$ H5
    iintro H5
    iapply (load_row d c j a6 _ _ ⟨64 - (n + 1), by omega⟩ rfl N) $$ H6
    iintro H6
    iapply (load_row d c j a7 _ _ ⟨64 - (n + 1), by omega⟩ rfl _) $$ H7
    iintro H7
    iapply (store_row d c j a7 _ _ ⟨64 - (n + 1), by omega⟩ rfl _ _) $$ H7
    iintro H7
    iapply (addRows_wp X N B n _)
    isplitl [H5]; · iexact H5
    isplitl [H6]; · iexact H6
    have e := setRow_below (sumMat X N) B ⟨64 - (n + 1), by omega⟩
      (addRow (rowOf X ⟨64 - (n + 1), by omega⟩) (rowOf N ⟨64 - (n + 1), by omega⟩)) (fun y hy => by
        have e : rw0 y = ⟨64 - (n + 1), by omega⟩ := Fin.ext hy
        unfold sumMat; rw [e])
    rw [show 64 - n = 64 - (n + 1) + 1 by omega]
    rw [← e]; iexact H7

/-- The comparisons, from row `64 - n` on. -/
theorem cmpRows_wp (Y : Mat F) (b : FVec F S16 .f32) {Q : Unit → sProp 𝕄}
    {k : (ℕ → FVec F S16 .f32) → Prog (TpuEff nD τ sig (Elt F) Λ₀ (.scVector c j)) Unit} : ∀ (n : ℕ) (h : n ≤ 64) (s : ℕ → FVec F S16 .f32),
    rd d c j a7 Y ⊢ iprop((rd d c j a7 Y -∗ wp frame (wpE (defs₀ (F := F)) 𝒱₀ (V d c j) none) Set.univ (k (counts Y b n h s)) Q) -∗ wp frame (wpE (defs₀ (F := F)) 𝒱₀ (V d c j) none) Set.univ (cmpRows a7 b n h s k) Q)
  | 0, _, s => by
    unfold cmpRows counts
    iintro H Hk; iapply Hk; iexact H
  | n + 1, h, s => by
    unfold cmpRows counts
    iintro H Hk
    iapply (load_row d c j a7 _ _ ⟨64 - (n + 1), by omega⟩ rfl Y) $$ H
    iintro H
    iapply (cmpRows_wp Y b n _ _) $$ H
    iexact Hk

/-- One row's ranking. -/
theorem rankRow_wp (Y A : Mat F) (off : Fin 2 → ℕ) (inb : ∀ a, off a + S1x16.size a ≤ S64x16.size a) (r : Fin 64) (hoff : off = ![r.val, 0]) :
    iprop(rd d c j a7 Y ∗ rd d c j a8 (below r.val (rankMat Y A) A))
      ⊢ wp frame (wpE (defs₀ (F := F)) 𝒱₀ (V d c j) none) Set.univ (rankRow a7 a8 off inb) fun _ => iprop(rd d c j a7 Y ∗ rd d c j a8 (below (r.val + 1) (rankMat Y A) A)) := by
  unfold rankRow
  iintro ⟨H7, H8⟩
  iapply (load_row d c j a7 _ _ r hoff Y) $$ H7
  iintro H7
  iapply (cmpRows_wp d c j a7 Y _ 64 le_rfl _) $$ H7
  iintro H7
  iapply (load_row d c j a8 _ _ r hoff _) $$ H8
  iintro H8
  iapply (load_row d c j a8 _ _ r hoff _) $$ H8
  iintro H8
  iapply (store_row d c j a8 _ _ r hoff _ _) $$ H8
  iintro H8
  rw [wp_ret]
  imodintro
  isplitl [H7]; · iexact H7
  rw [rowOf_below _ _ _ _ le_rfl]
  have e := setRow_below (rankMat Y A) A r (accRow (rowOf A r) (rankOf Y r)) (fun y hy => by
        have e : rw0 y = r := Fin.ext hy
        unfold rankMat; rw [e])
  rw [← e]; iexact H8

end Run

end Cert.Proof.Ranks

end

end
-- ==== Proof.TileLoops.lean ====
/-
  The tile's loops run: the accumulator zeroed, ranked into, scaled, one sample's trip, and all 64 of them.
-/
module

public import proofs.«01_k».proof.Proof.TileSteps

@[expose] public section

noncomputable section

namespace Cert.Proof.Ranks

open Cert.KernelIdeal Cert.KernelIdeal.Gen

open Idealize.ShloMosaic Idealize.ShloMosaic.ValueIdx
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The operands -/

/-- The SparseCore call's operands and the tile's scratches, as the body names them. -/
abbrev xV : Memref sig .scVector .hbm S32x64x16 .f32 := Memref.whole main_v19_scv
abbrev nV : Memref sig .scVector .hbm S32x64x64x16 .f32 := Memref.whole main_v16_scv
abbrev oV : Memref sig .scVector .hbm S32x64x16 .f32 := Memref.whole main_v20_scv
abbrev sX : Memref sig .scVector .vmem S64x16 .f32 := Memref.whole cc0_scratch0
abbrev sN : Memref sig .scVector .vmem S64x16 .f32 := Memref.whole cc0_scratch1
abbrev sV : Memref sig .scVector .vmem S64x16 .f32 := Memref.whole cc0_scratch2
abbrev sA : Memref sig .scVector .vmem S64x16 .f32 := Memref.whole cc0_scratch3

section Loops

variable (d : Dev nD) (L : grid0.Coords)

/-- The tile's SparseCore, its subcore, and its row of the operands. -/
abbrev cV (L : grid0.Coords) : Fin τ.nSC := (L 0).castLE hcore0
abbrev jV (L : grid0.Coords) : Fin τ.nSub := (L 1).castLE hsub0

/-- The ranking loop adds each row's ranking. -/
theorem loop3_wp (Y A : Mat F) :
    iprop(rd (F := F) d (cV L) (jV L) sV Y ∗ rd (F := F) d (cV L) (jV L) sA A)
      ⊢ wp frame (wpE (defs₀ (F := F)) 𝒱₀ (V d (cV L) (jV L)) none) Set.univ (Scf.Loop.for k0_t3_loop k0_t3_ok ⟨⟩ (k0_t3_body L xV (Memref.isWhole_whole _) nV (Memref.isWhole_whole _) oV (Memref.isWhole_whole _)
            sX (Memref.isWhole_whole _) sN (Memref.isWhole_whole _) sV (Memref.isWhole_whole _) sA (Memref.isWhole_whole _) cc0_scoped0 cc0_scoped1 cc0_scoped2))
          fun _ => iprop(rd (F := F) d (cV L) (jV L) sV Y ∗ rd (F := F) d (cV L) (jV L) sA (rankMat Y A)) := by
  iintro ⟨H7, H8⟩
  iapply (Scf.wp_for frame (wpE (defs₀ (F := F)) 𝒱₀ (V d (cV L) (jV L)) none) Set.univ _ _ _ k0_t3_ok () _
    (fun k _ => iprop(rd (F := F) d (cV L) (jV L) sV Y ∗ rd (F := F) d (cV L) (jV L) sA (below k (rankMat Y A) A))) ?_)
  · intro k _
    rw [t3_body_eq]
    exact rankRow_wp d (cV L) (jV L) sV sA Y A _ _ ⟨k.val, k.isLt⟩ (k0_off4_eq k)
  · isplitl [H7 H8]
    · isplitl [H7]; · iexact H7
      rw [below_zero]; iexact H8
    · iintro %_ ⟨H7, H8⟩
      isplitl [H7]; · iexact H7
      rw [show Scf.trips k0_t3_loop.lb k0_t3_loop.ub k0_t3_loop.st = 64 by decide, below_all]
      iexact H8

/-- The zeroing loop. -/
theorem loop1_wp (A : Mat F) :
    rd (F := F) d (cV L) (jV L) sA A
      ⊢ wp frame (wpE (defs₀ (F := F)) 𝒱₀ (V d (cV L) (jV L)) none) Set.univ (Scf.Loop.for k0_t1_loop k0_t1_ok ⟨⟩ (k0_t1_body L xV (Memref.isWhole_whole _) nV (Memref.isWhole_whole _) oV (Memref.isWhole_whole _)
            sX (Memref.isWhole_whole _) sN (Memref.isWhole_whole _) sV (Memref.isWhole_whole _) sA (Memref.isWhole_whole _) cc0_scoped0 cc0_scoped1 cc0_scoped2))
          fun _ => rd (F := F) d (cV L) (jV L) sA zeroMat := by
  iintro H8
  iapply (Scf.wp_for frame (wpE (defs₀ (F := F)) 𝒱₀ (V d (cV L) (jV L)) none) Set.univ _ _ _ k0_t1_ok () _
    (fun k _ => rd (F := F) d (cV L) (jV L) sA (below k zeroMat A)) ?_)
  · intro k _
    show _ ⊢ wp frame (wpE (defs₀ (F := F)) 𝒱₀ (V d (cV L) (jV L)) none) Set.univ (.op _ _) _
    obtain ⟨r, hr⟩ : ∃ r : Fin 64, r.val = k.val := ⟨⟨k.val, k.isLt⟩, rfl⟩
    have ho : k0_off2 k = ![r.val, 0] := by rw [hr]; exact k0_off2_eq k
    have e := setRow_below zeroMat A r (k0_pay145 (F := F)) (fun y hy => rfl)
    rw [← hr]
    iintro H8
    iapply (load_row d (cV L) (jV L) sA _ _ r ho _) $$ H8
    iintro H8
    iapply (store_row d (cV L) (jV L) sA _ _ r ho _ _) $$ H8
    rw [e]
    iintro H8
    iapply (show rd (F := F) d (cV L) (jV L) sA (below (r + 1) zeroMat A) ⊢ wp frame (wpE (defs₀ (F := F)) 𝒱₀ (V d (cV L) (jV L)) none) Set.univ (.ret ()) (fun _ => rd (F := F) d (cV L) (jV L) sA (below (r + 1) zeroMat A)) from by
      rw [wp_ret]; iintro H; imodintro; iexact H)
    iexact H8
  · isplitl [H8]
    · rw [below_zero]; iexact H8
    · iintro %_ H8
      rw [show Scf.trips k0_t1_loop.lb k0_t1_loop.ub k0_t1_loop.st = 64 by decide, below_all]
      iexact H8

/-- The scaling loop. -/
theorem loop4_wp (A : Mat F) :
    rd (F := F) d (cV L) (jV L) sA A
      ⊢ wp frame (wpE (defs₀ (F := F)) 𝒱₀ (V d (cV L) (jV L)) none) Set.univ (Scf.Loop.for k0_t4_loop k0_t4_ok ⟨⟩ (k0_t4_body L xV (Memref.isWhole_whole _) nV (Memref.isWhole_whole _) oV (Memref.isWhole_whole _)
            sX (Memref.isWhole_whole _) sN (Memref.isWhole_whole _) sV (Memref.isWhole_whole _) sA (Memref.isWhole_whole _) cc0_scoped0 cc0_scoped1 cc0_scoped2))
          fun _ => rd (F := F) d (cV L) (jV L) sA (scaleMat A) := by
  iintro H8
  iapply (Scf.wp_for frame (wpE (defs₀ (F := F)) 𝒱₀ (V d (cV L) (jV L)) none) Set.univ _ _ _ k0_t4_ok () _
    (fun k _ => rd (F := F) d (cV L) (jV L) sA (below k (scaleMat A) A)) ?_)
  · intro k _
    show _ ⊢ wp frame (wpE (defs₀ (F := F)) 𝒱₀ (V d (cV L) (jV L)) none) Set.univ (.op _ _) _
    obtain ⟨r, hr⟩ : ∃ r : Fin 64, r.val = k.val := ⟨⟨k.val, k.isLt⟩, rfl⟩
    have ho : k0_off5 k = ![r.val, 0] := by rw [hr]; exact k0_off5_eq k
    have e := setRow_below (scaleMat A) A r (k0_pay149 (rowOf A r)) (fun y hy => by
      have e : rw0 y = r := Fin.ext hy
      unfold scaleMat; rw [e])
    have e' : rowOf (below r (scaleMat A) A) r = rowOf A r := rowOf_below _ _ _ _ le_rfl
    rw [← hr]
    iintro H8
    iapply (load_row d (cV L) (jV L) sA _ _ r ho _) $$ H8
    iintro H8
    iapply (load_row d (cV L) (jV L) sA _ _ r ho _) $$ H8
    iintro H8
    iapply (store_row d (cV L) (jV L) sA _ _ r ho _ _) $$ H8
    rw [e', e]
    iintro H8
    iapply (show rd (F := F) d (cV L) (jV L) sA (below (r + 1) (scaleMat A) A) ⊢ wp frame (wpE (defs₀ (F := F)) 𝒱₀ (V d (cV L) (jV L)) none) Set.univ (.ret ()) (fun _ => rd (F := F) d (cV L) (jV L) sA (below (r + 1) (scaleMat A) A)) from by
      rw [wp_ret]; iintro H; imodintro; iexact H)
    iexact H8
  · isplitl [H8]
    · rw [below_zero]; iexact H8
    · iintro %_ H8
      rw [show Scf.trips k0_t4_loop.lb k0_t4_loop.ub k0_t4_loop.st = 64 by decide, below_all]
      iexact H8

end Loops

end Cert.Proof.Ranks

end

end
-- ==== Proof.Tile.lean ====
/-
  The tile's whole task: its values copied in, the accumulator zeroed, 64 samples' noise copied in and ranked, the
  accumulator scaled and copied out to the tile's row of the result.
-/
module

public import proofs.«01_k».proof.Proof.TileLoops
public import Idealize.ShloMosaic.Lib.ValueLayout

@[expose] public section

noncomputable section

namespace Cert.Proof.Ranks

open Cert.KernelIdeal Cert.KernelIdeal.Gen

open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What a tile computes -/

/-- The values of tile `w`. -/
def xMat (fx : S32x64x16.Idx → Elt F .f32) (w : Fin 32) : Mat F := fun y => fx (ix3 w (y 0) (y 1))

/-- Sample `k` of the noise of tile `w`. -/
def nMat (fn : S32x64x64x16.Idx → Elt F .f32) (w : Fin 32) (k : ℕ) : Mat F := fun y => fn (ix4 w (Fin.ofNat 64 k) (y 0) (y 1))

/-- What the tiles leave in the result. -/
def outv (fx : S32x64x16.Idx → Elt F .f32) (fn : S32x64x64x16.Idx → Elt F .f32) : S32x64x16.Idx → Elt F .f32 :=
  fun y => scaleMat (accAt (xMat fx (y 0)) (nMat fn (y 0)) 64) (ix2 (y 1) (y 2))

/-! ## A tile's part of the operands -/

section Tile

variable (d : Dev nD) (L : grid0.Coords)

theorem bound_zero : grid0.bound 0 = 2 := rfl
theorem bound_one : grid0.bound 1 = 16 := rfl

/-- The tile's row of the operands. -/
def wid (L : grid0.Coords) : Fin 32 :=
  ⟨16 * (L 0).val + (L 1).val, by
    have h0 : (L 0).val < 2 := (L 0).isLt
    have h1 : (L 1).val < 16 := (L 1).isLt
    omega⟩

theorem odiv : 32 ∣ S32x64x16.size 0 := ⟨1, rfl⟩
/-- Row `w` of the result. -/
abbrev orow (w : Fin 32) : Rect S32x64x16 := Rect.part (s := S32x64x16) (a₀ := 0) odiv w
abbrev orowSet (w : Fin 32) : Finset S32x64x16.Idx := ((oV).view.slice (orow w)).set

abbrev rowK (L : grid0.Coords) : Rect S32x64x16 := Rect.unit (s := S32x64x16) (k0_off1 L) S1x64x16.size (k0_off1_inb L)
abbrev nrowK (L : grid0.Coords) (t : Fin k0_t2_loop.trips) : Rect S32x64x64x16 :=
  Rect.unit (s := S32x64x64x16) (k0_off3 L t) S1x1x64x16.size (k0_off3_inb L t)
/-- The tile's values, sample `t` of its noise, its part of the result, as the body addresses them. -/
abbrev xK (L : grid0.Coords) : Memref sig .scVector .hbm S64x16 .f32 := ((xV).slice (rowK L) (fun _ => rfl)).squeeze S64x16 squeezes_S1x64x16_S64x16
abbrev nK (L : grid0.Coords) (t : Fin k0_t2_loop.trips) : Memref sig .scVector .hbm S64x16 .f32 :=
  ((nV).slice (nrowK L t) (fun _ => rfl)).squeeze S64x16 squeezes_S1x1x64x16_S64x16
abbrev oK (L : grid0.Coords) : Memref sig .scVector .hbm S64x16 .f32 := ((oV).slice (rowK L) (fun _ => rfl)).squeeze S64x16 squeezes_S1x64x16_S64x16

/-- Element `(a, b)` of the tile's row of the operands. -/
theorem emb_rowK (a : Fin 64) (b : Fin 16) :
    (rowK L).emb (Shape.reshapeEquiv squeezes_S1x64x16_S64x16.numel_eq (ix2 a b)) = ix3 (wid L) a b := by
  rw [reshapeEquiv_ix2_1ab]
  funext ax; apply Fin.ext
  have e := congrFun (k0_off1_eq L) ax
  match ax with
  | 0 => show k0_off1 L 0 + 1 * 0 = _; rw [e]; rfl
  | 1 => show k0_off1 L 1 + 1 * a.val = _; rw [e]; show 0 + 1 * a.val = a.val; omega
  | 2 => show k0_off1 L 2 + 1 * b.val = _; rw [e]; show 0 + 1 * b.val = b.val; omega

omit [FloatOps F] in
theorem read_xK (fx : S32x64x16.Idx → Elt F .f32) : (xK L).view.read (Elt F) fx = xMat fx (wid L) := by
  funext y
  obtain ⟨a, b, rfl⟩ : ∃ (a : Fin 64) (b : Fin 16), y = ix2 a b := ⟨y 0, y 1, eq_ix2 y⟩
  refine ((View.read_apply _ _).trans (cast_eq _ _)).trans ?_
  show fx ((rowK L).emb (Shape.reshapeEquiv squeezes_S1x64x16_S64x16.numel_eq (ix2 a b))) = fx (ix3 (wid L) a b)
  rw [emb_rowK]

omit [FloatOps F] in
theorem read_nK (fn : S32x64x64x16.Idx → Elt F .f32) (t : Fin k0_t2_loop.trips) : (nK L t).view.read (Elt F) fn = nMat fn (wid L) t.val := by
  funext y
  obtain ⟨a, b, rfl⟩ : ∃ (a : Fin 64) (b : Fin 16), y = ix2 a b := ⟨y 0, y 1, eq_ix2 y⟩
  refine ((View.read_apply _ _).trans (cast_eq _ _)).trans ?_
  show fn ((nrowK L t).emb (Shape.reshapeEquiv squeezes_S1x1x64x16_S64x16.numel_eq (ix2 a b))) = fn (ix4 (wid L) (Fin.ofNat 64 t.val) a b)
  rw [reshapeEquiv_ix2_11ab]
  congr 1
  have ht : t.val < 64 := t.isLt
  funext ax; apply Fin.ext
  have e := congrFun (k0_off3_eq L t) ax
  match ax with
  | 0 => show k0_off3 L t 0 + 1 * 0 = _; rw [e]; rfl
  | 1 => show k0_off3 L t 1 + 1 * 0 = t.val % 64; rw [e, Nat.mod_eq_of_lt ht]; rfl
  | 2 => show k0_off3 L t 2 + 1 * a.val = _; rw [e]; show 0 + 1 * a.val = a.val; omega
  | 3 => show k0_off3 L t 3 + 1 * b.val = _; rw [e]; show 0 + 1 * b.val = b.val; omega

omit [FloatOps F] in
theorem rowK_eq : rowK L = orow (wid L) := by
  unfold rowK orow Rect.part Rect.block
  congr 1 <;> funext a
  · rw [k0_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_oK : (oK L).view.set = orowSet (wid L) := by
  show (((oV).view.slice (rowK L)).reshape S64x16 squeezes_S1x64x16_S64x16.numel_eq).set = ((oV).view.slice (orow (wid L))).set
  rw [View.set_reshape]
  exact rowK_eq L ▸ rfl

omit [FloatOps F] in
theorem pts_oK (f : Buf (Elt F) (oLoc d)) :
    ((oK L).view.loc (V d (cV L) (jV L)) ↦[(oK L).view.set]{fullShare} f : sProp 𝕄) = oLoc d ↦[orowSet (wid L)]{fullShare} f := by
  rw [set_oK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_nV (q : PosShare TreeShare) (f : Buf (Elt F) (nLoc d)) :
    ((nV).view.loc (V d (cV L) (jV L)) ↦{q} f : sProp 𝕄) = nLoc d ↦{q} f := rfl

/-! ## The samples -/

/-- The tile's cell of semaphore `s`. -/
abbrev cell (d : Dev nD) (L : grid0.Coords) (s : DmaSems sig S_) : GSem nD τ sig := (V d (cV L) (jV L), .dma s.sem)

/-- A scratch holding `X`, its contents named. -/
theorem rd_open (m : Memref sig .scVector .vmem S64x16 .f32) (X : Mat F) :
    rd (F := F) d (cV L) (jV L) m X ⊢ iprop(∃ f : Buf (Elt F) (m.view.loc (V d (cV L) (jV L))), ⌜m.view.read (Elt F) f = X⌝ ∗ (m.view.loc (V d (cV L) (jV L)) ↦{fullShare} f)) := by
  unfold rd; exact BI.Entails.refl _

/-- A scratch written whole holds what was written. -/
theorem rd_write (m : Memref sig .scVector .vmem S64x16 .f32) (hm : m.IsWhole) (f : Buf (Elt F) (m.view.loc (V d (cV L) (jV L)))) (X Y : Mat F) (e : X = Y) :
    (m.view.loc (V d (cV L) (jV L)) ↦{fullShare} View.write (Elt F) m.view f X Finset.univ) ⊢ rd (F := F) d (cV L) (jV L) m Y := by
  subst e
  unfold rd
  iintro H
  iexists _
  isplitr
  swap; · iexact H
  ipureintro
  funext y
  rw [View.read_write_univ]

/-- What the thread owes, its waits so far being `W` and waits of the tile's own. -/
def owesOwn (O : CellTallies nD τ sig (HIx 1)) (W : Waits sig (HIx 1)) : sProp 𝕄 :=
  iprop(∃ W', ⌜∀ p ∈ W', p ∈ W ∨ p.2 = none⌝ ∗ owes (V d (cV L) (jV L)) O W')

/-- What the sample loop holds before trip `k`. -/
def sampleInv (q : PosShare TreeShare) (X : Mat F) (fn : S32x64x64x16.Idx → Elt F .f32) (O : CellTallies nD τ sig (HIx 1)) (W : Waits sig (HIx 1)) (k : ℕ) : sProp 𝕄 :=
  iprop(rd (F := F) d (cV L) (jV L) sX X ∗ (∃ N, rd (F := F) d (cV L) (jV L) sN N) ∗ (∃ Y, rd (F := F) d (cV L) (jV L) sV Y) ∗ rd (F := F) d (cV L) (jV L) sA (accAt X (nMat fn (wid L)) k)
    ∗ (nLoc d ↦{q} fn) ∗ semVal (cell d L cc0_scoped1) 0 ∗ Transfers.MayWaits (V d (cV L) (jV L)) (default : HIx 1) O ∗ owesOwn d L O W)

set_option maxHeartbeats 4000000 in
/-- One sample: its noise copied in, added to the values, and each row of the sums ranked into the accumulator. -/
theorem sample_wp (q : PosShare TreeShare) (X : Mat F) (fn : S32x64x64x16.Idx → Elt F .f32) (O : CellTallies nD τ sig (HIx 1)) (W : Waits sig (HIx 1))
    (t : Fin k0_t2_loop.trips) :
    sampleInv d L q X fn O W t.val
      ⊢ wp frame (wpE (defs₀ (F := F)) 𝒱₀ (V d (cV L) (jV L)) none) Set.univ (k0_t2_body L xV (Memref.isWhole_whole _) nV (Memref.isWhole_whole _) oV (Memref.isWhole_whole _)
            sX (Memref.isWhole_whole _) sN (Memref.isWhole_whole _) sV (Memref.isWhole_whole _) sA (Memref.isWhole_whole _) cc0_scoped0 cc0_scoped1 cc0_scoped2 t ())
          fun _ => sampleInv d L q X fn O W (t.val + 1) := by
  rw [t2_body_eq]
  unfold sampleInv owesOwn
  iintro ⟨H5, ⟨%N, H6⟩, ⟨%Y, H7⟩, H8, Hn, Hsem, Hmw, ⟨%W', %hW', HO⟩⟩
  ihave Hn' := (Entails.of_eq (pts_nV (F := F) d L _ _).symm) $$ Hn
  ihave H6' := (rd_open d L sN N) $$ H6
  icases H6' with ⟨%f6, -, H6⟩
  sl_exec
  ihave H6' := (rd_write d L sN (Memref.isWhole_whole _) f6 _ (nMat fn (wid L) t.val) (by
    unfold sample_wp.sl.dma0; exact (ReadAs.apply_same _).trans (read_nK L fn t))) $$ H6
  iapply (wp_wand frame (wpE (defs₀ (F := F)) 𝒱₀ (V d (cV L) (jV L)) none) Set.univ) $$ [H5 H6' H7]
  · iapply (addRows_wp d (cV L) (jV L) sX sN sV X (nMat fn (wid L) t.val) Y 64 le_rfl)
    isplitl [H5]; · iexact H5
    isplitl [H6']; · iexact H6'
    rw [show 64 - 64 = 0 from rfl, below_zero]
    iexact H7
  iintro %_ ⟨H5, H6, H7⟩
  rw [wp_bind]
  iapply (wp_wand frame (wpE (defs₀ (F := F)) 𝒱₀ (V d (cV L) (jV L)) none) Set.univ) $$ [H7 H8]
  · iapply (loop3_wp d L (sumMat X (nMat fn (wid L) t.val)) (accAt X (nMat fn (wid L)) t.val))
    isplitl [H7]; · iexact H7
    iexact H8
  iintro %_ ⟨H7, H8⟩
  rw [wp_pure]
  imodintro
  isplitl [H5]; · iexact H5
  isplitl [H6]; · iexists _; iexact H6
  isplitl [H7]; · iexists _; iexact H7
  isplitl [H8]; · iexact H8
  isplitl [Hn']; · iexact Hn'
  isplitl [Hsem]; · iexact Hsem
  isplitl [Hmw]; · iexact Hmw
  iexists _; isplitr
  swap; · iexact HO
  ipureintro; intro p hp
  rcases Finset.mem_insert.mp hp with hp | hp; · exact .inr (hp ▸ rfl)
  exact hW' p hp

set_option maxRecDepth 65536 in
/-- The sample loop: from the zeroed accumulator to the one of all 64 samples. -/
theorem loop2_wp (q : PosShare TreeShare) (X : Mat F) (fn : S32x64x64x16.Idx → Elt F .f32) (O : CellTallies nD τ sig (HIx 1)) (W : Waits sig (HIx 1)) :
    sampleInv d L q X fn O W 0
      ⊢ wp frame (wpE (defs₀ (F := F)) 𝒱₀ (V d (cV L) (jV L)) none) Set.univ (Scf.Loop.for k0_t2_loop k0_t2_ok ⟨⟩ (k0_t2_body L xV (Memref.isWhole_whole _) nV (Memref.isWhole_whole _) oV (Memref.isWhole_whole _)
            sX (Memref.isWhole_whole _) sN (Memref.isWhole_whole _) sV (Memref.isWhole_whole _) sA (Memref.isWhole_whole _) cc0_scoped0 cc0_scoped1 cc0_scoped2))
          fun _ => sampleInv d L q X fn O W 64 := by
  iintro H
  iapply (Scf.wp_for frame (wpE (defs₀ (F := F)) 𝒱₀ (V d (cV L) (jV L)) none) Set.univ _ _ _ k0_t2_ok () _
    (fun k _ => sampleInv d L q X fn O W k) ?_)
  · intro k acc
    obtain ⟨⟩ := acc
    exact sample_wp d L q X fn O W k
  · have e : Scf.trips k0_t2_loop.lb k0_t2_loop.ub k0_t2_loop.st = 64 := by decide
    rw [e]
    isplitl [H]; · iexact H
    iintro %_ H
    iexact H

/-! ## The task -/

omit [FloatOps F] in
/-- The three transfer cells are among the subcore's own. -/
theorem ownSems0_V :
    (ownSems0 (V d (cV L) (jV L)) : sProp 𝕄)
      = iprop(semVal (cell d L cc0_scoped0) 0 ∗ semVal (cell d L cc0_scoped1) 0 ∗ semVal (cell d L cc0_scoped2) 0
          ∗ bigSep ((((ownCells (V d (cV L) (jV L))).erase (cell d L cc0_scoped0)).erase (cell d L cc0_scoped1)).erase (cell d L cc0_scoped2)) fun g => semVal g 0) := by
  have hs : ∀ s : DmaSems sig S_, (SemLoc.dma s.sem : SemLoc sig).isScoped .scVector = true → cell d L s ∈ ownCells (V d (cV L) (jV L)) :=
    fun s h => mem_ownCells.mpr ⟨rfl, h⟩
  have hne : ∀ s s' : DmaSems sig S_, s.sem ≠ s'.sem → cell d L s ≠ cell d L s' := fun s s' h e => h (by simpa [cell] using e)
  unfold SparseCore.Cfg.ownSems0
  rw [SparseCore.bigSep_erase' (hs cc0_scoped0 (by decide)),
    SparseCore.bigSep_erase' (Finset.mem_erase.mpr ⟨hne _ _ (by decide), hs cc0_scoped1 (by decide)⟩),
    SparseCore.bigSep_erase' (Finset.mem_erase.mpr ⟨hne _ _ (by decide), Finset.mem_erase.mpr ⟨hne _ _ (by decide), hs cc0_scoped2 (by decide)⟩⟩)]

/-- Scratch `b` at some contents. -/
abbrev scr (b : Ref sig .scVector) : sProp 𝕄 := iprop(∃ f, (V d (cV L) (jV L)).loc b ↦{fullShare} f)

omit [FloatOps F] in
/-- The four scratches are among the subcore's own. -/
theorem ownBufs_V :
    (ownBufs (V d (cV L) (jV L)) : sProp 𝕄)
      = iprop(scr d L cc0_scratch0 ∗ scr d L cc0_scratch1 ∗ scr d L cc0_scratch2 ∗ scr d L cc0_scratch3
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have hm : ∀ b : Ref sig .scVector, ((Proc.scVector (cV L) (jV L)).devRef b).owner = _ → (Proc.scVector (cV L) (jV L)).devRef b ∈ ownRefs (τ := τ) (.scVector (cV L) (jV L)) :=
    fun b h => SparseCore.Cfg.mem_ownRefs_of_owner (p := Proc.scVector (cV L) (jV L)) (b := (Proc.scVector (cV L) (jV L)).devRef b) h
  have hne : ∀ b b' : Ref sig .scVector, b ≠ b' → (Proc.scVector (cV L) (jV L)).devRef b ≠ (Proc.scVector (cV L) (jV L)).devRef b' :=
    fun b b' h e => h (Proc.devRef_injective _ e)
  unfold SparseCore.Cfg.ownBufs
  refine (SparseCore.bigSep_erase' (hm cc0_scratch0 rfl)).trans ?_
  rw [SparseCore.bigSep_erase' (Finset.mem_erase.mpr ⟨hne _ _ (by decide), hm cc0_scratch1 rfl⟩),
    SparseCore.bigSep_erase' (Finset.mem_erase.mpr ⟨hne _ _ (by decide), Finset.mem_erase.mpr ⟨hne _ _ (by decide), hm cc0_scratch2 rfl⟩⟩),
    SparseCore.bigSep_erase' (Finset.mem_erase.mpr ⟨hne _ _ (by decide), Finset.mem_erase.mpr ⟨hne _ _ (by decide), Finset.mem_erase.mpr ⟨hne _ _ (by decide),
      hm cc0_scratch3 rfl⟩⟩⟩)]

/-- A scratch holds what reading it gives. -/
theorem rd_intro (m : Memref sig .scVector .vmem S64x16 .f32) (f : Buf (Elt F) (m.view.loc (V d (cV L) (jV L)))) :
    (m.view.loc (V d (cV L) (jV L)) ↦{fullShare} f) ⊢ rd (F := F) d (cV L) (jV L) m (m.view.read (Elt F) f) := by
  unfold rd
  iintro H
  iexists f
  isplitr; · ipureintro; rfl
  iexact H

/-- The tile's part of the result, reading as its scaled accumulator, holds what the tiles leave in the result. -/
theorem out_written (g : Buf (Elt F) (oLoc d)) (fx : S32x64x16.Idx → Elt F .f32) (fn : S32x64x64x16.Idx → Elt F .f32)
    (hg : (oK L).view.read (Elt F) g = scaleMat (accAt (xMat fx (wid L)) (nMat fn (wid L)) 64)) :
    ((oK L).view.loc (V d (cV L) (jV L)) ↦[(oK L).view.set]{fullShare} g : sProp 𝕄) = oLoc d ↦[orowSet (wid L)]{fullShare} outv fx fn := by
  rw [← pts_oK (F := F) d L]
  refine pointsTo_congr fun i hi => ?_
  obtain ⟨y, rfl⟩ : ∃ y, (oK L).view.emb y = i := by simpa [View.set] using hi
  have hy := congrFun hg y
  refine ((((View.read_apply _ _).trans (cast_eq _ _)).symm.trans hy : g ((oK L).view.emb y) = _)).trans ?_
  obtain ⟨a, b, rfl⟩ : ∃ (a : Fin 64) (b : Fin 16), y = ix2 a b := ⟨y 0, y 1, eq_ix2 y⟩
  have e : (oK L).view.emb (ix2 a b) = ix3 (wid L) a b := emb_rowK L a b
  rw [e]; rfl

set_option maxHeartbeats 4000000 in
/-- The task on the tile: from its share of the values and of the noise and its row of the result, that row at what the tiles leave. -/
theorem tile_body (hF : (K (F := F)).Facts) (qx qn : PosShare TreeShare) (fx : S32x64x16.Idx → Elt F .f32) (fn : S32x64x64x16.Idx → Elt F .f32) (fo : Buf (Elt F) (oLoc d))
    (O : CellTallies nD τ sig (HIx 1)) (W : Waits sig (HIx 1)) (hO : ∀ g, O g none = 0) :
    iprop(levAts (K (F := F)).L (K (F := F)).lev ∗ emp
        ∗ ((xLoc d ↦{qx} fx : sProp 𝕄) ∗ (nLoc d ↦{qn} fn) ∗ (oLoc d ↦[orowSet (wid L)]{fullShare} fo))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (cc0__sc_body L xV (Memref.isWhole_whole _) nV (Memref.isWhole_whole _) oV (Memref.isWhole_whole _)
            sX (Memref.isWhole_whole _) sN (Memref.isWhole_whole _) sV (Memref.isWhole_whole _) sA (Memref.isWhole_whole _) cc0_scoped0 cc0_scoped1 cc0_scoped2)
          fun _ => iprop(((xLoc d ↦{qx} fx) ∗ (nLoc d ↦{qn} fn) ∗ (oLoc d ↦[orowSet (wid L)]{fullShare} outv fx fn))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  simp only [k0_part33_eq_skeleton]; unfold k0_part33_skel
  rw [(K (F := F)).scopedBufs_V hF d (cV L) (jV L), SparseCore.Cfg.scopedSems0_V (Val := Elt F) d (cV L) (jV L), ownSems0_V, ownBufs_V]
  iintro ⟨#Hlv, -, ⟨Hx, Hn, Ho⟩, ⟨⟨%f5, H5⟩, ⟨%f6, H6⟩, ⟨%f7, H7⟩, ⟨%f8, H8⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oK (F := F) d L _).symm) $$ Ho
  ihave Hx' := (Entails.of_eq (pts_xV (F := F) d L _ _).symm) $$ Hx
  ihave H5 := (Entails.of_eq (show ((V d (cV L) (jV L)).loc cc0_scratch0 ↦{fullShare} f5 : sProp 𝕄) = ((sX).view.loc (V d (cV L) (jV L)) ↦{fullShare} f5) from rfl)) $$ H5
  sl_exec
  ihave H5 := (rd_write d L sX (Memref.isWhole_whole _) f5 _ (xMat fx (wid L)) (by
    unfold tile_body.sl.dma0; exact (ReadAs.apply_same _).trans (read_xK L fx))) $$ H5
  ihave H6 := (rd_intro d L sN f6) $$ H6
  ihave H7 := (rd_intro d L sV f7) $$ H7
  ihave H8 := (rd_intro d L sA f8) $$ H8
  rw [wp_bind, wp_bind]
  iapply (wp_wand frame (wpE (defs₀ (F := F)) 𝒱₀ (V d (cV L) (jV L)) none) Set.univ) $$ [H8]
  · iapply (loop1_wp d L _); iexact H8
  iintro %_ H8
  rw [wp_bind]
  iapply (wp_wand frame (wpE (defs₀ (F := F)) 𝒱₀ (V d (cV L) (jV L)) none) Set.univ) $$ [H5 H6 H7 H8 Hn HsemB HO]
  · iapply (loop2_wp d L qn (xMat fx (wid L)) fn O W)
    unfold sampleInv owesOwn
    isplitl [H5]; · iexact H5
    isplitl [H6]; · iexists _; iexact H6
    isplitl [H7]; · iexists _; iexact H7
    isplitl [H8]; · iexact H8
    isplitl [Hn]; · iexact Hn
    isplitl [HsemB]; · iexact HsemB
    isplitr; · iexact Hmw
    iexists _; isplitr
    swap; · iexact HO
    ipureintro; intro p hp
    rcases Finset.mem_insert.mp hp with hp | hp; · exact .inr (hp ▸ rfl)
    exact .inl hp
  iintro %_ H
  unfold sampleInv owesOwn
  icases H with ⟨H5, ⟨%N, H6⟩, ⟨%Y, H7⟩, H8, Hn, HsemB, -, ⟨%W', %hW', HO⟩⟩
  rw [wp_bind]
  iapply (wp_wand frame (wpE (defs₀ (F := F)) 𝒱₀ (V d (cV L) (jV L)) none) Set.univ) $$ [H8]
  · iapply (loop4_wp d L _); iexact H8
  iintro %_ H8
  ihave H5 := (rd_open d L sX _) $$ H5
  ihave H6 := (rd_open d L sN _) $$ H6
  ihave H7 := (rd_open d L sV _) $$ H7
  ihave H8 := (rd_open d L sA _) $$ H8
  icases H5 with ⟨%g5, -, H5⟩
  icases H6 with ⟨%g6, -, H6⟩
  icases H7 with ⟨%g7, -, H7⟩
  icases H8 with ⟨%g8, %hg8, H8⟩
  sl_exec
  sl_step
  isplitl [Hx' Hn Ho']
  · isplitl [Hx']; · iexact Hx'
    isplitl [Hn]; · iexact Hn
    iapply (Entails.of_eq (out_written d L _ fx fn (by
      funext y
      rw [View.read_writes_cons_hit_of_coords (oK L).view fo (Rect.whole S64x16) (tile_body.sl.dma0_1 d L g8) [] y y (fun a => by simp [Rect.whole])]
      unfold tile_body.sl.dma0_1
      exact congrFun ((ReadAs.apply_same _).trans hg8) y)))
    iexact Ho'
  isplitl [H5 H6 H7 H8 Hbufs]
  · isplitl [H5]; · iexists _; iexact H5
    isplitl [H6]; · iexists _; iexact H6
    isplitl [H7]; · iexists _; iexact H7
    isplitl [H8]; · iexists _; iexact H8
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  exact hW' p hp

end Tile

end Cert.Proof.Ranks

end

end
-- ==== Proof.Call.lean ====
/-
  The SparseCore call's operands handed to the tiles: to each a share of the values and of the noise and its row of the
  result. The tiles' obligations and the call's split.
-/
module

public import proofs.«01_k».proof.Proof.Tile
public import Idealize.ShloMosaic.Lib.SparseCore.Stream

@[expose] public section

noncomputable section

namespace Cert.Proof.Ranks

open Cert.KernelIdeal Cert.KernelIdeal.Gen

open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Shares -/

theorem pos32 : 0 < 32 := by decide
/-- Tile `w`'s share of a buffer every tile reads. -/
abbrev shareOf (w : Fin 32) : PosShare TreeShare := pieceOf fullShare 32 pos32 w

/-! ## The tiles -/

/-- The row of the operands of tile `i` of SparseCore `c`. -/
def wOf (c : Fin 2) (i : Fin 16) : Fin 32 := ⟨16 * c.val + i.val, by omega⟩

theorem nCore_zero : (K (F := F)).nCore 0 = 2 := rfl

/-- The rows, one per SparseCore and tile. -/
def wEquiv : Fin 2 × Fin 16 ≃ Fin 32 where
  toFun p := wOf p.1 p.2
  invFun w := (⟨w.val / 16, by omega⟩, ⟨w.val % 16, by omega⟩)
  left_inv p := by
    obtain ⟨c, i⟩ := p
    simp only [wOf, Prod.mk.injEq, Fin.ext_iff]; omega
  right_inv w := by simp only [wOf, Fin.ext_iff]; omega

omit [FloatOps F] in
/-- Over the rows is over the SparseCores and their tiles. -/
theorem bigSep_rows (Φ : Fin 32 → sProp 𝕄) :
    bigSep Finset.univ Φ = bigSep Finset.univ fun c : Fin 2 => bigSep Finset.univ fun i : Fin 16 => Φ (wOf c i) := by
  rw [bigSep_univ_equiv wEquiv Φ, bigSep_univ_prod]; rfl

variable (fx : Dev nD → S32x64x16.Idx → Elt F .f32) (fn : Dev nD → S32x64x64x16.Idx → Elt F .f32) (fo : (d : Dev nD) → Buf (Elt F) (oLoc d))

/-- What tile `w` is handed, and what it hands back: its shares of the values and of the noise, and its row of the result
    at `g`. -/
def part (d : Dev nD) (g : Buf (Elt F) (oLoc d)) (w : Fin 32) : sProp 𝕄 :=
  iprop((xLoc d ↦{shareOf w} fx d) ∗ (nLoc d ↦{shareOf w} fn d) ∗ (oLoc d ↦[orowSet w]{fullShare} g))

instance part_storable (d : Dev nD) (g : Buf (Elt F) (oLoc d)) (w : Fin 32) : BI.Storable (upEmb : UEmb _ 𝕄) (part fx fn d g w) := by
  unfold part; infer_instance

/-- The result the call leaves. -/
abbrev outB (d : Dev nD) : Buf (Elt F) (oLoc d) := outv (fx d) (fn d)

/-- What the handshakes carry: each SparseCore its tiles' parts, each tile its part. -/
def P : (K (F := F)).Pay (nD := nD) (Val := Elt F) (Name := ℕ) (U := UU) where
  st := fun q d c => match q with | 0 => bigSep Finset.univ fun i : Fin 16 => part fx fn d (fo d) (wOf (Fin.cast nCore_zero c) i)
  dn := fun q d c => match q with | 0 => bigSep Finset.univ fun i : Fin 16 => part fx fn d (outB fx fn d) (wOf (Fin.cast nCore_zero c) i)
  go := fun q d c i => match q with | 0 => part fx fn d (fo d) (wOf (Fin.cast nCore_zero c) (Fin.cast nSub_zero i))
  td := fun q d c i => match q with | 0 => part fx fn d (outB fx fn d) (wOf (Fin.cast nCore_zero c) (Fin.cast nSub_zero i))
  x := fun _ _ => iprop(emp)

instance P_storable : (P (F := F) fx fn fo).IsStorable where
  st q d c := match q with
    | 0 => (inferInstance : BI.Storable (upEmb : UEmb _ 𝕄) (bigSep Finset.univ fun i : Fin 16 => part fx fn d (fo d) (wOf (Fin.cast nCore_zero c) i)))
  dn q d c := match q with
    | 0 => (inferInstance : BI.Storable (upEmb : UEmb _ 𝕄) (bigSep Finset.univ fun i : Fin 16 => part fx fn d (outB fx fn d) (wOf (Fin.cast nCore_zero c) i)))
  go q d c i := match q with | 0 => part_storable fx fn d (fo d) (wOf (Fin.cast nCore_zero c) (Fin.cast nSub_zero i))
  td q d c i := match q with | 0 => part_storable fx fn d (outB fx fn d) (wOf (Fin.cast nCore_zero c) (Fin.cast nSub_zero i))

/-! ## The obligations -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) nV (Memref.isWhole_whole _) oV (Memref.isWhole_whole _)
          sX (Memref.isWhole_whole _) sN (Memref.isWhole_whole _) sV (Memref.isWhole_whole _) sA (Memref.isWhole_whole _) cc0_scoped0 cc0_scoped1 cc0_scoped2) ⟨⟩ c s := rfl

omit [FloatOps F] in
/-- A tile's waits are of the transfers' index. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile's task, from what it is handed to what it hands back. -/
theorem tileObl (hF : (K (F := F)).Facts) : (K (F := F)).TileObl (D (F := F)) 𝒱 (P fx fn fo) v₀ 0 := by
  intro d c i O W hO _ _
  simp only [show (P fx fn fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF _ _ (fx d) (fn d) (fo d) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- Each SparseCore hands its tiles their parts and takes them back. -/
theorem vecSplit : (K (F := F)).VecSplit' (P fx fn fo) 0 := by
  intro d c
  show (bigSep Finset.univ fun i : Fin 16 => part fx fn d (fo d) (wOf (Fin.cast nCore_zero c) i)) ⊢ |={Set.univ}=> iprop(
      (bigSep Finset.univ fun i : Fin ((K (F := F)).nSub 0) => part fx fn d (fo d) (wOf (Fin.cast nCore_zero c) (Fin.cast nSub_zero i)))
      ∗ ((bigSep Finset.univ fun i : Fin ((K (F := F)).nSub 0) => part fx fn d (outB fx fn d) (wOf (Fin.cast nCore_zero c) (Fin.cast nSub_zero i)))
          -∗ bigSep Finset.univ fun i : Fin 16 => part fx fn d (outB fx fn d) (wOf (Fin.cast nCore_zero c) i)))
  rw [bigSep_tasks (F := F) (fun i => part fx fn d (fo d) (wOf (Fin.cast nCore_zero c) i)),
    bigSep_tasks (F := F) (fun i => part fx fn d (outB fx fn d) (wOf (Fin.cast nCore_zero c) i))]
  iintro H; imodintro
  isplitl [H]; · iexact H
  iintro H; iexact H

/-! ## The call's operands, whole -/

omit [FloatOps F] in
theorem orowSet_eq (w : Fin 32) : orowSet w = (orow w).set := by
  show ((View.whole (main_v20_scv : Ref sig .scVector)).slice (orow w)).set = _
  rw [View.set_slice]; exact Finset.map_refl
omit [FloatOps F] in
/-- The result's rows are disjoint and cover it. -/
theorem oPts_rows (d : Dev nD) (f : Buf (Elt F) (oLoc d)) :
    (oLoc d ↦{fullShare} f : sProp 𝕄) = bigSep Finset.univ fun w : Fin 32 => oLoc d ↦[orowSet w]{fullShare} f := by
  rw [← pointsTo_biUnion Finset.univ (ℓ := oLoc d) orowSet
    (fun i _ j _ h => by rw [orowSet_eq, orowSet_eq]; exact Rect.part_disjoint odiv h),
    (Finset.biUnion_congr rfl fun i _ => orowSet_eq i).trans (Rect.biUnion_part odiv)]; try rfl

/-- The operands whole are the tiles' parts. -/
theorem parts_eq (d : Dev nD) (g : Buf (Elt F) (oLoc d)) :
    (bigSep Finset.univ fun c : Fin 2 => bigSep Finset.univ fun i : Fin 16 => part fx fn d g (wOf c i))
      = (iprop((xLoc d ↦{fullShare} fx d) ∗ (nLoc d ↦{fullShare} fn d) ∗ (oLoc d ↦{fullShare} g)) : sProp 𝕄) := by
  have ex : (xLoc d ↦{fullShare} fx d : sProp 𝕄) = bigSep Finset.univ fun w : Fin 32 => xLoc d ↦{shareOf w} fx d :=
    pointsTo_piecesOf Finset.univ _ pos32 fullShare
  have en : (nLoc d ↦{fullShare} fn d : sProp 𝕄) = bigSep Finset.univ fun w : Fin 32 => nLoc d ↦{shareOf w} fn d :=
    pointsTo_piecesOf Finset.univ _ pos32 fullShare
  rw [← bigSep_rows (part fx fn d g), oPts_rows, ex, en]
  unfold part
  rw [bigSep_sep', bigSep_sep']

end Cert.Proof.Ranks

end

end
-- ==== Proof.TcBody.lean ====
/-
  The TensorCore kernel's body: one block of 128 columns ranked, 64 samples added up and scaled. The two calls run the same
  body; here it is run once, and what it leaves in the result's staging buffer named.
-/
module

public import proofs.«01_k».proof.Proof.Common
public import Idealize.ShloMosaic.Lib.Writes
public import Idealize.ShloMosaic.Lib.ValueIdx
public import Idealize.ShloMosaic.Lib.Pipeline.Value

@[expose] public section

noncomputable section

namespace Cert.Proof.Ranks

open Cert.KernelIdeal Cert.KernelIdeal.Gen

open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A block of 64 rows of 128 lanes, and 64 samples of one. -/
abbrev Blk (F : FTy → Type) : Type := S64x128.Idx → Elt F .f32
abbrev NBlk (F : FTy → Type) : Type := S64x64x128.Idx → Elt F .f32

/-- A row of a block is a slice of it. -/
theorem slices_row (b : ℕ) (h : b < 64) : S64x128.Slices ![b, 0] S1x128 := by
  refine ⟨rfl, fun a => ?_⟩
  match a with
  | ⟨0, _⟩ => show b + 1 ≤ 64; omega
  | ⟨1, _⟩ => show 0 + 128 ≤ 128; omega

/-- One where the block exceeds its row `b`, zero elsewhere. -/
def gtRow (v : FVec F S64x128 .f32) (b : ℕ) (h : b < 64) : FVec F S64x128 .f32 :=
  sitofp .f32 (extui 32 (cmpf .ogt v (broadcastTo S64x128 (extractStridedSlice S1x128 ![b, 0] v (slices_row b h)) broadcasts_S1x128_S64x128)) natLt_1_32)

/-- Rows `64 - n` and on counted into `acc`. -/
def gtRows (v : FVec F S64x128 .f32) : (n : ℕ) → n ≤ 64 → FVec F S64x128 .f32 → FVec F S64x128 .f32
  | 0, _, acc => acc
  | n + 1, h, acc => gtRows v n (by omega) (addf acc (gtRow v (64 - (n + 1)) (by omega)))

/-- Sample `k` of the noise block, as the body loads it. -/
def sampleOf (N : NBlk F) (k : ℕ) : Vec F S1x64x128 .f32 := fun y => N (ix3 (Fin.ofNat 64 k) (y 1) (y 2))

/-- The counts of the first `k` samples added up. -/
def tcAcc (X : Blk F) (N : NBlk F) : ℕ → FVec F S64x128 .f32
  | 0 => k1_pay2
  | k + 1 => gtRows (k1_pay5 (k1_pay1 X) (sampleOf N k)) 64 le_rfl (tcAcc X N k)

/-- What the body leaves in the result's block. -/
def tcBlock (X : Blk F) (N : NBlk F) : Blk F := k1_pay4 (tcAcc X N 64)

section Eqs

variable (i : grid1.Coords) (arg1 : Memref sig .tc .vmem S64x128 .f32) (harg1 : arg1.IsWhole) (arg2 : Memref sig .tc .vmem S64x64x128 .f32) (harg2 : arg2.IsWhole)
  (arg3 : Memref sig .tc .vmem S64x128 .f32) (harg3 : arg3.IsWhole)

set_option maxRecDepth 65536 in
set_option maxHeartbeats 4000000 in
/-- Trip `t` of the sample loop loads sample `t` and counts its 64 rows. -/
theorem k1_t1_body_eq (v0 : Vec F S64x128 .f32) (t : Fin k1_t1_loop.trips) (acc : FVec F S64x128 .f32) :
    k1_t1_body (F := F) i arg1 harg1 arg2 harg2 arg3 harg3 v0 t acc
      = .op (.load arg2 (Rect.unit (s := S64x64x128) (k1_off1 t) S1x64x128.size (k1_off1_inb t)).toLoadRect (View.loadsAt_vmem h_S1x64x128)) fun w : Vec F S1x64x128 .f32 =>
        .ret (gtRows (k1_pay5 (k1_pay1 v0) w) 64 le_rfl acc) := rfl

set_option maxRecDepth 65536 in
set_option maxHeartbeats 4000000 in
/-- The second call runs the first one's body. -/
theorem cc2_eq_cc1 : cc2__tc_rank_kernel (F := F) i arg1 harg1 arg2 harg2 arg3 harg3 = cc1__tc_rank_kernel (F := F) i arg1 harg1 arg2 harg2 arg3 harg3 := rfl

/-- The offsets of trip `t`'s load: sample `t`, from its first row and lane. -/
theorem k1_off1_eq (t : Fin k1_t1_loop.trips) : k1_off1 t = ![t.val, 0, 0] := by
  revert t; decide

end Eqs

section Run

variable (d : Dev nD) (i : grid1.Coords) (arg1 : Memref sig .tc .vmem S64x128 .f32) (harg1 : arg1.IsWhole) (arg2 : Memref sig .tc .vmem S64x64x128 .f32) (harg2 : arg2.IsWhole)
  (arg3 : Memref sig .tc .vmem S64x128 .f32) (harg3 : arg3.IsWhole)

/-- One trip of the sample loop. -/
theorem trip_wp (X : Blk F) (N : NBlk F) (t : Fin k1_t1_loop.trips) :
    (owns (SparseCore.T d) arg2 fullShare N : sProp 𝕄)
      ⊢ wp frame (wpE (defs₀ (F := F)) 𝒱₀ (SparseCore.T d) none) Set.univ (k1_t1_body (F := F) i arg1 harg1 arg2 harg2 arg3 harg3 X t (tcAcc X N t.val))
          fun a => iprop(⌜a = tcAcc X N (t.val + 1)⌝ ∗ owns (SparseCore.T d) arg2 fullShare N) := by
  rw [k1_t1_body_eq]
  unfold owns
  iintro ⟨%f, %hf, H⟩
  iapply (wp_load 𝒱₀ (SparseCore.T d) none Set.univ (defs := defs₀ (F := F)) (Γ := .empty) (m := arg2)
    (r := (Rect.unit (s := S64x64x128) (k1_off1 t) S1x64x128.size (k1_off1_inb t)).toLoadRect) (S := arg2.view.set) (q := fullShare)
    (f := f) (View.setOn_subset_set _ _)) $$ H
  iintro H
  have e : arg2.view.readAt (Elt F) (Rect.unit (s := S64x64x128) (k1_off1 t) S1x64x128.size (k1_off1_inb t)).toLoadRect f = sampleOf N t.val := by
    subst hf
    funext y
    rw [View.readAt_apply]
    unfold sampleOf
    congr 1
    have ht : t.val < 64 := lt_of_lt_of_eq t.isLt (by decide)
    have ho := k1_off1_eq t
    funext a
    apply Fin.ext
    match a with
    | 0 => have h0 : (y 0).val = 0 := by have := (y 0).isLt; simp [Rect.unit, Shape.size] at this; omega
           show k1_off1 t 0 + 1 * (y 0).val = t.val % 64
           have := congrFun ho 0; simp only [Matrix.cons_val] at this; rw [Nat.mod_eq_of_lt ht]; omega
    | 1 => show k1_off1 t 1 + 1 * (y 1).val = (y 1).val
           have := congrFun ho 1; simp only [Matrix.cons_val] at this; omega
    | 2 => show k1_off1 t 2 + 1 * (y 2).val = (y 2).val
           have := congrFun ho 2; simp only [Matrix.cons_val] at this; omega
  rw [e, wp_ret]
  imodintro
  isplitr; · ipureintro; rfl
  iexists f
  isplitr; · ipureintro; exact hf
  iexact H

/-- The body runs from its three staging buffers and leaves the ranked block in the third. -/
theorem tc_wp (X : Blk F) (N : NBlk F) (Y : Blk F) :
    iprop((owns (SparseCore.T d) arg1 fullShare X : sProp 𝕄) ∗ owns (SparseCore.T d) arg2 fullShare N ∗ owns (SparseCore.T d) arg3 fullShare Y)
      ⊢ wp frame (wpE (defs₀ (F := F)) 𝒱₀ (SparseCore.T d) none) Set.univ (cc1__tc_rank_kernel (F := F) i arg1 harg1 arg2 harg2 arg3 harg3)
          fun _ => iprop(owns (SparseCore.T d) arg1 fullShare X ∗ owns (SparseCore.T d) arg2 fullShare N ∗ owns (SparseCore.T d) arg3 fullShare (tcBlock X N)) := by
  rw [cc1__tc_rank_kernel_eq_skeleton]
  unfold cc1__tc_rank_kernel_skel
  have hid : ∀ (y : (Rect.unit (s := S64x128) ![0, 0] S64x128.size inb_S64x128_S64x128_0_0).shape.Idx),
      (Rect.unit (s := S64x128) ![0, 0] S64x128.size inb_S64x128_S64x128_0_0).emb y = y := by
    intro y; funext a; apply Fin.ext
    match a with
    | 0 => show 0 + 1 * (y 0).val = (y 0).val; omega
    | 1 => show 0 + 1 * (y 1).val = (y 1).val; omega
  iintro ⟨H1, H2, H3⟩
  rw [wp_bind]
  unfold owns
  icases H1 with ⟨%f1, %hf1, H1⟩
  icases H3 with ⟨%f3, %hf3, H3⟩
  iapply (wp_load 𝒱₀ (SparseCore.T d) none Set.univ (defs := defs₀ (F := F)) (Γ := .empty) (m := arg1)
    (r := (Rect.unit (s := S64x128) ![0, 0] S64x128.size inb_S64x128_S64x128_0_0).toLoadRect) (S := arg1.view.set) (q := fullShare)
    (f := f1) (View.setOn_subset_set _ _)) $$ H1
  iintro H1
  have e1 : arg1.view.readAt (Elt F) (Rect.unit (s := S64x128) ![0, 0] S64x128.size inb_S64x128_S64x128_0_0).toLoadRect f1 = X := by
    subst hf1
    funext y
    rw [View.readAt_apply]
    exact congrArg _ (hid y)
  rw [e1, wp_ret]
  imodintro
  rw [wp_bind]
  iapply (Scf.wp_for frame (wpE (defs₀ (F := F)) 𝒱₀ (SparseCore.T d) none) Set.univ _ _ _ k1_t1_ok (k1_pay2 (F := F)) _
    (fun k a => iprop(⌜a = tcAcc X N k⌝ ∗ owns (SparseCore.T d) arg2 fullShare N)) ?_)
  · intro k a
    iintro ⟨%ha, H⟩
    subst ha
    iapply (trip_wp d i arg1 harg1 arg2 harg2 arg3 harg3 X N k)
    iexact H
  rw [show Scf.trips k1_t1_loop.lb k1_t1_loop.ub k1_t1_loop.st = 64 by decide]
  isplitl [H2]
  · isplitr; · ipureintro; rfl
    unfold owns; iexact H2
  iintro %a ⟨%ha, H2⟩
  subst ha
  rw [wp_bind]
  iapply (wp_load 𝒱₀ (SparseCore.T d) none Set.univ (defs := defs₀ (F := F)) (Γ := .empty) (m := arg3)
    (r := (Rect.unit (s := S64x128) ![0, 0] S64x128.size inb_S64x128_S64x128_0_0).toLoadRect) (S := arg3.view.set) (q := fullShare)
    (f := f3) (View.setOn_subset_set _ _)) $$ H3
  iintro H3
  rw [wp_ret]
  imodintro
  rw [wp_bind]
  iapply (wp_store 𝒱₀ (SparseCore.T d) none Set.univ (defs := defs₀ (F := F)) (Γ := .empty) (m := arg3)
    (r := Rect.unit (s := S64x128) ![0, 0] S64x128.size inb_S64x128_S64x128_0_0) (S := arg3.view.set)
    (f := f3) (View.setOn_slice_subset_set _ _ _)) $$ H3
  iintro H3
  rw [wp_ret]
  imodintro
  rw [wp_pure]
  imodintro
  isplitl [H1]
  · iexists f1; isplitr; · ipureintro; exact hf1
    iexact H1
  isplitl [H2]; · unfold owns; iexact H2
  iexists _
  isplitr
  swap; · iexact H3
  ipureintro
  funext y
  show arg3.view.read (Elt F) (arg3.view.writes (Elt F) f3 [⟨Rect.unit (s := S64x128) ![0, 0] S64x128.size inb_S64x128_S64x128_0_0, k1_pay4 (tcAcc X N 64)⟩]) y = _
  refine View.read_writes_cons_hit_of_coords arg3.view f3 (Rect.unit (s := S64x128) ![0, 0] S64x128.size inb_S64x128_S64x128_0_0) (k1_pay4 (tcAcc X N 64)) [] y y ?_
  intro a
  match a with
  | 0 => show (y 0).val = 0 + 1 * (y 0).val; omega
  | 1 => show (y 1).val = 0 + 1 * (y 1).val; omega

end Run

end Cert.Proof.Ranks

end

end
-- ==== Proof.TcRegion.lean ====
/-
  The two TensorCore calls as regions of the host program: each entered with every unscoped buffer at a valuation and left
  with the result's array at the ranked blocks, all other buffers as they were.
-/
module

public import proofs.«01_k».proof.Proof.TcBody
public import Idealize.ShloMosaic.Lib.Pipeline.RegionsLoop
public import Idealize.ShloMosaic.Lib.Pipeline.FrameTail

@[expose] public section

noncomputable section

namespace Cert.Proof.Ranks

open Cert.KernelIdeal Cert.KernelIdeal.Gen

open Idealize.ShloMosaic Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose arrRef ucRefs unscopedBufs_held afterRegion afterRegion_arr afterRegion_of_not_arr)

variable {F : FTy → Type} [FloatOps F]

local notation "𝕄" => MT nD τ sig (HIx 1) (Elt F) ℕ UU ℕ

/-- The waits a TensorCore has recorded after the SparseCore call. -/
abbrev Rec (c : Dev nD) : Set (SemLoc sig × HIx 1) := {p | (K (F := F)).lev (SparseCore.T c, p.1) p.2 ≤ 8}

variable (V : Dev nD → Valuation τ sig (Elt F))

/-- The first call's blocks, as the fetches stage them. -/
def xBlk1 (c : Dev nD) (t : Fin cfg1.N) : Blk F := ((cfg1.win 0).blk t).view.read (Elt F) (V c (Proc.devRef .tc (arrRef spec1 0)))
def nBlk1 (c : Dev nD) (t : Fin cfg1.N) : NBlk F := ((cfg1.win 1).blk t).view.read (Elt F) (V c (Proc.devRef .tc (arrRef spec1 1)))

/-- The proof data of the first call: the inputs left as fetched, the result's block ranked. -/
def dat1 (c : Dev nD) : Dat τ (Elt F) (HIx 1) ℕ UU ℕ cfg1 c where
  A w := V c (Proc.devRef .tc (arrRef spec1 w))
  after w t := match w with
    | ⟨0, _⟩ => xBlk1 V c t
    | ⟨1, _⟩ => nBlk1 V c t
    | ⟨2, _⟩ => tcBlock (xBlk1 V c t) (nBlk1 V c t)
  Φ _ := Pipeline.scopedRest (Ix := HIx 1) (Name := ℕ) (U := UU) (Lvl := ℕ) (Val := Elt F) spec1 c
  q _ := fullShare
  owed _ := 0
  recorded _ := Rec (F := F) c

/-- The second call's blocks, as the fetches stage them. -/
def xBlk2 (c : Dev nD) (t : Fin cfg2.N) : Blk F := ((cfg2.win 0).blk t).view.read (Elt F) (V c (Proc.devRef .tc (arrRef spec2 0)))
def nBlk2 (c : Dev nD) (t : Fin cfg2.N) : NBlk F := ((cfg2.win 1).blk t).view.read (Elt F) (V c (Proc.devRef .tc (arrRef spec2 1)))

/-- The proof data of the second call. -/
def dat2 (c : Dev nD) : Dat τ (Elt F) (HIx 1) ℕ UU ℕ cfg2 c where
  A w := V c (Proc.devRef .tc (arrRef spec2 w))
  after w t := match w with
    | ⟨0, _⟩ => xBlk2 V c t
    | ⟨1, _⟩ => nBlk2 V c t
    | ⟨2, _⟩ => tcBlock (xBlk2 V c t) (nBlk2 V c t)
  Φ _ := Pipeline.scopedRest (Ix := HIx 1) (Name := ℕ) (U := UU) (Lvl := ℕ) (Val := Elt F) spec2 c
  q _ := fullShare
  owed _ := 0
  recorded _ := Rec (F := F) c

/-- The first call's body meets its obligation at every point. -/
theorem body1 (c : Dev nD) : BodyObligation (dat1 V c) (defs₀ (F := F)) 𝒱₀ none Set.univ := fun t => by
  rw [bigSep_W1, bigSep_W1, show (dat1 V c).Φ t.succ = (dat1 V c).Φ t.castSucc from rfl,
    show (dat1 V c).owesAt none t.succ = (dat1 V c).owesAt none t.castSucc from rfl]
  iintro ⟨HΦ, HO, ⟨%d0, H0⟩, ⟨%d1, H1⟩, ⟨%d2, H2⟩⟩
  have e0 : (dat1 V c).before 0 t d0 = xBlk1 V c t := (dat1 V c).before_fetched 0 t (fetch1_0 t) d0
  have e1 : (dat1 V c).before 1 t d1 = nBlk1 V c t := (dat1 V c).before_fetched 1 t (fetch1_1 t) d1
  rw [e0, e1]
  have h := tc_wp (F := F) c (grid1.coords t) (win1_0.stage (cfg1.slots t 0)) (hstage1_0 ((cfg1.slots t 0).cast nbuf1_0)) (win1_1.stage (cfg1.slots t 1))
    (hstage1_1 ((cfg1.slots t 1).cast nbuf1_1)) (win1_2.stage (cfg1.slots t 2)) (hstage1_2 ((cfg1.slots t 2).cast nbuf1_2)) (xBlk1 V c t) (nBlk1 V c t) ((dat1 V c).before 2 t d2)
  iapply (wp_wand frame (wpE (defs₀ (F := F)) 𝒱₀ (SparseCore.T c) none) Set.univ) $$ [H0 H1 H2]
  · iapply h
    isplitl [H0]; · iexact H0
    isplitl [H1]; · iexact H1
    iexact H2
  iintro %_ ⟨H0, H1, H2⟩
  isplitl [HΦ]; · iexact HΦ
  isplitl [HO]; · iexact HO
  isplitl [H0]; · iexact H0
  isplitl [H1]; · iexact H1
  iexact H2

/-- The second call's body meets its obligation at every point. -/
theorem body2 (c : Dev nD) : BodyObligation (dat2 V c) (defs₀ (F := F)) 𝒱₀ none Set.univ := fun t => by
  rw [bigSep_W2, bigSep_W2, show (dat2 V c).Φ t.succ = (dat2 V c).Φ t.castSucc from rfl,
    show (dat2 V c).owesAt none t.succ = (dat2 V c).owesAt none t.castSucc from rfl]
  iintro ⟨HΦ, HO, ⟨%d0, H0⟩, ⟨%d1, H1⟩, ⟨%d2, H2⟩⟩
  have e0 : (dat2 V c).before 0 t d0 = xBlk2 V c t := (dat2 V c).before_fetched 0 t (fetch2_0 t) d0
  have e1 : (dat2 V c).before 1 t d1 = nBlk2 V c t := (dat2 V c).before_fetched 1 t (fetch2_1 t) d1
  rw [e0, e1]
  have h := tc_wp (F := F) c (grid2.coords t) (win2_0.stage (cfg2.slots t 0)) (hstage2_0 ((cfg2.slots t 0).cast nbuf2_0)) (win2_1.stage (cfg2.slots t 1))
    (hstage2_1 ((cfg2.slots t 1).cast nbuf2_1)) (win2_2.stage (cfg2.slots t 2)) (hstage2_2 ((cfg2.slots t 2).cast nbuf2_2)) (xBlk2 V c t) (nBlk2 V c t) ((dat2 V c).before 2 t d2)
  rw [← cc2_eq_cc1] at h
  iapply (wp_wand frame (wpE (defs₀ (F := F)) 𝒱₀ (SparseCore.T c) none) Set.univ) $$ [H0 H1 H2]
  · iapply h
    isplitl [H0]; · iexact H0
    isplitl [H1]; · iexact H1
    iexact H2
  iintro %_ ⟨H0, H1, H2⟩
  isplitl [HΦ]; · iexact HΦ
  isplitl [HO]; · iexact HO
  isplitl [H0]; · iexact H0
  isplitl [H1]; · iexact H1
  iexact H2

/-- Nothing is prefetched: the one admissible table. -/
abbrev adm : (p : Fin 2) → (pcfgs (F := F) p).Adm := fun p => (cfgs p).toPCfg_adm

/-- Both calls' proof data, each at its own entry valuation. -/
def pdats (W : Dev nD → Valuation τ sig (Elt F)) : (p : Fin 2) → (c : Dev nD) → Dat τ (Elt F) (HIx 1) ℕ UU ℕ (Pipeline.pin (pcfgs (F := F)) adm p) c
  | ⟨0, _⟩ => fun c => dat1 V c
  | ⟨1, _⟩ => fun c => dat2 W c

/-- What the TensorCore owes between the calls: nothing, every wait recorded at the SparseCore call's level or below. -/
def quiet (c : Dev nD) : sProp 𝕄 := iprop(∃ W, ⌜(K (F := F)).WBelow (SparseCore.T c) W 8⌝ ∗ owes (SparseCore.T c) (0 : CellTallies nD τ sig (HIx 1)) W)

section Region

variable (p : Fin 2) (kit : Pipeline.LaunchFacts (nD := nD) (τ := τ) cfgs p) (U₀ : Dev nD → Valuation τ sig (Elt F))
  (dats : (p : Fin 2) → (c : Dev nD) → Dat τ (Elt F) (HIx 1) ℕ UU ℕ (Pipeline.pin (pcfgs (F := F)) adm p) c)
  (hA : ∀ c w, (dats p c).A w = U₀ c (Proc.devRef .tc (arrRef (cfgs p).spec w)))
  (hq : ∀ c w, (dats p c).share w = fullShare) (ho : ∀ c t, (dats p c).owed t = 0) (hr : ∀ c t, (dats p c).recorded t = Rec (F := F) c)
  (hΦ : ∀ c t, (dats p c).Φ t = Pipeline.scopedRest (Ix := HIx 1) (Name := ℕ) (U := UU) (Lvl := ℕ) (Val := Elt F) (cfgs p).spec c)
  (hb : ∀ c, BodyObligationLoose (dats p c) (defs₀ (F := F)) 𝒱₀ none Set.univ)

set_option backward.isDefEq.respectTransparency.types false in
/-- One call as a region over every unscoped buffer at a valuation and what the core owes. -/
def region : Pipeline.RegionSeg (pcfgs (F := F)) adm dats (none : HIx 1) defs₀ 𝒱₀ (K (F := F)).L (K (F := F)).lev p where
  win := (kit.toP (Val := Elt F)).win.to₀
  block_pos := (kit.toP (Val := Elt F)).block_pos
  stage_whole := (kit.toP (Val := Elt F)).stage_whole
  K := PEmpty
  osem k := k.elim
  ho := Pipeline.OwnSemFacts.none _
  hbody := hb
  hwaits := Pipeline.hwaits_of_owed_zero _ _ _ _ _ _ p ho
  pre c := iprop(StableHlo.held (c.tc : Thread nD τ) (ucRefs τ sig) (U₀ c) ∗ quiet c)
  post c := iprop(StableHlo.held (c.tc : Thread nD τ) (ucRefs τ sig) (afterRegion (cfg := cfgs p) (dats p c) (U₀ c)) ∗ quiet c)
  X _ := BI.emp
  Y _ := BI.emp
  Z c := Pipeline.unscopedRest (Ix := HIx 1) (Name := ℕ) (U := UU) (Lvl := ℕ) (cfgs p).spec c (fun b => U₀ c (Proc.devRef .tc b))
  hentry c := by
    rw [Pipeline.ownSems0_none,
      show (StableHlo.held (c.tc : Thread nD τ) (ucRefs τ sig) (U₀ c) : sProp 𝕄) = unscopedBufs c (fun b => U₀ c (Proc.devRef .tc b))
        from (unscopedBufs_held (Ix := HIx 1) (Name := ℕ) (U := UU) (Lvl := ℕ) c (U₀ c)).symm]
    have hsplit := Pipeline.arrays_of_unscopedBufs (p := p) (pcfgs (F := F)) adm dats (kit.toP (Val := Elt F)).win (kit.toP (Val := Elt F)).arr_whole c
      (hq c) (fun b => U₀ c (Proc.devRef .tc b)) (fun w => hA c w)
    iintro ⟨⟨Hub, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin quiet
      rw [ho c 0]
      icases HO with ⟨%W, %hW, HO⟩; iexists W; isplitr
      · ipureintro; intro x hx; unfold Pipeline.Dat.bound; rw [hr c 0]; exact Or.inl (hW x hx)
      iexact HO
    isplitr; · iempintro
    iexact Hrest
  hin c := by
    rw [hΦ c 0]
    iintro ⟨-, -, Hr⟩; iexact Hr
  hout c := by
    rw [Pipeline.ownSems0_none, hΦ c (Fin.last _)]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ)
      (kit.toP (Val := Elt F)).win (kit.toP (Val := Elt F)).arr_whole c dats (hq c)
      (fun b => U₀ c (Proc.devRef .tc b)) (fun b => afterRegion (cfg := cfgs p) (dats p c) (U₀ c) (Proc.devRef .tc b)) ((dats p c).arrAt · (cfgs p).N)
      (fun w => (afterRegion_arr (cfg := cfgs p) (dats p c) (U₀ c) kit.win.arr_inj w).symm)
      (fun b hb => afterRegion_of_not_arr (cfg := cfgs p) (dats p c) (U₀ c)
        fun w h => hb (h ▸ Finset.mem_image.mpr ⟨w, Finset.mem_univ _, rfl⟩))
    rw [show (StableHlo.held (c.tc : Thread nD τ) (ucRefs τ sig) (afterRegion (cfg := cfgs p) (dats p c) (U₀ c)) : sProp 𝕄)
        = unscopedBufs c (fun b => afterRegion (cfg := cfgs p) (dats p c) (U₀ c) (Proc.devRef .tc b))
        from (unscopedBufs_held (Ix := HIx 1) (Name := ℕ) (U := UU) (Lvl := ℕ) c _).symm]
    iintro ⟨Ha, HO, -, Hrest⟩
    imodintro
    isplitl [Ha Hrest]
    · iapply hjoin; isplitl [Ha] <;> iassumption
    unfold Pipeline.Dat.owesAt Pipeline.owesWithin quiet
    rw [ho c (Fin.last _)]
    icases HO with ⟨%W, %hW, HO⟩; iexists W
    isplitr
    · ipureintro
      intro x hx
      rcases hW hx with h | ⟨w, s, rfl⟩
      · rw [hr c] at h; exact h
      · exact Nat.zero_le _
    iexact HO

end Region

end Cert.Proof.Ranks

end

end
-- ==== Proof.Line.lean ====
/-
  Straight lines of host operations: a program that is one, with the list of its operations; a program that begins with
  one and goes on as another program; and how the values after a line split at any place in it.
-/
module

public import Idealize.ShloMosaic.Lib.StableHlo.RunRead
public import Idealize.ShloMosaic.Lib.Pipeline.FrameTail

@[expose] public section

noncomputable section

namespace Cert.Proof.Ranks

open Idealize.ShloMosaic Idealize.ShloMosaic.StableHlo Idealize.SL.Sem

variable {nD : ℕ} {τ : Topo} {sig : RefSig} {Val : EltTy → Type} {Λ : Labels}

/-- A program that is a straight line of host operations, with the list of them: each one reads and writes whole
    TensorCore buffers and determines what it writes. -/
inductive Line : Prog (TpuEff nD τ sig Val Λ .tc) PUnit → List (HloOp τ sig Val) → Prop
  | nil : Line (pure ⟨⟩) []
  | cons (op : HloOp τ sig Val) (hb : op.bufs ⊆ tcRefs τ sig) (hf : op.fresh = ∅)
      {p : Prog (TpuEff nD τ sig Val Λ .tc) PUnit} {l : List (HloOp τ sig Val)} (h : Line p l) :
      Line ((hlo rfl op fun _ => .ret (⟨⟩ : PUnit)) >>= fun _ => p) (op :: l)
  | app {p q : Prog (TpuEff nD τ sig Val Λ .tc) PUnit} {l l' : List (HloOp τ sig Val)} (hp : Line p l) (hq : Line q l') :
      Line (p >>= fun _ => q) (l ++ l')

/-- A straight line is the program its list spells. -/
theorem Line.eq_seq {p : Prog (TpuEff nD τ sig Val Λ .tc) PUnit} {l : List (HloOp τ sig Val)} (h : Line p l) : p = seq l := by
  induction h with
  | nil => rfl
  | cons op hb hf h ih => rw [seq, ih]
  | app hp hq ihp ihq => rw [seq_append, ihp, ihq]

/-- Its operations touch buffers of tensor values only. -/
theorem Line.bufs {p : Prog (TpuEff nD τ sig Val Λ .tc) PUnit} {l : List (HloOp τ sig Val)} (h : Line p l) :
    ∀ op ∈ l, op.bufs ⊆ tcRefs τ sig := by
  induction h with
  | nil => simp
  | cons op hb hf h ih => simpa using ⟨hb, ih⟩
  | app hp hq ihp ihq => intro op ho; rcases List.mem_append.mp ho with h | h <;> aesop

/-- Its operations determine all they write. -/
theorem Line.fresh {p : Prog (TpuEff nD τ sig Val Λ .tc) PUnit} {l : List (HloOp τ sig Val)} (h : Line p l) :
    ∀ op ∈ l, op.fresh = ∅ := by
  induction h with
  | nil => simp
  | cons op hb hf h ih => simpa using ⟨hf, ih⟩
  | app hp hq ihp ihq => intro op ho; rcases List.mem_append.mp ho with h | h <;> aesop

/-- A program that runs a straight line of host operations first and then goes on as another. -/
inductive Lead : Prog (TpuEff nD τ sig Val Λ .tc) PUnit → List (HloOp τ sig Val) → Prog (TpuEff nD τ sig Val Λ .tc) PUnit → Prop
  | nil (q : Prog (TpuEff nD τ sig Val Λ .tc) PUnit) : Lead q [] q
  | cons (op : HloOp τ sig Val) (hb : op.bufs ⊆ tcRefs τ sig) (hf : op.fresh = ∅)
      {p q : Prog (TpuEff nD τ sig Val Λ .tc) PUnit} {l : List (HloOp τ sig Val)} (h : Lead p l q) :
      Lead ((hlo rfl op fun _ => .ret (⟨⟩ : PUnit)) >>= fun _ => p) (op :: l) q
  | app {p q r : Prog (TpuEff nD τ sig Val Λ .tc) PUnit} {l l' : List (HloOp τ sig Val)} (hp : Line p l) (hq : Lead q l' r) :
      Lead (p >>= fun _ => q) (l ++ l') r

/-- Such a program is its list, then the other program. -/
theorem Lead.eq_seq {p q : Prog (TpuEff nD τ sig Val Λ .tc) PUnit} {l : List (HloOp τ sig Val)} (h : Lead p l q) :
    p = seq l >>= fun _ => q := by
  induction h with
  | nil q => rfl
  | cons op hb hf h ih => rw [seq, ih, bind_assoc]
  | app hp hq ih => rw [seq_append, hp.eq_seq, ih, bind_assoc]

/-- Its first operations touch buffers of tensor values only. -/
theorem Lead.bufs {p q : Prog (TpuEff nD τ sig Val Λ .tc) PUnit} {l : List (HloOp τ sig Val)} (h : Lead p l q) :
    ∀ op ∈ l, op.bufs ⊆ tcRefs τ sig := by
  induction h with
  | nil q => simp
  | cons op hb hf h ih => simpa using ⟨hb, ih⟩
  | app hp hq ih => intro op ho; rcases List.mem_append.mp ho with h | h; exacts [hp.bufs op h, ih op h]

/-- Its first operations determine all they write. -/
theorem Lead.fresh {p q : Prog (TpuEff nD τ sig Val Λ .tc) PUnit} {l : List (HloOp τ sig Val)} (h : Lead p l q) :
    ∀ op ∈ l, op.fresh = ∅ := by
  induction h with
  | nil q => simp
  | cons op hb hf h ih => simpa using ⟨hf, ih⟩
  | app hp hq ih => intro op ho; rcases List.mem_append.mp ho with h | h; exacts [hp.fresh op h, ih op h]

/-- The values after a line are the values after its rest, run from those after its first `n` operations. -/
theorem after_split (n : ℕ) (l : List (HloOp τ sig Val)) (V : Valuation τ sig Val) :
    after l V = after (l.drop n) (after (l.take n) V) := by
  rw [← after_append, List.take_append_drop]

end Cert.Proof.Ranks

end

end
-- ==== Proof.KerLine.lean ====
/-
  The straight lines of host operations of the kernel's @main, as lists.
-/
module

public import proofs.«01_k».proof.Proof.Common
public import proofs.«01_k».proof.Proof.Line

@[expose] public section

noncomputable section

namespace Cert.Proof.Ranks

open Cert.KernelIdeal Cert.KernelIdeal.Gen
open Idealize.ShloMosaic Idealize.ShloMosaic.StableHlo Idealize.SL.Sem

variable {F : FTy → Type} [FloatOps F]

set_option maxHeartbeats 2000000 in
set_option maxRecDepth 65536 in
/-- Window 0 of the random bits' cipher, as a straight line. -/
def bits0 : { l : List (HloOp τ sig (Elt F)) // Line (fn_threefry2x32.body_part0 (.of main_call0_call0_v4) (.of main_call0_call0_v6)
    (.of main_call0_call0_v21) (.of main_call0_call0_v20) main_call0_call0_call0) l } := by
  apply Subtype.mk
  unfold fn_threefry2x32.body_part0
  repeat
    apply Line.cons
    first | with_reducible exact nullary_bufs_sub .. | with_reducible exact unary_bufs_sub .. | with_reducible exact binary_bufs_sub ..
    rfl
  exact Line.nil

set_option maxHeartbeats 2000000 in
set_option maxRecDepth 65536 in
/-- Window 1 of the random bits' cipher, as a straight line. -/
def bits1 : { l : List (HloOp τ sig (Elt F)) // Line (fn_threefry2x32.body_part1 (.of main_call0_call0_v4) (.of main_call0_call0_v6)
    (.of main_call0_call0_v21) (.of main_call0_call0_v20) main_call0_call0_call0) l } := by
  apply Subtype.mk
  unfold fn_threefry2x32.body_part1
  repeat
    apply Line.cons
    first | with_reducible exact nullary_bufs_sub .. | with_reducible exact unary_bufs_sub .. | with_reducible exact binary_bufs_sub ..
    rfl
  exact Line.nil

set_option maxHeartbeats 2000000 in
set_option maxRecDepth 65536 in
/-- Window 2 of the random bits' cipher, as a straight line. -/
def bits2 : { l : List (HloOp τ sig (Elt F)) // Line (fn_threefry2x32.body_part2 (.of main_call0_call0_v4) (.of main_call0_call0_v6)
    (.of main_call0_call0_v21) (.of main_call0_call0_v20) main_call0_call0_call0) l } := by
  apply Subtype.mk
  unfold fn_threefry2x32.body_part2
  repeat
    apply Line.cons
    first | with_reducible exact nullary_bufs_sub .. | with_reducible exact unary_bufs_sub .. | with_reducible exact binary_bufs_sub ..
    rfl
  exact Line.nil

set_option maxHeartbeats 2000000 in
set_option maxRecDepth 65536 in
/-- Window 3 of the random bits' cipher, as a straight line. -/
def bits3 : { l : List (HloOp τ sig (Elt F)) // Line (fn_threefry2x32.body_part3 (.of main_call0_call0_v4) (.of main_call0_call0_v6)
    (.of main_call0_call0_v21) (.of main_call0_call0_v20) main_call0_call0_call0) l } := by
  apply Subtype.mk
  unfold fn_threefry2x32.body_part3
  repeat
    apply Line.cons
    first | with_reducible exact nullary_bufs_sub .. | with_reducible exact unary_bufs_sub .. | with_reducible exact binary_bufs_sub ..
    rfl
  exact Line.nil

/-- The cipher's operations. -/
def bits : List (HloOp τ sig (Elt F)) := bits0.1 ++ (bits1.1 ++ (bits2.1 ++ bits3.1))

theorem bits_line : Line (fn_threefry2x32.body (F := F) (.of main_call0_call0_v4) (.of main_call0_call0_v6)
    (.of main_call0_call0_v21) (.of main_call0_call0_v20) main_call0_call0_call0) bits :=
  .app bits0.2 (.app bits1.2 (.app bits2.2 bits3.2))

set_option maxHeartbeats 2000000 in
set_option maxRecDepth 65536 in
/-- The uniform samples: the counters, the cipher, the bits as floats. -/
def unif : { l : List (HloOp τ sig (Elt F)) // Line (fn_uniform.body (.of main_v6) main_call0.cst main_call0.cst_0 main_call0_call0) l } := by
  apply Subtype.mk
  unfold fn_uniform.body
  repeat
    with_reducible apply Line.cons
    first | with_reducible exact nullary_bufs_sub .. | with_reducible exact unary_bufs_sub .. | with_reducible exact binary_bufs_sub .. | with_reducible exact reshape_bufs_sub ..
    rfl
  apply Line.app bits_line
  repeat
    with_reducible apply Line.cons
    first | with_reducible exact nullary_bufs_sub .. | with_reducible exact unary_bufs_sub .. | with_reducible exact binary_bufs_sub ..
    rfl
  exact Line.nil

set_option maxHeartbeats 2000000 in
set_option maxRecDepth 65536 in
/-- The Gumbel samples from the uniform ones. -/
def gumb : { l : List (HloOp τ sig (Elt F)) // Line (fn_gumbel.body (.of main_v6) main_call0) l } := by
  apply Subtype.mk
  unfold fn_gumbel.body
  repeat
    with_reducible apply Line.cons
    with_reducible exact nullary_bufs_sub ..
    rfl
  apply Line.app unif.2
  repeat
    with_reducible apply Line.cons
    with_reducible exact unary_bufs_sub ..
    rfl
  exact Line.nil

/-- A program of the TensorCore of this mesh. -/
abbrev HostProg (F : FTy → Type) [FloatOps F] : Type 1 :=
  Prog (TpuEff nD τ sig (Elt F) (SparseCore.Sig (Pipeline.Sig Λ₀ (Fin 2) fun p => (pcfgs (F := F) p).Adm) 1) .tc) PUnit

set_option maxHeartbeats 2000000 in
set_option maxRecDepth 65536 in
/-- The operations before the SparseCore call: the key, the noise and the parts of it each call works on. -/
def ops0 : Σ' (q : Dev nD → HostProg F) (l : List (HloOp τ sig (Elt F))), PLift (∀ d, Lead (main (F := F) d) l (sc.run d 0 >>= fun _ => q d)) := by
  apply PSigma.mk
  apply PSigma.mk
  apply PLift.up
  intro d
  unfold main
  repeat
    with_reducible apply Lead.cons
    first | with_reducible exact nullary_bufs_sub .. | with_reducible exact unary_bufs_sub .. | with_reducible exact binary_bufs_sub ..
    rfl
  apply Lead.app gumb.2
  repeat
    with_reducible apply Lead.cons
    first | with_reducible exact nullary_bufs_sub .. | with_reducible exact unary_bufs_sub .. | with_reducible exact binary_bufs_sub .. | with_reducible exact reshape_bufs_sub ..
    rfl
  exact Lead.nil _

/-- The operations between the SparseCore call and the first TensorCore call. -/
def ops1 : Σ' (q : Dev nD → HostProg F) (l : List (HloOp τ sig (Elt F))), PLift (∀ d, Lead ((ops0 (F := F)).1 d) l (Prog.lift (.customCall (SparseCore.inner (Pipeline.entry 0)) ()) >>= fun _ => q d)) := by
  apply PSigma.mk
  apply PSigma.mk
  apply PLift.up
  intro d
  unfold ops0
  dsimp only
  repeat
    with_reducible apply Lead.cons
    with_reducible exact unary_bufs_sub ..
    rfl
  exact Lead.nil _

/-- The operation between the two TensorCore calls. -/
def ops2 : Σ' (q : Dev nD → HostProg F) (l : List (HloOp τ sig (Elt F))), PLift (∀ d, Lead ((ops1 (F := F)).1 d) l (Prog.lift (.customCall (SparseCore.inner (Pipeline.entry 1)) ()) >>= fun _ => q d)) := by
  apply PSigma.mk
  apply PSigma.mk
  apply PLift.up
  intro d
  unfold ops1
  dsimp only
  repeat
    with_reducible apply Lead.cons
    with_reducible exact unary_bufs_sub ..
    rfl
  exact Lead.nil _

/-- The operations after the calls: the three results put back in one array. -/
def ops3 : Σ' (l : List (HloOp τ sig (Elt F))), PLift (∀ d, Line ((ops2 (F := F)).1 d) l) := by
  apply PSigma.mk
  apply PLift.up
  intro d
  unfold ops2
  dsimp only
  repeat
    with_reducible apply Line.cons
    first | with_reducible exact unary_bufs_sub .. | with_reducible exact reshape_bufs_sub .. | exact nary_bufs_sub ..
    rfl
  exact Line.nil

end Cert.Proof.Ranks

end

end
-- ==== Proof.Main.lean ====
/-
  The kernel's whole run: @main's straight lines, its SparseCore call and its two TensorCore calls in turn, the values of
  every buffer carried through; then the launch of all the threads.
-/
module

public import proofs.«01_k».proof.Proof.Call
public import proofs.«01_k».proof.Proof.TcRegion
public import proofs.«01_k».proof.Proof.KerLine

@[expose] public section

noncomputable section

namespace Cert.Proof.Ranks

open Cert.KernelIdeal Cert.KernelIdeal.Gen

open Idealize.ShloMosaic
open Idealize.ShloMosaic.Pipeline (ucRefs arrRef afterRegion LaunchFacts)
open Idealize.ShloMosaic.StableHlo (held after seq launchContents)
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## What every buffer holds, call by call -/

/-- After the operations before the SparseCore call. -/
def V1 (d : Dev nD) : Valuation τ sig (Elt F) := after ops0.2.1 (launchContents m d)
/-- The SparseCore call's operands, and what its result's buffer held. -/
def fx (d : Dev nD) : S32x64x16.Idx → Elt F .f32 := V1 m d (Proc.devRef .tc main_v19)
def fn (d : Dev nD) : S32x64x64x16.Idx → Elt F .f32 := V1 m d (Proc.devRef .tc main_v16)
def fo (d : Dev nD) : Buf (Elt F) (oLoc d) := V1 m d (Proc.devRef .tc main_v20)
/-- After the SparseCore call. -/
def V2 (d : Dev nD) : Valuation τ sig (Elt F) := Function.update (V1 m d) (Proc.devRef .tc main_v20) (outB (fx m) (fn m) d)
/-- After the operations before the first TensorCore call, and after the call. -/
def V3 (d : Dev nD) : Valuation τ sig (Elt F) := after ops1.2.1 (V2 m d)
def V4 (d : Dev nD) : Valuation τ sig (Elt F) := afterRegion (cfg := cfgs 0) (dat1 (V3 m) d) (V3 m d)
/-- After the operation before the second TensorCore call, and after the call. -/
def V5 (d : Dev nD) : Valuation τ sig (Elt F) := after ops2.2.1 (V4 m d)
def V6 (d : Dev nD) : Valuation τ sig (Elt F) := afterRegion (cfg := cfgs 1) (dat2 (V5 m) d) (V5 m d)
/-- At the end. -/
def V7 (d : Dev nD) : Valuation τ sig (Elt F) := after ops3.1 (V6 m d)

/-! ## The two TensorCore calls -/

/-- Both calls' proof data. -/
abbrev pds : (p : Fin 2) → (c : Dev nD) → Pipeline.Dat τ (Elt F) (HIx 1) ℕ UU ℕ (Pipeline.pin (pcfgs (F := F)) adm p) c := pdats (V3 m) (V5 m)

def reg0 : Pipeline.RegionSeg (pcfgs (F := F)) adm (pds m) (none : HIx 1) defs₀ 𝒱₀ (K (F := F)).L (K (F := F)).lev 0 :=
  region 0 launch1 (V3 m) (pds m) (fun _ _ => rfl) (fun c _ => (dat1 (V3 m) c).share_full (fun _ => rfl) _) (fun _ _ => rfl) (fun _ _ => rfl)
    (fun _ _ => rfl) (fun c => (body1 (V3 m) c).loose)
def reg1 : Pipeline.RegionSeg (pcfgs (F := F)) adm (pds m) (none : HIx 1) defs₀ 𝒱₀ (K (F := F)).L (K (F := F)).lev 1 :=
  region 1 launch2 (V5 m) (pds m) (fun _ _ => rfl) (fun c _ => (dat2 (V5 m) c).share_full (fun _ => rfl) _) (fun _ _ => rfl) (fun _ _ => rfl)
    (fun _ _ => rfl) (fun c => (body2 (V5 m) c).loose)

/-- The staging cells of the two calls are distinct. -/
theorem phinj : Function.Injective (Pipeline.cellOf (nD := nD) (τ := τ) (Pipeline.pin (pcfgs (F := F)) adm)) :=
  ((launch1.toP (Val := Elt F)).cellOf_inj adm)

/-- The ghost state of one call's cells on device `d`. -/
def ghost (p : Fin 2) (d : Dev nD) : sProp 𝕄 :=
  iprop(Pipeline.cellsGhost (Pipeline.pin (pcfgs (F := F)) adm) EP p d ∗ Pipeline.toksInit (Pipeline.pin (pcfgs (F := F)) adm) EP p d)

/-! ## The launch element -/

def u₀ : UU := (initOf (K (F := F)).hsCells (K (F := F)).hsToks,
  (initOf (Pipeline.cells (Pipeline.pin (pcfgs (F := F)) adm) phinj) (Pipeline.launchToks (Pipeline.pin (pcfgs (F := F)) adm) phinj), (1 : Counters)))

theorem hu₀ : (ownU (u₀ (F := F)) : sProp 𝕄)
    ⊢ |={Set.univ}=> iprop(BI.own (EH (initOf (K (F := F)).hsCells (K (F := F)).hsToks)) ∗ (bigSep Finset.univ fun d : Dev nD => iprop(ghost 0 d ∗ ghost 1 d))
        ∗ bigSep Finset.univ fun thr : Thread nD τ => bigSep Finset.univ fun q : Fin 1 => (P (fx m) (fn m) (fo m)).x q thr) := by
  unfold u₀
  iintro Hu
  ihave H := (ownU_pair _ _) $$ Hu
  icases H with ⟨HH, HR⟩
  ihave HP := (own_pair_emb _ _ _) $$ HR
  icases HP with ⟨HP, -⟩
  ihave HP := (show (BI.own (((Emb.inl : Emb UP (UP × Counters)).trans embR) (initOf (Pipeline.cells (Pipeline.pin (pcfgs (F := F)) adm) phinj)
      (Pipeline.launchToks (Pipeline.pin (pcfgs (F := F)) adm) phinj))) : sProp 𝕄) ⊢ BI.own (EP (initOf (Pipeline.cells (Pipeline.pin (pcfgs (F := F)) adm) phinj)
      (Pipeline.launchToks (Pipeline.pin (pcfgs (F := F)) adm) phinj))) from .rfl) $$ HP
  imod (Pipeline.fund_ghost (Pipeline.pin (pcfgs (F := F)) adm) EP phinj) $$ HP with ⟨Hg, Ht⟩
  imodintro
  isplitl [HH]; · iexact HH
  isplitl [Hg Ht]
  · iapply (show iprop((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c : sProp 𝕄)))
        ⊢ (bigSep Finset.univ fun d : Dev nD => iprop(ghost 0 d ∗ ghost 1 d) : sProp 𝕄) from by
      rw [← bigSep_sep']
      refine Entails.of_eq (bigSep_congr fun d _ => ?_)
      rw [← bigSep_sep', BI.bigSep_fin_two]; rfl)
    isplitl [Hg] <;> iassumption
  rw [show (bigSep Finset.univ fun thr : Thread nD τ => bigSep Finset.univ fun q : Fin 1 => (P (F := F) (fx m) (fn m) (fo m)).x q thr) = (iprop(emp) : sProp 𝕄) from
    (bigSep_congr fun _ _ => bigSep_univ_of_subsingleton (0 : Fin 1)).trans (bigSep_emp_const _)]
  iempintro

/-! ## @main -/

/-- The SparseCore call's three buffers. -/
def trio : Finset (DevRef τ sig) := {Proc.devRef .tc main_v19, Proc.devRef .tc main_v16, Proc.devRef .tc main_v20}

theorem trio_sub : trio ⊆ ucRefs τ sig := by
  intro b hb
  simp only [trio, Finset.mem_insert, Finset.mem_singleton] at hb
  rcases hb with rfl | rfl | rfl <;> exact Pipeline.devRef_mem_ucRefs rfl

theorem held_trio (d : Dev nD) (W : Valuation τ sig (Elt F)) :
    (held (SparseCore.T d) trio W : sProp 𝕄) = iprop((xLoc d ↦{fullShare} W (Proc.devRef .tc main_v19)) ∗ (nLoc d ↦{fullShare} W (Proc.devRef .tc main_v16))
      ∗ (oLoc d ↦{fullShare} W (Proc.devRef .tc main_v20))) := by
  unfold held trio
  rw [SparseCore.bigSep_insert' (by decide), SparseCore.bigSep_insert' (by decide), bigSep_singleton]

/-- The SparseCore call's operands taken out of all the buffers, and its result put back. -/
theorem sc_take (d : Dev nD) : (held (SparseCore.T d) (ucRefs τ sig) (V1 m d) : sProp 𝕄)
    = iprop((bigSep Finset.univ fun c : Fin ((K (F := F)).nCore 0) => (P (fx m) (fn m) (fo m)).st 0 d c) ∗ held (SparseCore.T d) (ucRefs τ sig \ trio) (V1 m d)) := by
  rw [StableHlo.held_sub_split _ trio_sub, held_trio]
  exact congrArg (fun X => iprop(X ∗ _)) (parts_eq (fx m) (fn m) d (fo m d)).symm

theorem sc_give (d : Dev nD) : (iprop((bigSep Finset.univ fun c : Fin ((K (F := F)).nCore 0) => (P (fx m) (fn m) (fo m)).dn 0 d c)
      ∗ held (SparseCore.T d) (ucRefs τ sig \ trio) (V1 m d)) : sProp 𝕄) = held (SparseCore.T d) (ucRefs τ sig) (V2 m d) := by
  rw [StableHlo.held_sub_split _ trio_sub (V2 m d), held_trio,
    StableHlo.held_congr _ (S := ucRefs τ sig \ trio) (V := V2 m d) (V' := V1 m d) fun b hb => Function.update_of_ne
      (by rintro rfl; exact (Finset.mem_sdiff.mp hb).2 (by simp [trio])) _ _]
  refine congrArg (fun X => iprop(X ∗ _)) ?_
  unfold V2
  rw [Function.update_self, Function.update_of_ne (by decide), Function.update_of_ne (by decide)]
  exact parts_eq (fx m) (fn m) d (outB (fx m) (fn m) d)

/-- What the device's TensorCore ends with: every unscoped buffer at its last value. -/
abbrev FIN (d : Dev nD) : sProp 𝕄 := held (SparseCore.T d) (ucRefs τ sig) (V7 m d)

/-- After its last SparseCore call the TensorCore owes nothing: what it owes, apart from the rest of its state. -/
theorem tcSt_open (d : Dev nD) : ((K (F := F)).tcSt EH d 1 : sProp 𝕄) ⊢ iprop(quiet d ∗ (quiet d -∗ (K (F := F)).tcSt EH d 1)) := by
  unfold SparseCore.Cfg.tcSt quiet
  rw [(K (F := F)).Otc_end d le_rfl]
  iintro ⟨Hq, Hr⟩
  isplitl [Hq]; · iexact Hq
  iintro Hq
  isplitl [Hq]; · iexact Hq
  iexact Hr

/-- One TensorCore call of @main: its region run under the whole program's body table. -/
theorem call_wp [∀ e, Nonempty (Elt F e)] {p : Fin 2} (R : Pipeline.RegionSeg (pcfgs (F := F)) adm (pds m) (none : HIx 1) defs₀ 𝒱₀ (K (F := F)).L (K (F := F)).lev p)
    (d : Dev nD) (Φ : PUnit → sProp 𝕄) :
    iprop(boundary (SparseCore.T d) ∗ R.pre d ∗ levAts (K (F := F)).L (K (F := F)).lev ∗ ghost p d ∗ ((boundary (SparseCore.T d) ∗ R.post d) -∗ Φ ⟨⟩))
      ⊢ wp frame (wpE ((K (F := F)).defs (D (F := F))) 𝒱 (SparseCore.T d) none) Set.univ
          (Prog.lift (.customCall (SparseCore.inner (Pipeline.entry p)) ())) Φ := by
  unfold ghost
  iintro ⟨Hb, Hpre, Hl, ⟨Hg, Ht⟩, Hk⟩
  iapply ((K (F := F)).wp_liftProg (D (F := F)) 𝒱 (SparseCore.T d) Set.univ none (.op (.customCall (Pipeline.entry p) ()) fun x => .ret x) Φ)
  iapply (Pipeline.RegionSeg.wp (pcfgs (F := F)) adm (pds m) (none : HIx 1) phinj EP defs₀ 𝒱₀ (K (F := F)).L (K (F := F)).lev R d none (fun _ h => nomatch h) (fun x => .ret x) Φ)
  isplitl [Hk]
  · iintro H
    rw [wp_ret]; imodintro
    iapply Hk; iexact H
  isplitl [Hb]; · iexact Hb
  isplitl [Hpre]; · iexact Hpre
  isplitl [Hl]; · iexact Hl
  isplitl [Hg] <;> iassumption

/-- @main on device `d`'s TensorCore. -/
theorem hmain [∀ e, Nonempty (Elt F e)] (κ : GSem nD τ sig → ℕ) (d : Dev nD) :
    iprop((K (F := F)).ctx EH (P (fx m) (fn m) (fo m)) κ ∗ (K (F := F)).tcSt EH d 0 ∗ (K (F := F)).tcRes m ρ d ∗ (ghost 0 d ∗ ghost 1 d))
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [Pipeline.unscopedBufs_held d (launchContents m d), (ops0.2.2.down d).eq_seq]
  iintro ⟨#Hctx, Hst, ⟨Hb, Hh, Hts, -⟩, HG0, HG1⟩
  iapply (StableHlo.wp_seq 𝒱 none Set.univ d (ucRefs τ sig) _ ops0.2.1 (fun op ho => Pipeline.sub_ucRefs op ((ops0.2.2.down d).bufs op ho))
    (ops0.2.2.down d).fresh (launchContents m d)) $$ [Hb Hh]
  · isplitl [Hb] <;> iassumption
  iintro ⟨Hb, Hh⟩
  rw [wp_bind]
  ihave Hh := (Entails.of_eq (show (held (d.tc : Thread nD τ) (ucRefs τ sig) (after ops0.2.1 (launchContents m d)) : sProp 𝕄) = _ from sc_take m d)) $$ Hh
  icases Hh with ⟨Hop, Hrest⟩
  iapply ((K (F := F)).wp_run (D (F := F)) 𝒱 (EH := EH) (P := P (fx m) (fn m) (fo m)) κ d 0) $$ [Hst Hop Hb Hrest Hts HG0 HG1]
  isplitr; · iexact Hctx
  isplitl [Hst]; · iexact Hst
  isplitl [Hop]; · iexact Hop
  iintro ⟨Hst, Hdn⟩
  ihave Hh := (Entails.of_eq (sc_give m d)) $$ [Hdn Hrest]
  · isplitl [Hdn] <;> iassumption
  ihave #Hlev := (SparseCore.Cfg.ctx_levAts (K := K (F := F)) (EH := EH) (P := P (fx m) (fn m) (fo m)) κ) $$ Hctx
  rw [(ops1.2.2.down d).eq_seq]
  iapply (StableHlo.wp_seq 𝒱 none Set.univ d (ucRefs τ sig) _ ops1.2.1 (fun op ho => Pipeline.sub_ucRefs op ((ops1.2.2.down d).bufs op ho))
    (ops1.2.2.down d).fresh (V2 m d)) $$ [Hb Hh]
  · isplitl [Hb] <;> iassumption
  iintro ⟨Hb, Hh⟩
  rw [wp_bind]
  ihave Hst := (show (K (F := F)).tcSt EH d ((0 : Fin 1).val + 1) ⊢ _ from tcSt_open d) $$ Hst
  icases Hst with ⟨Hq, Hst⟩
  iapply (call_wp m (reg0 m) d _)
  isplitl [Hb]; · iexact Hb
  isplitl [Hh Hq]
  · iapply (show iprop(held (d.tc : Thread nD τ) (ucRefs τ sig) (after ops1.2.1 (V2 m d)) ∗ quiet d) ⊢ (reg0 m).pre d from .rfl)
    isplitl [Hh] <;> iassumption
  isplitr; · iexact Hlev
  isplitl [HG0]; · iexact HG0
  iintro ⟨Hb, Hpost⟩
  ihave Hpost := (show (reg0 m).post d ⊢ iprop(held (d.tc : Thread nD τ) (ucRefs τ sig) (V4 m d) ∗ quiet d) from .rfl) $$ Hpost
  icases Hpost with ⟨Hh, Hq⟩
  rw [(ops2.2.2.down d).eq_seq]
  iapply (StableHlo.wp_seq 𝒱 none Set.univ d (ucRefs τ sig) _ ops2.2.1 (fun op ho => Pipeline.sub_ucRefs op ((ops2.2.2.down d).bufs op ho))
    (ops2.2.2.down d).fresh (V4 m d)) $$ [Hb Hh]
  · isplitl [Hb] <;> iassumption
  iintro ⟨Hb, Hh⟩
  rw [wp_bind]
  iapply (call_wp m (reg1 m) d _)
  isplitl [Hb]; · iexact Hb
  isplitl [Hh Hq]
  · iapply (show iprop(held (d.tc : Thread nD τ) (ucRefs τ sig) (after ops2.2.1 (V4 m d)) ∗ quiet d) ⊢ (reg1 m).pre d from .rfl)
    isplitl [Hh] <;> iassumption
  isplitr; · iexact Hlev
  isplitl [HG1]; · iexact HG1
  iintro ⟨Hb, Hpost⟩
  ihave Hpost := (show (reg1 m).post d ⊢ iprop(held (d.tc : Thread nD τ) (ucRefs τ sig) (V6 m d) ∗ quiet d) from .rfl) $$ Hpost
  icases Hpost with ⟨Hh, Hq⟩
  rw [(ops3.2.down d).eq_seq, ← bind_pure (StableHlo.seq _)]
  iapply (StableHlo.wp_seq 𝒱 none Set.univ d (ucRefs τ sig) _ ops3.1 (fun op ho => Pipeline.sub_ucRefs op ((ops3.2.down d).bufs op ho))
    (ops3.2.down d).fresh (V6 m d)) $$ [Hb Hh]
  · isplitl [Hb] <;> iassumption
  iintro ⟨Hb, Hh⟩
  rw [wp_pure]; imodintro
  isplitl [Hst Hq]; · iapply Hst; iexact Hq
  isplitl [Hh]; · iexact Hh
  isplitl [Hb] <;> iassumption

/-- What a final state of device `d` shows: every unscoped TensorCore buffer at its last value. -/
def fq (d : Dev nD) (s' : Phys nD τ sig (Elt F)) : Prop := ∀ b ∈ ucRefs τ sig, s'.mem.mem (d, b) = V7 m d b

theorem hfin (d : Dev nD) (s' : Phys nD τ sig (Elt F)) : iprop(FIN m d ∗ SI s') ⊢ (⌜fq m d s'⌝ : sProp 𝕄) := by
  unfold FIN held
  iintro ⟨Hh, HSI⟩
  ihave %h := (SI_pointsTo_bufs_agree (st := s') (c := d) (F := V7 m d) (qs := fun _ => fullShare) (ucRefs τ sig)) $$ [HSI Hh]
  · isplitl [HSI]; · iexact HSI
    iexact Hh
  ipureintro
  exact h

/-- The program's run: it terminates without a fault, every unscoped TensorCore buffer ends at its last value and every
    semaphore at zero. -/
theorem run_main [∀ e, Nonempty (Elt F e)] :
    θ_run (Cert.KernelIdeal.defs (F := F)) (Cert.KernelIdeal.threads (F := F)) ⟨m, fun _ => 0, ρ⟩
      fun r => (∀ (d : Dev nD), ∀ b ∈ ucRefs τ sig, r.2.mem (d, b) = V7 m d b) ∧ r.2.sem = fun _ => 0 :=
  SparseCore.Cfg.θ_run_sc_quiescent (K := K (F := F)) (D := D (F := F)) (𝒱 := 𝒱) (EH := EH) (P := P (fx m) (fn m) (fo m)) (A := ∅) facts v₀
    (fun q hq => match q with | 0 => nomatch hq)
    (fun q _ => match q with | 0 => tileObl (fx m) (fn m) (fo m) facts)
    (fun q _ => match q with | 0 => SparseCore.Cfg.VecSplit.of_plain (vecSplit (fx m) (fn m) (fo m)))
    m ρ main (fun d => iprop(ghost 0 d ∗ ghost 1 d)) (FIN m) (u₀ (F := F)) (sep_elim_left.trans (hu₀ m)) (hmain m ρ) (fq m) (hfin m) _
    (fun _ h hz => ⟨h, hz⟩)

end Cert.Proof.Ranks

end

end
-- ==== Proof.KerValue.lean ====
/-
  What the kernel's buffers hold where its calls read and write them, as functions of the argument: the straight lines'
  values read off, the calls' results carried through.
-/
module

public import proofs.«01_k».proof.Proof.Main

@[expose] public section

noncomputable section

namespace Cert.Proof.Ranks

open Cert.KernelIdeal Cert.KernelIdeal.Gen

open Idealize.ShloMosaic Idealize.ShloMosaic.StableHlo Idealize.SL.Sem
open Idealize.ShloMosaic.Pipeline (ucRefs arrRef afterRegion afterRegion_arr afterRegion_of_not_arr)

variable {F : FTy → Type} [FloatOps F]

variable (m : (ℓ : Loc nD τ sig) → Buf (Elt F) ℓ) (d : Dev nD)

/-- The argument. -/
abbrev argX : FVec F S4096x64 .f32 := m (d, Proc.devRef .tc main_arg0)

theorem arr1_ne {b : Ref sig .tc} (h : b ≠ main_v23 ∧ b ≠ main_v11 ∧ b ≠ main_v24) : ∀ w, b ≠ arrRef (cfgs (0 : Fin 2)).spec w
  | ⟨0, _⟩ => h.1 | ⟨1, _⟩ => h.2.1 | ⟨2, _⟩ => h.2.2
theorem arr2_ne {b : Ref sig .tc} (h : b ≠ main_v25 ∧ b ≠ main_v13 ∧ b ≠ main_v26) : ∀ w, b ≠ arrRef (cfgs (1 : Fin 2)).spec w
  | ⟨0, _⟩ => h.1 | ⟨1, _⟩ => h.2.1 | ⟨2, _⟩ => h.2.2

/-- A TensorCore call leaves every buffer but its arrays as it was. -/
theorem V4_of_ne {b : Ref sig .tc} (h : b ≠ main_v23 ∧ b ≠ main_v11 ∧ b ≠ main_v24) : V4 m d (Proc.devRef .tc b) = V3 m d (Proc.devRef .tc b) :=
  afterRegion_of_not_arr (cfg := cfgs 0) (dat1 (V3 m) d) (V3 m d) (arr1_ne h)
theorem V6_of_ne {b : Ref sig .tc} (h : b ≠ main_v25 ∧ b ≠ main_v13 ∧ b ≠ main_v26) : V6 m d (Proc.devRef .tc b) = V5 m d (Proc.devRef .tc b) :=
  afterRegion_of_not_arr (cfg := cfgs 1) (dat2 (V5 m) d) (V5 m d) (arr2_ne h)

set_option maxRecDepth 65536 in
theorem V1_arg : V1 m d (Proc.devRef .tc main_arg0) = argX m d := by
  unfold V1; after_reads_simp
theorem V2_of_ne {b : Ref sig .tc} (h : (Proc.devRef .tc b : DevRef τ sig) ≠ Proc.devRef .tc main_v20) : V2 m d (Proc.devRef .tc b) = V1 m d (Proc.devRef .tc b) :=
  Function.update_of_ne h _ _
theorem V3_arg : V3 m d (Proc.devRef .tc main_arg0) = argX m d := by
  unfold V3; after_reads_simp; rw [V2_of_ne _ _ (by decide), V1_arg]
theorem V5_arg : V5 m d (Proc.devRef .tc main_arg0) = argX m d := by
  unfold V5; after_reads_simp; rw [V4_of_ne _ _ (by decide), V3_arg]
/-- The argument is never written. -/
theorem V7_arg : V7 m d (Proc.devRef .tc main_arg0) = argX m d := by
  unfold V7; after_reads_simp; rw [V6_of_ne _ _ (by decide), V5_arg]

end Cert.Proof.Ranks

end

end
-- ==== Proof.SameText.lean ====
/-
  The kernel read over the machine's floats and over the extended reals is one text printed twice: the two programs,
  taken over the same float values, are equal. The checker compares the two texts piece by piece.
-/
module

public import proofs.«01_k».proof.Defs
public import proofs.«01_k».proof.Proof.Gen.Kernel
public import proofs.«01_k».proof.Proof.Gen.KernelIdeal

@[expose] public section

set_option maxRecDepth 65536
set_option maxHeartbeats 1000000

noncomputable section

namespace Cert.Proof.Ranks

open Idealize.ShloMosaic Idealize.SL.Sem

/-- Two programs run in turn agree when the first halves agree and what follows agrees. -/
theorem bind_eq.{v} {E : Type → Type v} {α β : Type} {a b : Prog E α} {f g : α → Prog E β} (h : a = b)
    (k : ∀ x, f x = g x) : (a >>= f) = (b >>= g) := by
  rw [h, funext k]

variable (F : FTy → Type) [FloatOps F]

/-- The bodies the launched programs run are the same. -/
theorem same_bodies : Kernel.defs₀ (F := F) = KernelIdeal.defs₀ (F := F):= by
  funext p l a
  cases p with
  | tc =>
    revert a
    refine Fin.cases ?_ (Fin.cases ?_ (Fin.cases ?_ ?_)) l
    · exact fun _ => rfl
    · exact fun _ => rfl
    · exact fun _ => rfl
    · exact fun i => i.elim0
  | scScalar c => rfl
  | scVector c s =>
    revert a
    refine Fin.cases ?_ (Fin.cases ?_ (Fin.cases ?_ ?_)) l
    · exact fun _ => rfl
    · exact fun _ => rfl
    · exact fun _ => rfl
    · exact fun i => i.elim0

/-- The cipher's first window. -/
theorem same_part0 (a b c d) : (Kernel.fn_threefry2x32.body_part0 (F := F) a b c d Kernel.main_call0_call0_call0) = KernelIdeal.fn_threefry2x32.body_part0 (F := F) a b c d KernelIdeal.main_call0_call0_call0 := by
  unfold Kernel.fn_threefry2x32.body_part0 KernelIdeal.fn_threefry2x32.body_part0
  rfl

/-- The cipher. -/
theorem same_cipher (a b c d) : (Kernel.fn_threefry2x32.body (F := F) a b c d Kernel.main_call0_call0_call0) = KernelIdeal.fn_threefry2x32.body (F := F) a b c d KernelIdeal.main_call0_call0_call0 := by
  unfold Kernel.fn_threefry2x32.body KernelIdeal.fn_threefry2x32.body
  refine bind_eq (same_part0 F a b c d) fun _ => ?_
  refine bind_eq (by unfold Kernel.fn_threefry2x32.body_part1 KernelIdeal.fn_threefry2x32.body_part1; rfl) fun _ => ?_
  refine bind_eq (by unfold Kernel.fn_threefry2x32.body_part2 KernelIdeal.fn_threefry2x32.body_part2; rfl) fun _ => ?_
  unfold Kernel.fn_threefry2x32.body_part3 KernelIdeal.fn_threefry2x32.body_part3; rfl

/-- The uniform draw. -/
theorem same_uniform (a b c) : (Kernel.fn_uniform.body (F := F) a b c Kernel.main_call0_call0) = KernelIdeal.fn_uniform.body (F := F) a b c KernelIdeal.main_call0_call0 := by
  unfold Kernel.fn_uniform.body KernelIdeal.fn_uniform.body
  iterate 26 refine bind_eq rfl fun _ => ?_
  refine bind_eq (same_cipher F _ _ _ _) fun _ => ?_
  rfl

/-- The Gumbel draw. -/
theorem same_gumbel (a) : (Kernel.fn_gumbel.body (F := F) a Kernel.main_call0) = KernelIdeal.fn_gumbel.body (F := F) a KernelIdeal.main_call0 := by
  unfold Kernel.fn_gumbel.body KernelIdeal.fn_gumbel.body
  iterate 2 refine bind_eq rfl fun _ => ?_
  refine bind_eq (same_uniform F _ _ _) fun _ => ?_
  rfl

/-- The host's program. -/
theorem same_main : Kernel.main (F := F) = KernelIdeal.main (F := F) := by
  funext d
  unfold Kernel.main KernelIdeal.main
  iterate 10 refine bind_eq rfl fun _ => ?_
  refine bind_eq (same_gumbel F _) fun _ => ?_
  rfl

/-- The bodies behind every label are the same. -/
theorem same_defs : Cert.Kernel.defs (F := F) = Cert.KernelIdeal.defs (F := F) := by
  unfold Cert.Kernel.defs Cert.KernelIdeal.defs
  exact congrArg (fun D => (Cert.KernelIdeal.sc (F := F)).defs (Pipeline.defs Cert.KernelIdeal.pcfgs D)) (same_bodies F)

/-- The threads the launch starts are the same. -/
theorem same_threads : Cert.Kernel.threads (F := F) = Cert.KernelIdeal.threads (F := F) :=
  congrArg (Cert.KernelIdeal.sc (F := F)).threads (same_main F)

end Cert.Proof.Ranks

end

end
-- ==== Proof.Frames.lean ====
/-
  The two frames of the kernel: it runs, faults nowhere, leaves its argument as it was and every semaphore at zero.
-/
module

public import proofs.«01_k».proof.Proof.KerValue
public import proofs.«01_k».proof.Proof.SameText

@[expose] public section

noncomputable section

namespace Cert.Proof.Ranks

open Idealize.ShloMosaic Idealize.SL.Sem

/-- The kernel read over the extended reals. -/
theorem frame_ideal : Cert.quiescent_KernelIdeal := fun m ρ _ =>
  (θ_run Cert.KernelIdeal.defs _ _).mono (fun _ h => ⟨fun c => (h.1 c _ (Pipeline.devRef_mem_ucRefs rfl)).trans (V7_arg m c), h.2⟩) (run_main (F := Ideal) m ρ)

/-- The text run over any floats, as a frame. -/
theorem frame_any {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c _ (Pipeline.devRef_mem_ucRefs rfl)).trans (V7_arg m c), h.2⟩) (run_main (F := F) m ρ)

/-- The kernel over the machine's floats: the same text. -/
theorem frame_bits : Cert.quiescent_Kernel := fun m ρ _ => by
  have h := frame_any (F := Bits) m ρ
  rw [← same_defs, ← same_threads] at h
  exact h

end Cert.Proof.Ranks

end

end
-- ==== Proof.RefLine.lean ====
/-
  The reference's @main as one straight line of host operations, and its run: every buffer ends at the fold of the
  operations' results.
-/
module

public import proofs.«01_k».proof.Defs
public import proofs.«01_k».proof.Proof.Gen.ReferenceIdeal
public import proofs.«01_k».proof.Proof.Line

@[expose] public section

noncomputable section

namespace Cert.Proof.Ranks.Ref

open Cert.ReferenceIdeal Cert.ReferenceIdeal.Gen
open Idealize.ShloMosaic Idealize.ShloMosaic.StableHlo Idealize.SL.Sem

variable {F : FTy → Type} [FloatOps F]

set_option maxHeartbeats 2000000 in
set_option maxRecDepth 65536 in
/-- Window 0 of the random bits' cipher, as a straight line. -/
def bits0 : { l : List (HloOp τ sig (Elt F)) // Line (fn_threefry2x32.body_part0 (.of main_call0_call0_v4) (.of main_call0_call0_v6)
    (.of main_call0_call0_v21) (.of main_call0_call0_v20) main_call0_call0_call0) l } := by
  apply Subtype.mk
  unfold fn_threefry2x32.body_part0
  repeat
    apply Line.cons
    first | with_reducible exact nullary_bufs_sub .. | with_reducible exact unary_bufs_sub .. | with_reducible exact binary_bufs_sub ..
    rfl
  exact Line.nil

set_option maxHeartbeats 2000000 in
set_option maxRecDepth 65536 in
/-- Window 1 of the random bits' cipher, as a straight line. -/
def bits1 : { l : List (HloOp τ sig (Elt F)) // Line (fn_threefry2x32.body_part1 (.of main_call0_call0_v4) (.of main_call0_call0_v6)
    (.of main_call0_call0_v21) (.of main_call0_call0_v20) main_call0_call0_call0) l } := by
  apply Subtype.mk
  unfold fn_threefry2x32.body_part1
  repeat
    apply Line.cons
    first | with_reducible exact nullary_bufs_sub .. | with_reducible exact unary_bufs_sub .. | with_reducible exact binary_bufs_sub ..
    rfl
  exact Line.nil

set_option maxHeartbeats 2000000 in
set_option maxRecDepth 65536 in
/-- Window 2 of the random bits' cipher, as a straight line. -/
def bits2 : { l : List (HloOp τ sig (Elt F)) // Line (fn_threefry2x32.body_part2 (.of main_call0_call0_v4) (.of main_call0_call0_v6)
    (.of main_call0_call0_v21) (.of main_call0_call0_v20) main_call0_call0_call0) l } := by
  apply Subtype.mk
  unfold fn_threefry2x32.body_part2
  repeat
    apply Line.cons
    first | with_reducible exact nullary_bufs_sub .. | with_reducible exact unary_bufs_sub .. | with_reducible exact binary_bufs_sub ..
    rfl
  exact Line.nil

set_option maxHeartbeats 2000000 in
set_option maxRecDepth 65536 in
/-- Window 3 of the random bits' cipher, as a straight line. -/
def bits3 : { l : List (HloOp τ sig (Elt F)) // Line (fn_threefry2x32.body_part3 (.of main_call0_call0_v4) (.of main_call0_call0_v6)
    (.of main_call0_call0_v21) (.of main_call0_call0_v20) main_call0_call0_call0) l } := by
  apply Subtype.mk
  unfold fn_threefry2x32.body_part3
  repeat
    apply Line.cons
    first | with_reducible exact nullary_bufs_sub .. | with_reducible exact unary_bufs_sub .. | with_reducible exact binary_bufs_sub ..
    rfl
  exact Line.nil

/-- The cipher's operations. -/
def bits : List (HloOp τ sig (Elt F)) := bits0.1 ++ (bits1.1 ++ (bits2.1 ++ bits3.1))

theorem bits_line : Line (fn_threefry2x32.body (F := F) (.of main_call0_call0_v4) (.of main_call0_call0_v6)
    (.of main_call0_call0_v21) (.of main_call0_call0_v20) main_call0_call0_call0) bits :=
  .app bits0.2 (.app bits1.2 (.app bits2.2 bits3.2))

set_option maxHeartbeats 2000000 in
set_option maxRecDepth 65536 in
/-- The uniform samples: the counters, the cipher, the bits as floats. -/
def unif : { l : List (HloOp τ sig (Elt F)) // Line (fn_uniform.body (.of main_v13) main_call0.cst main_call0.cst_0 main_call0_call0) l } := by
  apply Subtype.mk
  unfold fn_uniform.body
  repeat
    with_reducible apply Line.cons
    first | with_reducible exact nullary_bufs_sub .. | with_reducible exact unary_bufs_sub .. | with_reducible exact binary_bufs_sub .. | with_reducible exact reshape_bufs_sub ..
    rfl
  apply Line.app bits_line
  repeat
    with_reducible apply Line.cons
    first | with_reducible exact nullary_bufs_sub .. | with_reducible exact unary_bufs_sub .. | with_reducible exact binary_bufs_sub ..
    rfl
  exact Line.nil

set_option maxHeartbeats 2000000 in
set_option maxRecDepth 65536 in
/-- The Gumbel samples from the uniform ones. -/
def gumb : { l : List (HloOp τ sig (Elt F)) // Line (fn_gumbel.body (.of main_v13) main_call0) l } := by
  apply Subtype.mk
  unfold fn_gumbel.body
  repeat
    with_reducible apply Line.cons
    with_reducible exact nullary_bufs_sub ..
    rfl
  apply Line.app unif.2
  repeat
    with_reducible apply Line.cons
    with_reducible exact unary_bufs_sub ..
    rfl
  exact Line.nil

/-- The ranking of the perturbed entries: the sort that orders them, as positions. -/
def sortF : { l : List (HloOp τ sig (Elt F)) // Line (fn_argsort.body (.of main_v19) main_call1) l } := by
  apply Subtype.mk
  unfold fn_argsort.body
  repeat
    with_reducible apply Line.cons
    first | with_reducible exact nullary_bufs_sub .. | with_reducible exact binary_bufs_sub ..
    rfl
  exact Line.nil

/-- The sort of the positions. -/
def sortI : { l : List (HloOp τ sig (Elt F)) // Line (fn_argsort_0.body (.of main_v20) main_call2) l } := by
  apply Subtype.mk
  unfold fn_argsort_0.body
  repeat
    with_reducible apply Line.cons
    first | with_reducible exact nullary_bufs_sub .. | with_reducible exact binary_bufs_sub ..
    rfl
  exact Line.nil

/-- The clip to the unit interval. -/
def clip : { l : List (HloOp τ sig (Elt F)) // Line (fn_clip.body (.of main_v34) (.of main_cst_10) (.of main_cst_11) main_call3) l } := by
  apply Subtype.mk
  unfold fn_clip.body
  repeat
    with_reducible apply Line.cons
    first | with_reducible exact unary_bufs_sub .. | with_reducible exact binary_bufs_sub ..
    rfl
  exact Line.nil

set_option maxHeartbeats 2000000 in
set_option maxRecDepth 65536 in
/-- The whole of @main. -/
def ops : Σ' (l : List (HloOp τ sig (Elt F))), PLift (∀ d, Line (main (F := F) d) l) := by
  apply PSigma.mk
  apply PLift.up
  intro d
  unfold main
  repeat
    with_reducible apply Line.cons
    first | with_reducible exact nullary_bufs_sub .. | with_reducible exact unary_bufs_sub .. | with_reducible exact binary_bufs_sub .. | with_reducible exact ternary_bufs_sub ..
    rfl
  apply Line.app gumb.2
  repeat
    with_reducible apply Line.cons
    first | with_reducible exact nullary_bufs_sub .. | with_reducible exact unary_bufs_sub .. | with_reducible exact binary_bufs_sub ..
    rfl
  apply Line.app sortF.2
  apply Line.app sortI.2
  repeat
    with_reducible apply Line.cons
    first | with_reducible exact nullary_bufs_sub .. | with_reducible exact unary_bufs_sub .. | with_reducible exact binary_bufs_sub .. | with_reducible exact ternary_bufs_sub ..
    rfl
  apply Line.app clip.2
  exact Line.nil

/-- The reference's run: it ends, every buffer at the fold of the operations' results over what it held, every semaphore at
    zero (it declares none). -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = after (ops (F := F)).1 (launchContents m d) (Proc.devRef .tc b)) ∧
        r.2.sem = fun _ => 0 :=
  (θ_run defs _ _).mono (fun r h => ⟨h, sem_eq_zero_of_no_sems (by decide) r.2⟩)
    (run_seq (by decide) (by decide) defs main (fun _ => ops.1) (fun d => (ops.2.down d).eq_seq)
      (fun d => List.forall_iff_forall_mem.mpr (ops.2.down d).bufs) m ρ (hfresh := fun d => (ops.2.down d).fresh))

set_option maxRecDepth 65536 in
/-- No operation writes the argument. -/
theorem keep_arg (W : Valuation τ sig (Elt F)) : after (ops (F := F)).1 W (Proc.devRef .tc main_arg0) = W (Proc.devRef .tc main_arg0) := by
  after_reads_simp

/-- The reference runs, and leaves its argument and every semaphore as they were. -/
theorem frame : Cert.quiescent_ReferenceIdeal := fun m ρ _ =>
  (θ_run defs _ _).mono (fun _ h => ⟨fun c => (h.1 c main_arg0).trans (keep_arg _), h.2⟩) (run_main (F := Ideal) m ρ)

end Cert.Proof.Ranks.Ref

end

end
-- ==== Proof.Noise.lean ====
/-
  The noise both programs compute, as a function of nothing: the key's Gumbel samples, scaled.
-/
module

public import proofs.«01_k».proof.Proof.Gen.Pre_no_ties

@[expose] public section

noncomputable section

namespace Cert.Proof.Ranks

open Idealize.ShloMosaic Cert.Pre_no_ties Cert.Pre_no_ties.Gen

variable {F : FTy → Type} [FloatOps F]

/-- The generator's key, from the seed 42. -/
def key : IVec S2 32 :=
  let c := constantI S_ 32 42#32
  concatenate S2 0 [⟨S1, broadcastInDim S1 ![] bcast_S_S1 (Host.shrui c (constantI S_ 32 32#32))⟩,
    ⟨S1, broadcastInDim S1 ![] bcast_S_S1 (andi c (constantI S_ 32 4294967295#32))⟩] concatenates_S1_S1_S2_d0

/-- The noise: the key's Gumbel samples, times the perturbation's size. -/
def noise : FVec F S64x4096x64 .f32 :=
  mulf (broadcastInDim S64x4096x64 ![] bcast_S_S64x4096x64 (constant S_ .f32 0x3D4CCCCD#32)) (fn_gumbel (F := F) key)

/-- The Gumbel samples from the range's two ends and the cipher's two words: bits as a float in [1, 2), less one, scaled to
    the range, then the two logarithms. -/
def fromBits (lo hi : FVec F S1x1x1 .f32) (b : IVec S64x4096x64 32 × IVec S64x4096x64 32) : FVec F S64x4096x64 .f32 :=
  let up (x : FVec F S1x1x1 .f32) : FVec F S64x4096x64 .f32 := broadcastInDim S64x4096x64 ![0, 1, 2] bcast_S1x1x1_S64x4096x64_0_1_2 x
  let all (n : ℕ) (x : BitVec n) : IVec S64x4096x64 n := broadcastInDim S64x4096x64 ![] bcast_S_S64x4096x64 (constantI S_ n x)
  let one : FVec F S64x4096x64 .f32 := broadcastInDim S64x4096x64 ![] bcast_S_S64x4096x64 (constant S_ .f32 0x3F800000#32)
  let u := subf (bitcastToFloat .f32 (ori (Host.shrui (xori b.1 b.2) (all 32 9#32)) (all 32 1065353216#32))) one
  Host.negf (Host.log (Host.negf (Host.log (maximumf (up lo) (addf (mulf u (up (subf hi lo))) (up lo))))))

end Cert.Proof.Ranks

end

end
-- ==== Proof.RefNoise.lean ====
/-
  The noise the reference computes: the same pure function of the key as the kernel's.
-/
module

public import proofs.«01_k».proof.Proof.RefLine
public import proofs.«01_k».proof.Proof.Noise

@[expose] public section

noncomputable section

namespace Cert.Proof.Ranks.Ref

open Cert.ReferenceIdeal Cert.ReferenceIdeal.Gen
open Idealize.ShloMosaic Idealize.ShloMosaic.StableHlo Idealize.SL.Sem

variable {F : FTy → Type} [FloatOps F]

/-- The value a typed reference holds. -/
abbrev val {T : BufTy} (W : Valuation τ sig (Elt F)) (t : TRef sig T) : T.Contents (Elt F) := t.ofBuf (W (Proc.devRef .tc t.ref))

/-- The cipher's buffers, and the sampler's. -/
abbrev cB : fn_threefry2x32.Bufs := main_call0_call0_call0
abbrev uB : fn_uniform.Bufs := main_call0_call0

/-- The cipher's `k`-th stretch of 24 operations. -/
def stretch (k : ℕ) : List (HloOp τ sig (Elt F)) := (bits.drop (24 * k)).take 24

/-! The cipher goes on, stretch by stretch, as the pure function does. -/

set_option maxRecDepth 65536 in
theorem stretch0 (W : Valuation τ sig (Elt F)) :
    Pre_no_ties.fn_threefry2x32 (F := F) (val W uB.v4) (val W uB.v6) (val W uB.v21) (val W uB.v20) =
      let W' := after (stretch 0) W
      Pre_no_ties.fn_threefry2x32_part1 (F := F) (val W' uB.v4) (val W' uB.v6) (val W' cB.v1) (val W' cB.v13) (val W' cB.v18) := by
  dsimp only [val]
  after_reads_simp
  simp only [TRef.ofBuf_toBuf]
  rfl

set_option maxRecDepth 65536 in
theorem stretch1 (W : Valuation τ sig (Elt F)) :
    Pre_no_ties.fn_threefry2x32_part1 (F := F) (val W uB.v4) (val W uB.v6) (val W cB.v1) (val W cB.v13) (val W cB.v18) =
      let W' := after (stretch 1) W
      Pre_no_ties.fn_threefry2x32_part2 (F := F) (val W' uB.v4) (val W' uB.v6) (val W' cB.v1) (val W' cB.v35) (val W' cB.v37) (val W' cB.c_8) := by
  dsimp only [val]
  after_reads_simp
  simp only [TRef.ofBuf_toBuf]
  rfl

set_option maxRecDepth 65536 in
theorem stretch2 (W : Valuation τ sig (Elt F)) :
    Pre_no_ties.fn_threefry2x32_part2 (F := F) (val W uB.v4) (val W uB.v6) (val W cB.v1) (val W cB.v35) (val W cB.v37) (val W cB.c_8) =
      let W' := after (stretch 2) W
      Pre_no_ties.fn_threefry2x32_part3 (F := F) (val W' uB.v4) (val W' uB.v6) (val W' cB.v1) (val W' cB.v53) (val W' cB.v54) (val W' cB.v56) := by
  dsimp only [val]
  after_reads_simp
  simp only [TRef.ofBuf_toBuf]
  rfl

set_option maxRecDepth 65536 in
theorem stretch3 (W : Valuation τ sig (Elt F)) :
    Pre_no_ties.fn_threefry2x32_part3 (F := F) (val W uB.v4) (val W uB.v6) (val W cB.v1) (val W cB.v53) (val W cB.v54) (val W cB.v56) =
      let W' := after (stretch 3) W
      Pre_no_ties.fn_threefry2x32_part4 (F := F) (val W' uB.v4) (val W' uB.v6) (val W' cB.v1) (val W' cB.v73) (val W' cB.v74) (val W' cB.v75) := by
  dsimp only [val]
  after_reads_simp
  simp only [TRef.ofBuf_toBuf]
  rfl

set_option maxRecDepth 65536 in
theorem stretch4 (W : Valuation τ sig (Elt F)) :
    Pre_no_ties.fn_threefry2x32_part4 (F := F) (val W uB.v4) (val W uB.v6) (val W cB.v1) (val W cB.v73) (val W cB.v74) (val W cB.v75) =
      let W' := after (stretch 4) W
      Pre_no_ties.fn_threefry2x32_part5 (F := F) (val W' uB.v4) (val W' uB.v6) (val W' cB.v1) (val W' cB.v88) (val W' cB.v94) := by
  dsimp only [val]
  after_reads_simp
  simp only [TRef.ofBuf_toBuf]
  rfl

set_option maxRecDepth 65536 in
theorem stretch5 (W : Valuation τ sig (Elt F)) :
    Pre_no_ties.fn_threefry2x32_part5 (F := F) (val W uB.v4) (val W uB.v6) (val W cB.v1) (val W cB.v88) (val W cB.v94) =
      let W' := after (stretch 5) W
      Pre_no_ties.fn_threefry2x32_part6 (F := F) (val W' uB.v4) (val W' uB.v6) (val W' cB.v1) (val W' cB.v108) (val W' cB.v113) := by
  dsimp only [val]
  after_reads_simp
  simp only [TRef.ofBuf_toBuf]
  rfl

set_option maxRecDepth 65536 in
theorem stretch6 (W : Valuation τ sig (Elt F)) :
    Pre_no_ties.fn_threefry2x32_part6 (F := F) (val W uB.v4) (val W uB.v6) (val W cB.v1) (val W cB.v108) (val W cB.v113) =
      let W' := after (stretch 6) W
      Pre_no_ties.fn_threefry2x32_part7 (F := F) (val W' uB.v4) (val W' uB.v6) (val W' cB.v1) (val W' cB.v128) (val W' cB.v129) (val W' cB.v131) (val W' cB.c_34) := by
  dsimp only [val]
  after_reads_simp
  simp only [TRef.ofBuf_toBuf]
  rfl

set_option maxRecDepth 65536 in
theorem stretch7 (W : Valuation τ sig (Elt F)) :
    Pre_no_ties.fn_threefry2x32_part7 (F := F) (val W uB.v4) (val W uB.v6) (val W cB.v1) (val W cB.v128) (val W cB.v129) (val W cB.v131) (val W cB.c_34) =
      let W' := after (stretch 7) W
      Pre_no_ties.fn_threefry2x32_part8 (F := F) (val W' uB.v4) (val W' cB.v1) (val W' cB.v148) (val W' cB.v149) (val W' cB.v151) := by
  dsimp only [val]
  after_reads_simp
  simp only [TRef.ofBuf_toBuf]
  rfl

set_option maxRecDepth 65536 in
theorem stretch8 (W : Valuation τ sig (Elt F)) :
    Pre_no_ties.fn_threefry2x32_part8 (F := F) (val W uB.v4) (val W cB.v1) (val W cB.v148) (val W cB.v149) (val W cB.v151) =
      let W' := after (stretch 8) W
      Pre_no_ties.fn_threefry2x32_part9 (F := F) (val W' uB.v4) (val W' cB.v163) (val W' cB.v169) (val W' cB.v170) := by
  dsimp only [val]
  after_reads_simp
  simp only [TRef.ofBuf_toBuf]
  rfl

set_option maxRecDepth 65536 in
theorem stretch9 (W : Valuation τ sig (Elt F)) :
    Pre_no_ties.fn_threefry2x32_part9 (F := F) (val W uB.v4) (val W cB.v163) (val W cB.v169) (val W cB.v170) =
      let W' := after (stretch 9) W
      (val W' cB.v171, val W' cB.v175) := by
  dsimp only [val]
  after_reads_simp
  simp only [TRef.ofBuf_toBuf]
  rfl

theorem bits_eq : (bits (F := F)) = stretch 0 ++ (stretch 1 ++ (stretch 2 ++ (stretch 3 ++ (stretch 4 ++ (stretch 5 ++
    (stretch 6 ++ (stretch 7 ++ (stretch 8 ++ stretch 9)))))))) := rfl

/-- The cipher's two results are the pure function of what its arguments held. -/
theorem bits_value (W : Valuation τ sig (Elt F)) :
    (val (after bits W) cB.v171, val (after bits W) cB.v175) =
      Pre_no_ties.fn_threefry2x32 (F := F) (val W uB.v4) (val W uB.v6) (val W uB.v21) (val W uB.v20) := by
  rw [stretch0, stretch1, stretch2, stretch3, stretch4, stretch5, stretch6, stretch7, stretch8, stretch9, bits_eq]
  simp only [after_append]

/-- The operations, cut: the values picked, the key and the counters; the cipher; the samples up to the noise; the rest. -/
def opsHead : List (HloOp τ sig (Elt F)) := (ops (F := F)).1.take 48
def opsMid : List (HloOp τ sig (Elt F)) := ((ops (F := F)).1.drop 270).take 26
def opsTail : List (HloOp τ sig (Elt F)) := (ops (F := F)).1.drop 296

set_option maxRecDepth 65536 in
theorem ops_eq : (ops (F := F)).1 = opsHead ++ (bits ++ (opsMid ++ opsTail)) := rfl

set_option maxRecDepth 65536 in
theorem head_value (V : Valuation τ sig (Elt F)) :
    Pre_no_ties.fn_gumbel (F := F) key =
      let W := after opsHead V
      fromBits (val W uB.v1) (val W uB.v2)
        (Pre_no_ties.fn_threefry2x32 (F := F) (val W uB.v4) (val W uB.v6) (val W uB.v21) (val W uB.v20)) := by
  dsimp only [val]
  after_reads_simp
  simp only [TRef.ofBuf_toBuf]
  rfl

set_option maxRecDepth 65536 in
theorem bits_keep (W : Valuation τ sig (Elt F)) :
    val (after bits W) uB.v1 = val W uB.v1 ∧ val (after bits W) uB.v2 = val W uB.v2 := by
  dsimp only [val]
  constructor <;> after_reads_simp

set_option maxRecDepth 65536 in
theorem mid_value (W : Valuation τ sig (Elt F)) :
    (after opsMid W (Proc.devRef .tc main_v17) : FVec F S64x4096x64 .f32) =
      mulf (broadcastInDim S64x4096x64 ![] bcast_S_S64x4096x64 (constant S_ .f32 0x3D4CCCCD#32))
        (fromBits (val W uB.v1) (val W uB.v2) (val W cB.v171, val W cB.v175)) := by
  dsimp only [val]
  after_reads_simp
  simp only [TRef.ofBuf_toBuf]
  rfl

/-- Before the operations that rank it, the noise's buffer holds the noise. -/
theorem noise_value (V : Valuation τ sig (Elt F)) :
    (after opsMid (after bits (after opsHead V)) (Proc.devRef .tc main_v17) : FVec F S64x4096x64 .f32) = noise := by
  rw [mid_value, bits_value, (bits_keep _).1, (bits_keep _).2, noise, head_value V]

end Cert.Proof.Ranks.Ref

end

end
-- ==== Proof.RefIndex.lean ====
/-
  The reference's gather and scatter by the column numbers 0 to 63: the first reads every column where it is, the second
  writes every column where it is.
-/
module

public import proofs.«01_k».proof.Proof.RefNoise
public import Idealize.ShloMosaic.Lib.Routing.OpsPair
public import Idealize.ShloMosaic.Lib.Pipeline.Value
public import Idealize.ShloMosaic.Lib.Pointwise.Reshape

@[expose] public section

noncomputable section

namespace Cert.Proof.Ranks.Ref

open Cert.ReferenceIdeal Cert.ReferenceIdeal.Gen
open Idealize.ShloMosaic hiding ix1 ix2 ix3 ix4 eq_ix2 eq_ix3
open Idealize.ShloMosaic.ValueIdx Idealize.ShloMosaic.Routing

/-- The column numbers, as the reference has them. -/
def colNums : IVec S64 32 := fun i => lit0 (S64.rowMajor i)

/-- The column numbers as start indices: one that is negative has 64 added. -/
def startsOf (c : IVec S64 32) : IVec S64x1 32 :=
  broadcastInDim S64x1 ![0] bcast_S64_S64x1_0
    (select (cmpi .slt c (broadcastInDim S64 ![] bcast_S_S64 (constantI S_ 32 0#32)))
      (addi c (broadcastInDim S64 ![] bcast_S_S64 (constantI S_ 32 64#32))) c)

set_option maxRecDepth 65536 in
theorem lit_eq : ∀ k : Fin 64, lit0 k = BitVec.ofNat 32 k.val := by decide

theorem word_toNat (k : Fin 64) : (BitVec.ofNat 32 k.val).toNat = k.val := by
  rw [BitVec.toNat_ofNat]; exact Nat.mod_eq_of_lt (by omega)

theorem word_toInt (k : Fin 64) : (BitVec.ofNat 32 k.val).toInt = k.val := by
  rw [BitVec.toInt_eq_toNat_of_lt (by rw [word_toNat]; omega), word_toNat]

theorem colNums_apply (k : Fin 64) : colNums (ix1 k) = BitVec.ofNat 32 k.val := by
  refine (lit_eq _).trans (congrArg (BitVec.ofNat 32) ?_)
  exact rowMajor_val1 (ix1 k)

theorem starts_apply (k : Fin 64) (z : Fin 1) : startsOf colNums (ix2 k z) = BitVec.ofNat 32 k.val := by
  have e : startsOf colNums (ix2 k z)
      = Scalar.select (IntOp.cmpi .slt (colNums (ix1 k)) 0#32) (colNums (ix1 k) + 64#32) (colNums (ix1 k)) := by
    unfold startsOf
    rw [broadcastInDim_apply _ _ _ (ix2 k z) (ix1 k) (fun a => by match a with | 0 => rfl)]
    rfl
  rw [e, wrap_of_lt _ _ (by rw [colNums_apply, word_toNat]; omega), colNums_apply]

/-- Gathering the columns 0 to 63 leaves the array as it is. -/
theorem gather_id {α : Type} (x : S4096x64.Idx → α) :
    Host.gather gather_S4096x64_S64x1_S4096x64_0_1_n_n_1_1_40961 x (startsOf colNums) = x := by
  funext j
  obtain ⟨r, k, rfl⟩ : ∃ (r : Fin 4096) (k : Fin 64), j = ix2 r k := ⟨j 0, j 1, eq_ix2 (n0 := 4096) (n1 := 64) j⟩
  unfold Host.gather
  congr 1
  funext a
  apply Fin.ext
  show GatherDims.start _ _ _ _ + GatherDims.batchCoord _ _ _ + GatherDims.offCoord _ _ _ = _
  rw [GatherDims.batchCoord_eq_zero _ _ _ List.not_mem_nil]
  match a with
  | 0 =>
    unfold GatherDims.start GatherDims.offCoord
    rw [dif_neg (by decide), dif_pos (by decide)]
    simp only [Nat.zero_add]
    rfl
  | 1 =>
    unfold GatherDims.start GatherDims.offCoord
    rw [dif_pos (by decide), dif_neg (by decide)]
    have e (h) : gather_S4096x64_S64x1_S4096x64_0_1_n_n_1_1_40961.siIdx (ix2 r k) ⟨0, h⟩ = ix2 k 0 := by
      funext b
      match b with
      | 0 => rfl
      | 1 => rfl
    have e' : startsOf colNums (gather_S4096x64_S64x1_S4096x64_0_1_n_n_1_1_40961.siIdx (ix2 r k) ⟨0, by decide⟩) = BitVec.ofNat 32 k.val := by
      rw [e, starts_apply]
    show min (startsOf colNums (gather_S4096x64_S64x1_S4096x64_0_1_n_n_1_1_40961.siIdx (ix2 r k) ⟨0, _⟩)).toInt.toNat (64 - 1) + 0 + 0 = k.val
    rw [e', word_toInt]
    omega

/-- A fold that takes the one entry of a list it is after. -/
theorem foldl_pick {α : Type} {n : ℕ} (p : Fin n → Prop) [DecidablePred p] (g : Fin n → α) (k : Fin n) (hp : ∀ i, p i ↔ i = k) :
    ∀ (l : List (Fin n)) (a : α), a = g k ∨ k ∈ l → l.foldl (fun a i => if p i then g i else a) a = g k
  | [], a, h => h.resolve_right List.not_mem_nil
  | i :: l, a, h => by
    rw [List.foldl_cons]
    refine foldl_pick p g k hp l _ ?_
    by_cases hi : i = k
    · left; rw [if_pos ((hp i).2 hi), hi]
    · rw [if_neg fun h' => hi ((hp i).1 h')]
      exact h.imp_right fun h' => (List.mem_cons.1 h').resolve_left fun e => hi e.symm

theorem lands (r r' : Fin 4096) (k k' : Fin 64) :
    scatter_S4096x64_S64x1_S4096x64_0_1_1_1.resultIdx? (ix2 r k) (startsOf colNums) = some (ix2 r' k') ↔ r = r' ∧ k = k' := by
  rw [resultIdx?_ix2]
  have e (h) : scatter_S4096x64_S64x1_S4096x64_0_1_1_1.siIdx (ix2 r k) ⟨0, h⟩ = ix2 k 0 := by
    funext b
    match b with
    | 0 => rfl
    | 1 => rfl
  have e' : startsOf colNums (scatter_S4096x64_S64x1_S4096x64_0_1_1_1.siIdx (ix2 r k) ⟨0, by decide⟩) = BitVec.ofNat 32 k.val := by
    rw [e, starts_apply]
  have s0 : scatter_S4096x64_S64x1_S4096x64_0_1_1_1.start (ix2 r k) (startsOf colNums) 0 = 0 := by
    unfold ScatterDims.start
    rw [dif_neg (by decide)]
  have s1 : scatter_S4096x64_S64x1_S4096x64_0_1_1_1.start (ix2 r k) (startsOf colNums) 1 = k.val := by
    unfold ScatterDims.start
    rw [dif_pos (by decide)]
    show (startsOf colNums (scatter_S4096x64_S64x1_S4096x64_0_1_1_1.siIdx (ix2 r k) ⟨0, _⟩)).toInt = _
    rw [e', word_toInt]
  have w0 : scatter_S4096x64_S64x1_S4096x64_0_1_1_1.window (ix2 r k) 0 = r.val := by
    unfold ScatterDims.window
    rw [dif_pos (by decide)]
    rfl
  have w1 : scatter_S4096x64_S64x1_S4096x64_0_1_1_1.window (ix2 r k) 1 = 0 := by
    unfold ScatterDims.window
    rw [dif_neg (by decide)]
  rw [s0, s1, w0, w1]
  constructor
  · rintro ⟨h0, h1⟩; exact ⟨Fin.ext (by omega), Fin.ext (by omega)⟩
  · rintro ⟨rfl, rfl⟩; exact ⟨by omega, by omega⟩

/-- Setting the columns 0 to 63 leaves what they are set to. -/
theorem scatter_id {α : Type} (x u : S4096x64.Idx → α) :
    Host.scatter scatter_S4096x64_S64x1_S4096x64_0_1_1_1 (fun _ b => b) x (startsOf colNums) u = u := by
  funext j
  rw [scatter_at]
  have h := foldl_pick (fun n => scatter_S4096x64_S64x1_S4096x64_0_1_1_1.resultIdx? (S4096x64.rowMajor.symm n) (startsOf colNums) = some j)
    (fun n => u (S4096x64.rowMajor.symm n)) (S4096x64.rowMajor j) (fun i => by
      obtain ⟨i, rfl⟩ := S4096x64.rowMajor.surjective i
      rw [Equiv.symm_apply_apply, S4096x64.rowMajor.apply_eq_iff_eq]
      obtain ⟨r, k, rfl⟩ : ∃ (r : Fin 4096) (k : Fin 64), j = ix2 r k := ⟨j 0, j 1, eq_ix2 (n0 := 4096) (n1 := 64) j⟩
      obtain ⟨r', k', rfl⟩ : ∃ (r : Fin 4096) (k : Fin 64), i = ix2 r k := ⟨i 0, i 1, eq_ix2 (n0 := 4096) (n1 := 64) i⟩
      rw [lands]
      constructor
      · rintro ⟨rfl, rfl⟩; rfl
      · intro e; exact ⟨congrFun e 0, congrFun e 1⟩) (List.finRange _) (x j) (Or.inr (List.mem_finRange _))
  rw [Equiv.symm_apply_apply] at h
  exact h

end Cert.Proof.Ranks.Ref

end

end
-- ==== Proof.Rank.lean ====
/-
  Ranks by sorting: sorting positions by distinct values and then by the positions that gave, each position is left with
  the number of values below its own.
-/
module

public import Idealize.ShloMosaic.Lib.SortFacts
public import Mathlib.Order.Fin.Basic
public import Mathlib.Data.Fintype.Card
public import Mathlib.Order.Interval.Finset.Fin

@[expose] public section

noncomputable section

namespace Cert.Proof.Ranks

open Idealize.ShloMosaic

variable {n : ℕ} {α β : Type} [LinearOrder α] [LinearOrder β]

/-- The positions in the order of distinct values carry increasing values. -/
theorem sorted_mono (w : Fin n → α) (hw : Function.Injective w) (R : Fin n → Fin n → Bool) (hR : ∀ k k', R k k' = true ↔ w k < w k') :
    StrictMono fun k => w (sortedFrom R k) := by
  intro i j hij
  have h := sortedFrom_noInversion R R (fun a b h => by
      by_contra hc; rw [Bool.not_eq_false] at hc; exact lt_asymm ((hR _ _).1 h) ((hR _ _).1 hc)) (fun a b h => h)
    (fun a b c h1 h2 => by
      by_contra hc
      rw [Bool.not_eq_false, hR] at hc
      have h1' : ¬ w a < w b := fun h => by rw [(hR _ _).2 h] at h1; exact absurd h1 (by decide)
      have h2' : ¬ w b < w c := fun h => by rw [(hR _ _).2 h] at h2; exact absurd h2 (by decide)
      exact absurd hc (not_lt.2 ((not_lt.1 h2').trans (not_lt.1 h1')))) i j hij
  have h' : ¬ w (sortedFrom R j) < w (sortedFrom R i) := fun hl => by rw [(hR _ _).2 hl] at h; exact absurd h (by decide)
  exact lt_of_le_of_ne (not_lt.1 h') fun he => (ne_of_lt hij) (sortedFrom_injective R (hw he))

/-- The position put at `k` has `k` values below its own. -/
theorem card_below_sorted (w : Fin n → α) (hw : Function.Injective w) (R : Fin n → Fin n → Bool) (hR : ∀ k k', R k k' = true ↔ w k < w k')
    (k : Fin n) : (Finset.univ.filter fun b => w b < w (sortedFrom R k)).card = k.val := by
  have hm := sorted_mono w hw R hR
  have e : (Finset.univ.filter fun b => w b < w (sortedFrom R k)) = (Finset.Iio k).image (sortedFrom R) := by
    ext b
    obtain ⟨i, rfl⟩ := sortedFrom_surjective R b
    simp only [Finset.mem_filter, Finset.mem_univ, true_and, Finset.mem_image, Finset.mem_Iio]
    constructor
    · exact fun h => ⟨i, hm.lt_iff_lt.1 h, rfl⟩
    · rintro ⟨i', h, e⟩
      rw [← e]; exact hm h
  rw [e, Finset.card_image_of_injective _ (sortedFrom_injective R), Fin.card_Iio]

/-- Sorting by the values and then by the positions found ranks each position. -/
theorem rank_by_sorting (v : Fin n → α) (hv : Function.Injective v) (R : Fin n → Fin n → Bool) (hR : ∀ k k', R k k' = true ↔ v k < v k')
    (R' : Fin n → Fin n → Bool) (hR' : ∀ k k', R' k k' = true ↔ sortedFrom R k < sortedFrom R k') (j : Fin n) :
    (sortedFrom R' j).val = (Finset.univ.filter fun b => v b < v j).card := by
  have h1 := card_below_sorted (sortedFrom R) (sortedFrom_injective R) R' hR' j
  have e : sortedFrom R (sortedFrom R' j) = j := by
    apply Fin.ext
    rw [← h1]
    have e : (Finset.univ.filter fun b => sortedFrom R b < sortedFrom R (sortedFrom R' j))
        = (Finset.Iio (sortedFrom R (sortedFrom R' j))).preimage (sortedFrom R) (sortedFrom_injective R).injOn := by
      ext b; simp
    rw [e, Finset.card_preimage]
    have : (Finset.Iio (sortedFrom R (sortedFrom R' j))).filter (fun x => x ∈ Set.range (sortedFrom R)) = Finset.Iio (sortedFrom R (sortedFrom R' j)) :=
      Finset.filter_true_of_mem fun x _ => sortedFrom_surjective R x
    rw [this, Fin.card_Iio]
  have h2 := card_below_sorted v hv R hR (sortedFrom R' j)
  rw [e] at h2
  exact h2.symm

end Cert.Proof.Ranks
-- ==== Proof.Count.lean ====
/-
  What the kernel's counting amounts to over exact numbers: for each element the number of smaller ones in its column,
  added up over the samples, scaled and clipped.
-/
module

public import proofs.«01_k».proof.Proof.TcBody
public import proofs.«01_k».proof.Proof.TileSteps
public import Idealize.ShloMosaic.Lib.IdealHost
public import Idealize.ShloMosaic.Lib.ValueLayout

@[expose] public section

noncomputable section

namespace Cert.Proof.Ranks

open Cert.KernelIdeal Cert.KernelIdeal.Gen
open Idealize.ShloMosaic Idealize.ShloMosaic.ValueIdx

/-- How many of the values `v` are below the `j`-th. -/
def rank (v : Fin 64 → EReal) (j : Fin 64) : ℕ := (Finset.univ.filter fun b => v b < v j).card

/-- A sum of ranks, scaled and clipped. -/
def score (n : ℕ) : EReal := min 1 (max 0 ((n : EReal) * Ideal.ofBits .f32 0x39800000#32))

/-- One if `b` holds, zero otherwise. -/
def one (p : Prop) [Decidable p] : EReal := if p then 1 else 0

/-- The ones of the rows `64 - n` and on. -/
def onesFrom (p : ℕ → EReal) : ℕ → EReal
  | 0 => 0
  | n + 1 => p (64 - (n + 1)) + onesFrom p n

theorem onesFrom_eq (p : ℕ → EReal) : ∀ n, n ≤ 64 → onesFrom p n = ∑ b ∈ Finset.Ico (64 - n) 64, p b
  | 0, _ => by simp [onesFrom]
  | n + 1, h => by
    rw [onesFrom, onesFrom_eq p n (by omega), Finset.sum_eq_sum_Ico_succ_bot (by omega : 64 - (n + 1) < 64)]
    congr 3; omega

/-- All 64 ones count. -/
theorem ones_card (p : ℕ → Prop) [DecidablePred p] :
    onesFrom (fun b => one (p b)) 64 = (((Finset.univ : Finset (Fin 64)).filter fun b => p b.val).card : EReal) := by
  rw [onesFrom_eq _ 64 le_rfl, show Finset.Ico (64 - 64) 64 = Finset.range 64 from by ext; simp,
    ← Fin.sum_univ_eq_sum_range]
  unfold one
  rw [Finset.sum_boole]

/-! ## The TensorCore's block -/

theorem one_eq (p : Prop) [Decidable p] : (((((BitVec.ofBool (decide p)).setWidth 32).toInt : ℤ) : ℝ) : EReal) = one p := by
  unfold one
  by_cases h : p
  · rw [if_pos h, decide_eq_true h, show ((BitVec.ofBool true).setWidth 32).toInt = 1 from by decide]; simp
  · rw [if_neg h, decide_eq_false h, show ((BitVec.ofBool false).setWidth 32).toInt = 0 from by decide]; simp

theorem gtRow_apply (v : FVec Ideal S64x128 .f32) (b : ℕ) (h : b < 64) (y : S64x128.Idx) :
    gtRow v b h y = one (v (ix2 ⟨b, h⟩ (y 1)) < v y) := by
  have e : broadcastTo S64x128 (extractStridedSlice S1x128 ![b, 0] v (slices_row b h)) broadcasts_S1x128_S64x128 y = v (ix2 ⟨b, h⟩ (y 1)) := by
    obtain ⟨i, j, rfl⟩ : ∃ i j, y = ix2 i j := ⟨y 0, y 1, eq_ix2 y⟩
    rw [broadcastTo_1b_ab_apply]
    refine extractStridedSlice_apply _ _ _ _ _ fun a => ?_
    match a with
    | 0 => simp [ix2]
    | 1 => simp [ix2]
  rw [← one_eq, ← e]
  rfl

theorem gtRows_apply (v : FVec Ideal S64x128 .f32) (y : S64x128.Idx) : ∀ (n : ℕ) (h : n ≤ 64) (acc : FVec Ideal S64x128 .f32),
    gtRows v n h acc y = acc y + onesFrom (fun b => one (v (ix2 (Fin.ofNat 64 b) (y 1)) < v y)) n
  | 0, _, acc => by rw [gtRows, onesFrom, add_zero]
  | n + 1, h, acc => by
    rw [gtRows, gtRows_apply v y n, addf_apply, gtRow_apply, onesFrom, ← add_assoc]
    have e : (⟨64 - (n + 1), by omega⟩ : Fin 64) = Fin.ofNat 64 (64 - (n + 1)) := by apply Fin.ext; show _ = _ % 64; dsimp only; omega
    rw [e]

theorem gtRows_all (v : FVec Ideal S64x128 .f32) (y : S64x128.Idx) (acc : FVec Ideal S64x128 .f32) :
    gtRows v 64 le_rfl acc y = acc y + (rank (fun b => v (ix2 b (y 1))) (y 0) : EReal) := by
  rw [gtRows_apply v y 64 le_rfl acc, ones_card fun b => v (ix2 (Fin.ofNat 64 b) (y 1)) < v y]
  unfold rank
  have e : ∀ b : Fin 64, Fin.ofNat 64 b.val = b := fun b => by apply Fin.ext; show b.val % 64 = _; omega
  obtain ⟨i, j, rfl⟩ : ∃ i j, y = ix2 i j := ⟨y 0, y 1, eq_ix2 y⟩
  simp only [e]

/-- The sum of the first `k` numbers. -/
def upTo (f : ℕ → ℕ) : ℕ → ℕ
  | 0 => 0
  | k + 1 => upTo f k + f k

theorem upTo_eq (f : ℕ → ℕ) : ∀ k, upTo f k = ∑ s ∈ Finset.range k, f s
  | 0 => rfl
  | k + 1 => by rw [upTo, upTo_eq f k, Finset.sum_range_succ]

theorem k1_pay5_apply (X : Blk Ideal) (N : NBlk Ideal) (k : ℕ) (y : S64x128.Idx) :
    k1_pay5 (k1_pay1 X) (sampleOf N k) y = X y + N (ix3 (Fin.ofNat 64 k) (y 0) (y 1)) := by
  obtain ⟨i, j, rfl⟩ : ∃ i j, y = ix2 i j := ⟨y 0, y 1, eq_ix2 y⟩
  unfold k1_pay5 k1_pay1
  rw [addf_apply, shapeCast_1ab_ab_apply]
  rw [shapeCast_self]
  rfl

theorem tcAcc_apply (X : Blk Ideal) (N : NBlk Ideal) (y : S64x128.Idx) : ∀ k, tcAcc X N k y
    = (upTo (fun s => rank (fun b => X (ix2 b (y 1)) + N (ix3 (Fin.ofNat 64 s) b (y 1))) (y 0)) k : EReal)
  | 0 => by
    unfold tcAcc k1_pay2 upTo
    rw [Nat.cast_zero]; exact Ideal.ofBits_zero_f32
  | k + 1 => by
    rw [tcAcc, gtRows_all, tcAcc_apply X N y k, upTo, Nat.cast_add]
    simp only [k1_pay5_apply]

theorem tcBlock_apply (X : Blk Ideal) (N : NBlk Ideal) (y : S64x128.Idx) :
    tcBlock X N y = score (∑ s : Fin 64, rank (fun b => X (ix2 b (y 1)) + N (ix3 s b (y 1))) (y 0)) := by
  have e : (∑ s : Fin 64, rank (fun b => X (ix2 b (y 1)) + N (ix3 s b (y 1))) (y 0))
      = upTo (fun s => rank (fun b => X (ix2 b (y 1)) + N (ix3 (Fin.ofNat 64 s) b (y 1))) (y 0)) 64 := by
    rw [upTo_eq, ← Fin.sum_univ_eq_sum_range]
    refine Finset.sum_congr rfl fun s _ => ?_
    rw [show Fin.ofNat 64 s.val = s from by apply Fin.ext; show s.val % 64 = _; omega]
  rw [e]
  unfold score
  rw [← tcAcc_apply X N y 64]
  show min (Ideal.ofBits .f32 0x3F800000#32) (max (Ideal.ofBits .f32 0x00000000#32) _) = _
  rw [Ideal.ofBits_one_f32, Ideal.ofBits_zero_f32]
  rfl

/-! ## A tile's matrices -/

/-- Lane `l` of a row of 16. -/
theorem row_lane (w : Vec Ideal S1x16 .f32) (l : Fin 16) :
    (shapeCast S16 w shapeCasts_S1x16_S16 : FVec Ideal S16 .f32) (ix1 l) = w (ix2 0 l) :=
  shapeCast_1a_a_apply (a := 16) w shapeCasts_S1x16_S16 l

theorem lane_row (w : FVec Ideal S16 .f32) (l : Fin 16) : (shapeCast S1x16 w shapeCasts_S16_S1x16 : FVec Ideal S1x16 .f32) (ix2 0 l) = w (ix1 l) :=
  shapeCast_a_1a_apply (a := 16) w shapeCasts_S16_S1x16 0 l

theorem sumMat_apply (X N : Mat Ideal) (y : S64x16.Idx) : sumMat X N y = X y + N y := by
  obtain ⟨i, l, rfl⟩ : ∃ i l, y = ix2 i l := ⟨y 0, y 1, eq_ix2 y⟩
  show addRow (rowOf X i) (rowOf N i) (ix2 0 l) = _
  unfold addRow
  rw [lane_row, addf_apply, row_lane, row_lane]
  rfl

theorem less_apply (Y : Mat Ideal) (r : Fin 64) (b : FVec Ideal S16 .f32) (l : Fin 16) :
    less (rowOf Y r) b (ix1 l) = one (Y (ix2 r l) < b (ix1 l)) := by
  have e : (shapeCast S16 (rowOf Y r) shapeCasts_S1x16_S16 : FVec Ideal S16 .f32) (ix1 l) = Y (ix2 r l) := row_lane _ l
  rw [← e]
  unfold one
  show (if BitVec.ofBool (decide ((shapeCast S16 (rowOf Y r) shapeCasts_S1x16_S16 : FVec Ideal S16 .f32) (ix1 l) < b (ix1 l))) = 1#1
    then Ideal.ofBits .f32 0x3F800000#32 else Ideal.ofBits .f32 0x00000000#32) = _
  rw [Ideal.ofBits_one_f32, Ideal.ofBits_zero_f32]
  by_cases h : (shapeCast S16 (rowOf Y r) shapeCasts_S1x16_S16 : FVec Ideal S16 .f32) (ix1 l) < b (ix1 l)
  · rw [if_pos h, if_pos (by rw [decide_eq_true h]; rfl)]
  · rw [if_neg h, if_neg (by rw [decide_eq_false h]; decide)]

/-- The partial counts added up, in one lane. -/
def totalAt (s : ℕ → FVec Ideal S16 .f32) (l : Fin 16) : EReal := ∑ q ∈ Finset.range 8, s q (ix1 l)

theorem total_apply (s : ℕ → FVec Ideal S16 .f32) (l : Fin 16) : total s (ix1 l) = totalAt s l := by
  unfold total totalAt
  simp only [addf_apply, Finset.sum_range_succ, Finset.sum_range_zero, zero_add, add_assoc]

theorem totalAt_bump (s : ℕ → FVec Ideal S16 .f32) (q : ℕ) (hq : q < 8) (w : FVec Ideal S16 .f32) (l : Fin 16) :
    totalAt (bump s q w) l = totalAt s l + w (ix1 l) := by
  have e : ∀ p, bump s q w p (ix1 l) = s p (ix1 l) + if q = p then w (ix1 l) else 0 := by
    intro p
    unfold bump
    by_cases h : p = q
    · subst h; rw [if_pos rfl, if_pos rfl, addf_apply]
    · rw [if_neg h, if_neg (fun h' => h h'.symm), add_zero]
  unfold totalAt
  rw [Finset.sum_congr rfl fun p _ => e p, Finset.sum_add_distrib, Finset.sum_ite_eq, if_pos (Finset.mem_range.2 hq)]

theorem counts_total (Y : Mat Ideal) (b : FVec Ideal S16 .f32) (l : Fin 16) : ∀ (n : ℕ) (h : n ≤ 64) (s : ℕ → FVec Ideal S16 .f32),
    totalAt (counts Y b n h s) l = totalAt s l + onesFrom (fun r => one (Y (ix2 (Fin.ofNat 64 r) l) < b (ix1 l))) n
  | 0, _, s => by rw [counts, onesFrom, add_zero]
  | n + 1, h, s => by
    rw [counts, counts_total Y b l n, totalAt_bump _ _ (Nat.mod_lt _ (by decide)), less_apply, onesFrom, ← add_assoc]
    have e : (⟨64 - (n + 1), by omega⟩ : Fin 64) = Fin.ofNat 64 (64 - (n + 1)) := by apply Fin.ext; show _ = _ % 64; dsimp only; omega
    rw [e]

theorem rankOf_apply (Y : Mat Ideal) (r : Fin 64) (l : Fin 16) : rankOf Y r (ix1 l) = (rank (fun b => Y (ix2 b l)) r : EReal) := by
  unfold rankOf
  rw [total_apply, counts_total, row_lane]
  have e0 : totalAt (fun _ => broadcast S16 (Scalar.ofBits (F := Ideal) .f32 0x00000000#32)) l = 0 := by
    unfold totalAt
    refine Finset.sum_eq_zero fun q _ => ?_
    exact Ideal.ofBits_zero_f32
  rw [e0, zero_add]
  show onesFrom (fun b => one (Y (ix2 (Fin.ofNat 64 b) l) < Y (ix2 r l))) 64 = _
  rw [ones_card fun b => Y (ix2 (Fin.ofNat 64 b) l) < Y (ix2 r l)]
  unfold rank
  have e : ∀ b : Fin 64, Fin.ofNat 64 b.val = b := fun b => by apply Fin.ext; show b.val % 64 = _; omega
  simp only [e]

theorem accAt_apply (X : Mat Ideal) (N : ℕ → Mat Ideal) (r : Fin 64) (l : Fin 16) : ∀ k, accAt X N k (ix2 r l)
    = (upTo (fun s => rank (fun b => X (ix2 b l) + N s (ix2 b l)) r) k : EReal)
  | 0 => by
    show k0_pay145 (F := Ideal) (ix2 0 l) = _
    unfold k0_pay145 upTo
    rw [lane_row, Nat.cast_zero]; exact Ideal.ofBits_zero_f32
  | k + 1 => by
    show accRow (rowOf (accAt X N k) r) (rankOf (sumMat X (N k)) r) (ix2 0 l) = _
    unfold accRow
    rw [lane_row, addf_apply, row_lane, rankOf_apply, upTo, Nat.cast_add]
    show accAt X N k (ix2 r l) + _ = _
    rw [accAt_apply X N r l k]
    simp only [sumMat_apply]

theorem scaleMat_apply (X : Mat Ideal) (N : ℕ → Mat Ideal) (r : Fin 64) (l : Fin 16) :
    scaleMat (accAt X N 64) (ix2 r l) = score (∑ s : Fin 64, rank (fun b => X (ix2 b l) + N s.val (ix2 b l)) r) := by
  rw [Fin.sum_univ_eq_sum_range (fun s => rank (fun b => X (ix2 b l) + N s (ix2 b l)) r), ← upTo_eq]
  unfold score
  rw [← accAt_apply X N r l 64]
  show k0_pay149 (rowOf (accAt X N 64) r) (ix2 0 l) = _
  unfold k0_pay149
  rw [lane_row]
  show min (Ideal.ofBits .f32 0x3F800000#32) (max (Ideal.ofBits .f32 0x00000000#32)
    ((shapeCast S16 (rowOf (accAt X N 64) r) shapeCasts_S1x16_S16 : FVec Ideal S16 .f32) (ix1 l) * _)) = _
  rw [Ideal.ofBits_one_f32, Ideal.ofBits_zero_f32, row_lane]
  rfl

end Cert.Proof.Ranks
-- ==== Proof.RefRank.lean ====
/-
  The reference's two sorts: the first puts the positions in the order of their values, the second in the order of those
  positions, which leaves each element's rank among its row where the row's values are distinct.
-/
module

public import proofs.«01_k».proof.Proof.RefIndex
public import proofs.«01_k».proof.Proof.Rank
public import proofs.«01_k».proof.Proof.Count

@[expose] public section

noncomputable section

namespace Cert.Proof.Ranks.Ref

open Cert.ReferenceIdeal Cert.ReferenceIdeal.Gen
open Idealize.ShloMosaic hiding ix1 ix2 ix3 ix4 eq_ix2 eq_ix3
open Idealize.ShloMosaic.ValueIdx

/-- The positions along a row in the order of the row's values. -/
def order (v : FVec Ideal S64x4096x64 .f32) : IVec S64x4096x64 32 :=
  (Host.sort2 S64x4096x64 2 comparator_f32_i32_d2 v (iotaInDim S64x4096x64 32 2)).2

/-- The positions along a row in the order of the row's positions. -/
def places (p : IVec S64x4096x64 32) : IVec S64x4096x64 32 :=
  (Host.sort2 S64x4096x64 2 comparator_i32_i32_d2 p (iotaInDim S64x4096x64 32 2)).2

/-- A zero replaced by zero, a number that is not one replaced by another: each number as it was. -/
theorem cleaned (x : EReal) :
    Scalar.select (FloatOps.cmpf (F := Ideal) (φ := .f32) .une x x) (Ideal.ofBits .f32 0x7FC00000#32)
      (Scalar.select (FloatOps.cmpf (F := Ideal) (φ := .f32) .oeq x (Ideal.ofBits .f32 0x00000000#32)) (Ideal.ofBits .f32 0x00000000#32) x) = x := by
  have e1 : FloatOps.cmpf (F := Ideal) (φ := .f32) .une x x = 0#1 := by
    show BitVec.ofBool (decide (x ≠ x)) = 0#1
    rw [decide_eq_false (by simp)]; rfl
  rw [e1]
  show Scalar.select (BitVec.ofBool (decide (x = Ideal.ofBits .f32 0x00000000#32))) (Ideal.ofBits .f32 0x00000000#32) x = x
  by_cases h : x = Ideal.ofBits .f32 0x00000000#32
  · rw [decide_eq_true h]; exact h.symm
  · rw [decide_eq_false h]; rfl

theorem before_values (l r : EReal × BitVec 32) : (comparator_f32_i32_d2 (F := Ideal) l r == 1#1) = true ↔ l.1 < r.1 := by
  have e : comparator_f32_i32_d2 (F := Ideal) l r = BitVec.ofBool (decide (l.1 < r.1)) := by
    conv_rhs => rw [← cleaned l.1, ← cleaned r.1]
    rfl
  rw [e]
  by_cases h : l.1 < r.1 <;> simp [h]

theorem before_words (l r : BitVec 32 × BitVec 32) : (comparator_i32_i32_d2 l r == 1#1) = true ↔ l.1.toInt < r.1.toInt := by
  have e : comparator_i32_i32_d2 l r = BitVec.ofBool (decide (l.1.toInt < r.1.toInt)) := rfl
  rw [e]
  by_cases h : l.1.toInt < r.1.toInt <;> simp [h]

theorem along_ix3 (s : Fin 64) (r : Fin 4096) (k k' : Fin 64) :
    Shape.Idx.along (s := S64x4096x64) (ix3 s r k) 2 k' = ix3 s r k' := by
  funext a
  match a with
  | 0 => rfl
  | 1 => rfl
  | 2 => rfl

/-- The order a sort of pairs goes by, along one row. -/
def rowBefore {α : Type} (cmp : α × BitVec 32 → α × BitVec 32 → BitVec 1) (v : S64x4096x64.Idx → α) (s : Fin 64) (r : Fin 4096) (a b : Fin 64) : Bool :=
  cmp (v (ix3 s r a), BitVec.ofNat 32 a.val) (v (ix3 s r b), BitVec.ofNat 32 b.val) == 1#1

/-- A sort of the positions along a row, read at an element: the position the row's order puts there. -/
theorem sort_row {α : Type} (cmp : α × BitVec 32 → α × BitVec 32 → BitVec 1) (v : S64x4096x64.Idx → α) (s : Fin 64) (r : Fin 4096) (k : Fin 64) :
    (Host.sort2 S64x4096x64 2 cmp v (iotaInDim S64x4096x64 32 2)).2 (ix3 s r k) = BitVec.ofNat 32 (sortedFrom (rowBefore cmp v s r) k).val := by
  have e : rowBefore cmp v s r
      = fun a b : Fin 64 => cmp (v (Shape.Idx.along (s := S64x4096x64) (ix3 s r k) 2 a), iotaInDim S64x4096x64 32 2 (Shape.Idx.along (s := S64x4096x64) (ix3 s r k) 2 a))
          (v (Shape.Idx.along (s := S64x4096x64) (ix3 s r k) 2 b), iotaInDim S64x4096x64 32 2 (Shape.Idx.along (s := S64x4096x64) (ix3 s r k) 2 b)) == 1#1 := by
    funext a b
    rw [along_ix3, along_ix3]
    rfl
  have e' : (Host.sort2 S64x4096x64 2 cmp v (iotaInDim S64x4096x64 32 2)).2 (ix3 s r k)
      = iotaInDim S64x4096x64 32 2 (Shape.Idx.along (s := S64x4096x64) (ix3 s r k) 2 (sortedFrom (rowBefore cmp v s r) k)) := by
    rw [e]
    unfold Host.sort2
    rw [dif_pos (show 2 < S64x4096x64.rank by decide)]
    rfl
  have h : ∀ q : Fin 64, iotaInDim S64x4096x64 32 2 (Shape.Idx.along (s := S64x4096x64) (ix3 s r k) 2 q) = BitVec.ofNat 32 q.val := fun q => by
    rw [along_ix3]; rfl
  exact e'.trans (h _)

/-- The two sorts rank the elements of a row of distinct values. -/
theorem places_order (v : FVec Ideal S64x4096x64 .f32) (s : Fin 64) (r : Fin 4096) (hv : Function.Injective fun b : Fin 64 => v (ix3 s r b))
    (j : Fin 64) : places (order v) (ix3 s r j) = BitVec.ofNat 32 (rank (fun b => v (ix3 s r b)) j) := by
  have h1 : ∀ k, order v (ix3 s r k) = BitVec.ofNat 32 (sortedFrom (rowBefore (comparator_f32_i32_d2 (F := Ideal)) v s r) k).val :=
    fun k => sort_row _ _ s r k
  have h2 : places (order v) (ix3 s r j) = BitVec.ofNat 32 (sortedFrom (rowBefore comparator_i32_i32_d2 (order v) s r) j).val :=
    sort_row _ _ s r j
  rw [h2, rank_by_sorting (fun b : Fin 64 => v (ix3 s r b)) hv (rowBefore (comparator_f32_i32_d2 (F := Ideal)) v s r) (fun k k' => before_values _ _)
    (rowBefore comparator_i32_i32_d2 (order v) s r) (fun k k' => by
      show (comparator_i32_i32_d2 _ _ == 1#1) = true ↔ _
      rw [before_words, h1, h1, word_toInt, word_toInt, Nat.cast_lt, Fin.val_fin_lt]) j]
  rfl

end Cert.Proof.Ranks.Ref

end

end
-- ==== Proof.RefMean.lean ====
/-
  What the reference makes of the ranks: their mean over the samples, scaled and clipped, which is the same scaling of
  their sum.
-/
module

public import proofs.«01_k».proof.Proof.RefRank
public import Idealize.ShloMosaic.Lib.Pointwise.Reduce

@[expose] public section

noncomputable section

namespace Cert.Proof.Ranks.Ref

open Cert.ReferenceIdeal Cert.ReferenceIdeal.Gen
open Idealize.ShloMosaic hiding ix1 ix2 ix3 ix4 eq_ix2 eq_ix3
open Idealize.ShloMosaic.ValueIdx

variable {F : FTy → Type} [FloatOps F]

/-- A number in every place. -/
def everywhere (b : BitVec 32) : FVec F S4096x64 .f32 := broadcastInDim S4096x64 ![] bcast_S_S4096x64 (constant S_ .f32 b)

/-- The mean over the samples. -/
def meanOf (p : IVec S64x4096x64 32) : FVec F S4096x64 .f32 :=
  Host.divf (Host.reduceAdd (sitofp .f32 p) (constant S_ .f32 0x00000000#32) reducesTo_S64x4096x64_S4096x64_d0 h_S_) (everywhere 0x42800000#32)

/-- The mean rank over the number of elements, clipped. -/
def clipped (u : FVec F S4096x64 .f32) : FVec F S4096x64 .f32 :=
  minimumf (everywhere 0x3F800000#32) (maximumf (everywhere 0x00000000#32) (Host.divf u (everywhere 0x42800000#32)))

theorem ofBits_64 : Ideal.ofBits .f32 0x42800000#32 = ((64 : ℝ) : EReal) := by
  simp [Ideal.ofBits, Ideal.ieee, -EReal.coe_mul]; norm_num

theorem ofBits_4096th : Ideal.ofBits .f32 0x39800000#32 = ((1 / 4096 : ℝ) : EReal) := by
  simp [Ideal.ofBits, Ideal.ieee, -EReal.coe_mul]; norm_num

theorem everywhere_apply (b : BitVec 32) (y : S4096x64.Idx) : everywhere (F := Ideal) b y = Ideal.ofBits .f32 b :=
  broadcastInDim_scalar_apply _ _ _

theorem nat_coe (n : ℕ) : ((n : ℝ) : EReal) = (n : EReal) := by norm_cast

theorem meanOf_apply (p : IVec S64x4096x64 32) (n : Fin 64 → ℕ) (r : Fin 4096) (j : Fin 64) (hn : ∀ s, n s ≤ 64)
    (hp : ∀ s : Fin 64, p (ix3 s r j) = BitVec.ofNat 32 (n s)) :
    meanOf (F := Ideal) p (ix2 r j) = ((((∑ s, n s : ℕ) : ℝ) * (1 / 64) : ℝ) : EReal) := by
  have e : ∀ s : Fin 64, (sitofp (F := Ideal) .f32 p) (ix3 s r j) = ((n s : ℕ) : EReal) := fun s => by
    show (((p (ix3 s r j)).toInt : ℝ) : EReal) = _
    rw [hp s, BitVec.toInt_eq_toNat_of_lt (by rw [BitVec.toNat_ofNat]; have := hn s; omega), BitVec.toNat_ofNat,
      Nat.mod_eq_of_lt (by have := hn s; omega)]
    norm_cast
  have e' : Ideal.hostReduceAdd reducesTo_S64x4096x64_S4096x64_d0 (sitofp (F := Ideal) .f32 p) (Ideal.ofBits .f32 0x00000000#32) (ix2 r j)
      = (((∑ s, n s : ℕ) : ℝ) : EReal) := by
    rw [Ideal.hostReduceAdd_r3_a0, Ideal.ofBits_zero_f32, zero_add, nat_coe, Nat.cast_sum]
    exact Finset.sum_congr rfl fun s _ => e s
  unfold meanOf
  rw [hostDivf_apply, everywhere_apply, ofBits_64, Ideal.div_coe (by norm_num), hostReduceAdd_apply, EReal.coe_mul, ← e']
  rfl

theorem clipped_mean (p : IVec S64x4096x64 32) (n : Fin 64 → ℕ) (r : Fin 4096) (j : Fin 64) (hn : ∀ s, n s ≤ 64)
    (hp : ∀ s : Fin 64, p (ix3 s r j) = BitVec.ofNat 32 (n s)) :
    clipped (F := Ideal) (meanOf p) (ix2 r j) = score (∑ s, n s) := by
  have e : Host.divf (meanOf (F := Ideal) p) (everywhere 0x42800000#32) (ix2 r j) = ((∑ s, n s : ℕ) : EReal) * Ideal.ofBits .f32 0x39800000#32 := by
    rw [hostDivf_apply, everywhere_apply, ofBits_64, Ideal.div_coe (by norm_num), meanOf_apply p n r j hn hp, ofBits_4096th, ← nat_coe,
      ← EReal.coe_mul, ← EReal.coe_mul]
    congr 1
    ring
  show min (everywhere (F := Ideal) 0x3F800000#32 (ix2 r j)) (max (everywhere (F := Ideal) 0x00000000#32 (ix2 r j))
    (Host.divf (meanOf (F := Ideal) p) (everywhere 0x42800000#32) (ix2 r j))) = _
  rw [e, everywhere_apply, everywhere_apply, Ideal.ofBits_one_f32, Ideal.ofBits_zero_f32]
  rfl

end Cert.Proof.Ranks.Ref

end

end
-- ==== Proof.NoTies.lean ====
/-
  What the precondition says: in no row and no sample do two entries carry the same perturbed value.
-/
module

public import proofs.«01_k».proof.Proof.Noise
public import Idealize.ShloMosaic.Lib.ReduceAll
public import Idealize.ShloMosaic.Lib.IdealHost
public import Idealize.ShloMosaic.Lib.Pipeline.Value

@[expose] public section

noncomputable section

namespace Cert.Proof.Ranks

open Cert.Pre_no_ties Cert.Pre_no_ties.Gen
open Idealize.ShloMosaic Idealize.ShloMosaic.ValueIdx

/-- The array perturbed by the noise, one copy per sample. -/
def perturbed (X : FVec Ideal S4096x64 .f32) : FVec Ideal S64x4096x64 .f32 :=
  addf (broadcastInDim S64x4096x64 ![0, 1, 2] bcast_S1x4096x64_S64x4096x64_0_1_2
    (broadcastInDim S1x4096x64 ![1, 2] bcast_S4096x64_S1x4096x64_1_2 X)) noise

theorem perturbed_apply (X : FVec Ideal S4096x64 .f32) (s : Fin 64) (r : Fin 4096) (j : Fin 64) :
    perturbed X (ix3 s r j) = X (ix2 r j) + noise (F := Ideal) (ix3 s r j) := by
  unfold perturbed
  rw [addf_apply, broadcastInDim_apply _ _ _ (ix3 s r j) (ix3 0 r j) (fun a => by match a with | 0 => rfl | 1 => rfl | 2 => rfl),
    broadcastInDim_apply _ _ _ (ix3 (0 : Fin 1) r j) (ix2 r j) (fun a => by match a with | 0 => rfl | 1 => rfl)]

/-- Whether the entries at two positions of a row differ, or the positions are one. -/
def apart (v : FVec Ideal S64x4096x64 .f32) : IVec S64x4096x64x64 1 :=
  ori (cmpf .une
      (broadcastInDim S64x4096x64x64 ![0, 1, 2, 3] bcast_S64x4096x64x1_S64x4096x64x64_0_1_2_3
        (broadcastInDim S64x4096x64x1 ![0, 1, 2] bcast_S64x4096x64_S64x4096x64x1_0_1_2 v))
      (broadcastInDim S64x4096x64x64 ![0, 1, 2, 3] bcast_S64x4096x1x64_S64x4096x64x64_0_1_2_3
        (broadcastInDim S64x4096x1x64 ![0, 1, 3] bcast_S64x4096x64_S64x4096x1x64_0_1_3 v)))
    (broadcastInDim S64x4096x64x64 ![0, 1, 2, 3] bcast_S1x1x64x64_S64x4096x64x64_0_1_2_3
      (broadcastInDim S1x1x64x64 ![2, 3] bcast_S64x64_S1x1x64x64_2_3 (cmpi .eq (iotaInDim S64x64 32 0) (iotaInDim S64x64 32 1))))

theorem pre_eq (X : FVec Ideal S4096x64 .f32) :
    fn (F := Ideal) X = Host.reduce IntOp.andi (apart (perturbed X)) (constantI S_ 1 1#1) reducesTo_S64x4096x64x64_S_d0_1_2_3 h_S_ := rfl

theorem apart_apply (v : FVec Ideal S64x4096x64 .f32) (s : Fin 64) (r : Fin 4096) (a b : Fin 64) :
    apart v (ix4 s r a b) = BitVec.ofBool (decide (v (ix3 s r a) ≠ v (ix3 s r b)))
      ||| BitVec.ofBool (decide (BitVec.ofNat 32 a.val = BitVec.ofNat 32 b.val)) := by
  have e1 : broadcastInDim S64x4096x64x64 ![0, 1, 2, 3] bcast_S64x4096x64x1_S64x4096x64x64_0_1_2_3
      (broadcastInDim S64x4096x64x1 ![0, 1, 2] bcast_S64x4096x64_S64x4096x64x1_0_1_2 v) (ix4 s r a b) = v (ix3 s r a) := by
    rw [broadcastInDim_apply _ _ _ (ix4 s r a b) (ix4 s r a 0) (fun k => by match k with | 0 => rfl | 1 => rfl | 2 => rfl | 3 => rfl),
      broadcastInDim_apply _ _ _ (ix4 s r a (0 : Fin 1)) (ix3 s r a) (fun k => by match k with | 0 => rfl | 1 => rfl | 2 => rfl)]
  have e2 : broadcastInDim S64x4096x64x64 ![0, 1, 2, 3] bcast_S64x4096x1x64_S64x4096x64x64_0_1_2_3
      (broadcastInDim S64x4096x1x64 ![0, 1, 3] bcast_S64x4096x64_S64x4096x1x64_0_1_3 v) (ix4 s r a b) = v (ix3 s r b) := by
    rw [broadcastInDim_apply _ _ _ (ix4 s r a b) (ix4 s r 0 b) (fun k => by match k with | 0 => rfl | 1 => rfl | 2 => rfl | 3 => rfl),
      broadcastInDim_apply _ _ _ (ix4 s r (0 : Fin 1) b) (ix3 s r b) (fun k => by match k with | 0 => rfl | 1 => rfl | 2 => rfl)]
  have e3 : broadcastInDim S64x4096x64x64 ![0, 1, 2, 3] bcast_S1x1x64x64_S64x4096x64x64_0_1_2_3
      (broadcastInDim S1x1x64x64 ![2, 3] bcast_S64x64_S1x1x64x64_2_3 (cmpi .eq (iotaInDim S64x64 32 0) (iotaInDim S64x64 32 1))) (ix4 s r a b)
      = cmpi .eq (iotaInDim S64x64 32 0) (iotaInDim S64x64 32 1) (ix2 a b) := by
    rw [broadcastInDim_apply _ _ _ (ix4 s r a b) (ix4 0 0 a b) (fun k => by match k with | 0 => rfl | 1 => rfl | 2 => rfl | 3 => rfl),
      broadcastInDim_apply _ _ _ (ix4 (0 : Fin 1) (0 : Fin 1) a b) (ix2 a b) (fun k => by match k with | 0 => rfl | 1 => rfl)]
  conv_rhs => rw [← e1, ← e2]
  show BitVec.ofBool (decide (_ ≠ _)) ||| _ = _
  rw [e3]
  rfl

/-- Under the precondition a row's perturbed values are distinct. -/
theorem row_injective (X : FVec Ideal S4096x64 .f32) (h : fn (F := Ideal) X = fun _ => 1#1) (s : Fin 64) (r : Fin 4096) :
    Function.Injective fun b : Fin 64 => perturbed X (ix3 s r b) := by
  intro a b hab
  have e := congrFun h ix0
  rw [pre_eq] at e
  haveI : Subsingleton S_.Idx := ⟨fun x y => funext fun k => k.elim0⟩
  have e' := Host.reduce_andi_all _ _ _ _ _ e (ix4 s r a b)
  rw [apart_apply, decide_eq_false (not_not.2 hab)] at e'
  by_contra hne
  have hw : BitVec.ofNat 32 a.val ≠ BitVec.ofNat 32 b.val := fun hw => hne (Fin.ext (by
    have := congrArg BitVec.toNat hw
    rw [BitVec.toNat_ofNat, BitVec.toNat_ofNat, Nat.mod_eq_of_lt (by omega), Nat.mod_eq_of_lt (by omega)] at this
    exact this))
  rw [decide_eq_false hw] at e'
  exact absurd e' (by decide)

end Cert.Proof.Ranks

end

end
-- ==== Proof.KerNoise.lean ====
/-
  What the straight lines before the SparseCore call compute: the noise, as the pure function of the key that the
  precondition names too.
-/
module

public import proofs.«01_k».proof.Proof.KerLine
public import proofs.«01_k».proof.Proof.Noise

@[expose] public section

noncomputable section

namespace Cert.Proof.Ranks

open Cert.KernelIdeal Cert.KernelIdeal.Gen
open Idealize.ShloMosaic Idealize.ShloMosaic.StableHlo Idealize.SL.Sem

variable {F : FTy → Type} [FloatOps F]

/-- The value a typed reference holds. -/
abbrev val {T : BufTy} (W : Valuation τ sig (Elt F)) (t : TRef sig T) : T.Contents (Elt F) := t.ofBuf (W (Proc.devRef .tc t.ref))

/-- The cipher's buffers, and the sampler's. -/
abbrev cB : fn_threefry2x32.Bufs := main_call0_call0_call0
abbrev uB : fn_uniform.Bufs := main_call0_call0

/-- The cipher's `k`-th stretch of 24 operations. -/
def stretch (k : ℕ) : List (HloOp τ sig (Elt F)) := (bits.drop (24 * k)).take 24

/-! The cipher goes on, stretch by stretch, as the pure function does. -/

set_option maxRecDepth 65536 in
theorem stretch0 (W : Valuation τ sig (Elt F)) :
    Pre_no_ties.fn_threefry2x32 (F := F) (val W uB.v4) (val W uB.v6) (val W uB.v21) (val W uB.v20) =
      let W' := after (stretch 0) W
      Pre_no_ties.fn_threefry2x32_part1 (F := F) (val W' uB.v4) (val W' uB.v6) (val W' cB.v1) (val W' cB.v13) (val W' cB.v18) := by
  dsimp only [val]
  after_reads_simp
  simp only [TRef.ofBuf_toBuf]
  rfl

set_option maxRecDepth 65536 in
theorem stretch1 (W : Valuation τ sig (Elt F)) :
    Pre_no_ties.fn_threefry2x32_part1 (F := F) (val W uB.v4) (val W uB.v6) (val W cB.v1) (val W cB.v13) (val W cB.v18) =
      let W' := after (stretch 1) W
      Pre_no_ties.fn_threefry2x32_part2 (F := F) (val W' uB.v4) (val W' uB.v6) (val W' cB.v1) (val W' cB.v35) (val W' cB.v37) (val W' cB.c_8) := by
  dsimp only [val]
  after_reads_simp
  simp only [TRef.ofBuf_toBuf]
  rfl

set_option maxRecDepth 65536 in
theorem stretch2 (W : Valuation τ sig (Elt F)) :
    Pre_no_ties.fn_threefry2x32_part2 (F := F) (val W uB.v4) (val W uB.v6) (val W cB.v1) (val W cB.v35) (val W cB.v37) (val W cB.c_8) =
      let W' := after (stretch 2) W
      Pre_no_ties.fn_threefry2x32_part3 (F := F) (val W' uB.v4) (val W' uB.v6) (val W' cB.v1) (val W' cB.v53) (val W' cB.v54) (val W' cB.v56) := by
  dsimp only [val]
  after_reads_simp
  simp only [TRef.ofBuf_toBuf]
  rfl

set_option maxRecDepth 65536 in
theorem stretch3 (W : Valuation τ sig (Elt F)) :
    Pre_no_ties.fn_threefry2x32_part3 (F := F) (val W uB.v4) (val W uB.v6) (val W cB.v1) (val W cB.v53) (val W cB.v54) (val W cB.v56) =
      let W' := after (stretch 3) W
      Pre_no_ties.fn_threefry2x32_part4 (F := F) (val W' uB.v4) (val W' uB.v6) (val W' cB.v1) (val W' cB.v73) (val W' cB.v74) (val W' cB.v75) := by
  dsimp only [val]
  after_reads_simp
  simp only [TRef.ofBuf_toBuf]
  rfl

set_option maxRecDepth 65536 in
theorem stretch4 (W : Valuation τ sig (Elt F)) :
    Pre_no_ties.fn_threefry2x32_part4 (F := F) (val W uB.v4) (val W uB.v6) (val W cB.v1) (val W cB.v73) (val W cB.v74) (val W cB.v75) =
      let W' := after (stretch 4) W
      Pre_no_ties.fn_threefry2x32_part5 (F := F) (val W' uB.v4) (val W' uB.v6) (val W' cB.v1) (val W' cB.v88) (val W' cB.v94) := by
  dsimp only [val]
  after_reads_simp
  simp only [TRef.ofBuf_toBuf]
  rfl

set_option maxRecDepth 65536 in
theorem stretch5 (W : Valuation τ sig (Elt F)) :
    Pre_no_ties.fn_threefry2x32_part5 (F := F) (val W uB.v4) (val W uB.v6) (val W cB.v1) (val W cB.v88) (val W cB.v94) =
      let W' := after (stretch 5) W
      Pre_no_ties.fn_threefry2x32_part6 (F := F) (val W' uB.v4) (val W' uB.v6) (val W' cB.v1) (val W' cB.v108) (val W' cB.v113) := by
  dsimp only [val]
  after_reads_simp
  simp only [TRef.ofBuf_toBuf]
  rfl

set_option maxRecDepth 65536 in
theorem stretch6 (W : Valuation τ sig (Elt F)) :
    Pre_no_ties.fn_threefry2x32_part6 (F := F) (val W uB.v4) (val W uB.v6) (val W cB.v1) (val W cB.v108) (val W cB.v113) =
      let W' := after (stretch 6) W
      Pre_no_ties.fn_threefry2x32_part7 (F := F) (val W' uB.v4) (val W' uB.v6) (val W' cB.v1) (val W' cB.v128) (val W' cB.v129) (val W' cB.v131) (val W' cB.c_34) := by
  dsimp only [val]
  after_reads_simp
  simp only [TRef.ofBuf_toBuf]
  rfl

set_option maxRecDepth 65536 in
theorem stretch7 (W : Valuation τ sig (Elt F)) :
    Pre_no_ties.fn_threefry2x32_part7 (F := F) (val W uB.v4) (val W uB.v6) (val W cB.v1) (val W cB.v128) (val W cB.v129) (val W cB.v131) (val W cB.c_34) =
      let W' := after (stretch 7) W
      Pre_no_ties.fn_threefry2x32_part8 (F := F) (val W' uB.v4) (val W' cB.v1) (val W' cB.v148) (val W' cB.v149) (val W' cB.v151) := by
  dsimp only [val]
  after_reads_simp
  simp only [TRef.ofBuf_toBuf]
  rfl

set_option maxRecDepth 65536 in
theorem stretch8 (W : Valuation τ sig (Elt F)) :
    Pre_no_ties.fn_threefry2x32_part8 (F := F) (val W uB.v4) (val W cB.v1) (val W cB.v148) (val W cB.v149) (val W cB.v151) =
      let W' := after (stretch 8) W
      Pre_no_ties.fn_threefry2x32_part9 (F := F) (val W' uB.v4) (val W' cB.v163) (val W' cB.v169) (val W' cB.v170) := by
  dsimp only [val]
  after_reads_simp
  simp only [TRef.ofBuf_toBuf]
  rfl

set_option maxRecDepth 65536 in
theorem stretch9 (W : Valuation τ sig (Elt F)) :
    Pre_no_ties.fn_threefry2x32_part9 (F := F) (val W uB.v4) (val W cB.v163) (val W cB.v169) (val W cB.v170) =
      let W' := after (stretch 9) W
      (val W' cB.v171, val W' cB.v175) := by
  dsimp only [val]
  after_reads_simp
  simp only [TRef.ofBuf_toBuf]
  rfl

theorem bits_eq : (bits (F := F)) = stretch 0 ++ (stretch 1 ++ (stretch 2 ++ (stretch 3 ++ (stretch 4 ++ (stretch 5 ++
    (stretch 6 ++ (stretch 7 ++ (stretch 8 ++ stretch 9)))))))) := rfl

/-- The cipher's two results are the pure function of what its arguments held. -/
theorem bits_value (W : Valuation τ sig (Elt F)) :
    (val (after bits W) cB.v171, val (after bits W) cB.v175) =
      Pre_no_ties.fn_threefry2x32 (F := F) (val W uB.v4) (val W uB.v6) (val W uB.v21) (val W uB.v20) := by
  rw [stretch0, stretch1, stretch2, stretch3, stretch4, stretch5, stretch6, stretch7, stretch8, stretch9, bits_eq]
  simp only [after_append]

/-- The operations before the SparseCore call, cut: the key and the counters; the cipher; the samples up to the noise;
    the parts of it. -/
def opsHead : List (HloOp τ sig (Elt F)) := (ops0 (F := F)).2.1.take 38
def opsMid : List (HloOp τ sig (Elt F)) := ((ops0 (F := F)).2.1.drop 260).take 25
def opsCut : List (HloOp τ sig (Elt F)) := (ops0 (F := F)).2.1.drop 285

set_option maxRecDepth 65536 in
theorem ops0_eq : (ops0 (F := F)).2.1 = opsHead ++ (bits ++ (opsMid ++ opsCut)) := rfl

set_option maxRecDepth 65536 in
theorem head_value (V : Valuation τ sig (Elt F)) :
    Pre_no_ties.fn_gumbel (F := F) key =
      let W := after opsHead V
      fromBits (val W uB.v1) (val W uB.v2)
        (Pre_no_ties.fn_threefry2x32 (F := F) (val W uB.v4) (val W uB.v6) (val W uB.v21) (val W uB.v20)) := by
  dsimp only [val]
  after_reads_simp
  simp only [TRef.ofBuf_toBuf]
  rfl

set_option maxRecDepth 65536 in
theorem bits_keep (W : Valuation τ sig (Elt F)) :
    val (after bits W) uB.v1 = val W uB.v1 ∧ val (after bits W) uB.v2 = val W uB.v2 := by
  dsimp only [val]
  constructor <;> after_reads_simp

set_option maxRecDepth 65536 in
theorem mid_value (W : Valuation τ sig (Elt F)) :
    (after opsMid W (Proc.devRef .tc main_v9) : FVec F S64x4096x64 .f32) =
      mulf (broadcastInDim S64x4096x64 ![] bcast_S_S64x4096x64 (constant S_ .f32 0x3D4CCCCD#32))
        (fromBits (val W uB.v1) (val W uB.v2) (val W cB.v171, val W cB.v175)) := by
  dsimp only [val]
  after_reads_simp
  simp only [TRef.ofBuf_toBuf]
  rfl

/-- Before the operations that cut it, the noise's buffer holds the noise. -/
theorem noise_value (V : Valuation τ sig (Elt F)) :
    (after opsMid (after bits (after opsHead V)) (Proc.devRef .tc main_v9) : FVec F S64x4096x64 .f32) = noise := by
  rw [mid_value, bits_value, (bits_keep _).1, (bits_keep _).2, noise, head_value V]

end Cert.Proof.Ranks

end

end
-- ==== Proof.TcValue.lean ====
/-
  The arrays the two TensorCore calls leave: every element is the score of its column's entry among the 64 samples.
-/
module

public import proofs.«01_k».proof.Proof.TcRegion
public import proofs.«01_k».proof.Proof.Count
public import Idealize.ShloMosaic.Lib.Pipeline.ValueKit

@[expose] public section

noncomputable section

namespace Cert.Proof.Ranks

open Cert.KernelIdeal Cert.KernelIdeal.Gen

open Idealize.ShloMosaic hiding ix1 ix2 ix3 ix4 eq_ix2 eq_ix3
open Idealize.ShloMosaic.ValueIdx Idealize.ShloMosaic.StableHlo
open Idealize.ShloMosaic.Pipeline (ucRefs arrRef)

/-- The scores of a half's columns. -/
def tcArr (X : S64x1792.Idx → EReal) (N : S64x64x1792.Idx → EReal) : S64x1792.Idx → EReal := fun y =>
  score (∑ s : Fin 64, rank (fun b => X (ix2 b (y 1)) + N (ix3 s b (y 1))) (y 0))

theorem idx1 : ∀ t : Fin grid1.N, win1_0.index t (0 : Fin 2) = 0 ∧ win1_0.index t (1 : Fin 2) = t.val
    ∧ win1_1.index t (0 : Fin 3) = 0 ∧ win1_1.index t (1 : Fin 3) = 0 ∧ win1_1.index t (2 : Fin 3) = t.val
    ∧ win1_2.index t (0 : Fin 2) = 0 ∧ win1_2.index t (1 : Fin 2) = t.val := by decide

theorem idx2 : ∀ t : Fin grid2.N, win2_0.index t (0 : Fin 2) = 0 ∧ win2_0.index t (1 : Fin 2) = t.val
    ∧ win2_1.index t (0 : Fin 3) = 0 ∧ win2_1.index t (1 : Fin 3) = 0 ∧ win2_1.index t (2 : Fin 3) = t.val
    ∧ win2_2.index t (0 : Fin 2) = 0 ∧ win2_2.index t (1 : Fin 2) = t.val := by decide

/-- Lane `l` of block `t` is column `128 t + l`. -/
def colOf (t : ℕ) (ht : t < 14) (l : Fin 128) : Fin 1792 := ⟨t * 128 + l.val, by omega⟩

variable (V : Dev nD → Valuation τ sig (Elt Ideal)) (c : Dev nD)

theorem emb1_0 (t : Fin cfg1.N) (ht : t.val < 14) (i : Fin 64) (l : Fin 128) : ((cfg1.win 0).blk t).view.emb (ix2 i l) = ix2 i (colOf t.val ht l) := by
  obtain ⟨e0, e1, -⟩ := idx1 t
  funext a; apply Fin.ext
  match a with
  | ⟨0, _⟩ => show win1_0.index t (0 : Fin 2) * 64 + 1 * i.val = i.val; omega
  | ⟨1, _⟩ => show win1_0.index t (1 : Fin 2) * 128 + 1 * l.val = t.val * 128 + l.val; omega
theorem emb1_1 (t : Fin cfg1.N) (ht : t.val < 14) (s i : Fin 64) (l : Fin 128) : ((cfg1.win 1).blk t).view.emb (ix3 s i l) = ix3 s i (colOf t.val ht l) := by
  obtain ⟨-, -, e0, e1, e2, -⟩ := idx1 t
  funext a; apply Fin.ext
  match a with
  | ⟨0, _⟩ => show win1_1.index t (0 : Fin 3) * 64 + 1 * s.val = s.val; omega
  | ⟨1, _⟩ => show win1_1.index t (1 : Fin 3) * 64 + 1 * i.val = i.val; omega
  | ⟨2, _⟩ => show win1_1.index t (2 : Fin 3) * 128 + 1 * l.val = t.val * 128 + l.val; omega
theorem emb1_2 (t : Fin cfg1.N) (ht : t.val < 14) (i : Fin 64) (l : Fin 128) : ((cfg1.win 2).blk t).view.emb (ix2 i l) = ix2 i (colOf t.val ht l) := by
  obtain ⟨-, -, -, -, -, e0, e1⟩ := idx1 t
  funext a; apply Fin.ext
  match a with
  | ⟨0, _⟩ => show win1_2.index t (0 : Fin 2) * 64 + 1 * i.val = i.val; omega
  | ⟨1, _⟩ => show win1_2.index t (1 : Fin 2) * 128 + 1 * l.val = t.val * 128 + l.val; omega

theorem emb2_0 (t : Fin cfg2.N) (ht : t.val < 14) (i : Fin 64) (l : Fin 128) : ((cfg2.win 0).blk t).view.emb (ix2 i l) = ix2 i (colOf t.val ht l) := by
  obtain ⟨e0, e1, -⟩ := idx2 t
  funext a; apply Fin.ext
  match a with
  | ⟨0, _⟩ => show win2_0.index t (0 : Fin 2) * 64 + 1 * i.val = i.val; omega
  | ⟨1, _⟩ => show win2_0.index t (1 : Fin 2) * 128 + 1 * l.val = t.val * 128 + l.val; omega
theorem emb2_1 (t : Fin cfg2.N) (ht : t.val < 14) (s i : Fin 64) (l : Fin 128) : ((cfg2.win 1).blk t).view.emb (ix3 s i l) = ix3 s i (colOf t.val ht l) := by
  obtain ⟨-, -, e0, e1, e2, -⟩ := idx2 t
  funext a; apply Fin.ext
  match a with
  | ⟨0, _⟩ => show win2_1.index t (0 : Fin 3) * 64 + 1 * s.val = s.val; omega
  | ⟨1, _⟩ => show win2_1.index t (1 : Fin 3) * 64 + 1 * i.val = i.val; omega
  | ⟨2, _⟩ => show win2_1.index t (2 : Fin 3) * 128 + 1 * l.val = t.val * 128 + l.val; omega
theorem emb2_2 (t : Fin cfg2.N) (ht : t.val < 14) (i : Fin 64) (l : Fin 128) : ((cfg2.win 2).blk t).view.emb (ix2 i l) = ix2 i (colOf t.val ht l) := by
  obtain ⟨-, -, -, -, -, e0, e1⟩ := idx2 t
  funext a; apply Fin.ext
  match a with
  | ⟨0, _⟩ => show win2_2.index t (0 : Fin 2) * 64 + 1 * i.val = i.val; omega
  | ⟨1, _⟩ => show win2_2.index t (1 : Fin 2) * 128 + 1 * l.val = t.val * 128 + l.val; omega

/-- A column is a lane of some block. -/
theorem col_cover (j : Fin 1792) : ∃ (t : ℕ) (ht : t < 14) (l : Fin 128), j = colOf t ht l :=
  ⟨j.val / 128, by omega, ⟨j.val % 128, Nat.mod_lt _ (by decide)⟩, by apply Fin.ext; show j.val = j.val / 128 * 128 + j.val % 128; omega⟩

/-- The first call's result. -/
theorem arr1_value : (dat1 V c).arrAt 2 cfg1.N = tcArr (V c (Proc.devRef .tc main_v23)) (V c (Proc.devRef .tc main_v11)) := by
  refine (dat1 V c).arrAt_eq_of_cover 2 _ (fun t _ => ?_) fun i => ?_
  · have ht : t.val < 14 := t.isLt.trans_eq N_1
    funext y
    obtain ⟨i, l, rfl⟩ : ∃ (i : Fin 64) (l : Fin 128), y = ix2 i l := ⟨y 0, y 1, eq_ix2 (n0 := 64) (n1 := 128) y⟩
    show tcBlock (xBlk1 V c t) (nBlk1 V c t) (ix2 i l) = tcArr _ _ (((cfg1.win 2).blk t).view.emb (ix2 i l))
    rw [emb1_2 t ht i l, tcBlock_apply]
    have e0 : ∀ b : Fin 64, xBlk1 V c t (ix2 b l) = V c (Proc.devRef .tc main_v23) (ix2 b (colOf t.val ht l)) := fun b =>
      congrArg (V c (Proc.devRef .tc main_v23)) (emb1_0 t ht b l)
    have e1 : ∀ s b : Fin 64, nBlk1 V c t (ix3 s b l) = V c (Proc.devRef .tc main_v11) (ix3 s b (colOf t.val ht l)) := fun s b =>
      congrArg (V c (Proc.devRef .tc main_v11)) (emb1_1 t ht s b l)
    show score (∑ s : Fin 64, rank (fun b => xBlk1 V c t (ix2 b l) + nBlk1 V c t (ix3 s b l)) i) = _
    simp only [e0, e1]
    rfl
  · obtain ⟨p, j, rfl⟩ : ∃ (p : Fin 64) (j : Fin 1792), i = ix2 p j := ⟨i 0, i 1, eq_ix2 (n0 := 64) (n1 := 1792) i⟩
    obtain ⟨t, ht, l, rfl⟩ := col_cover j
    refine ⟨⟨t, ht.trans_eq N_1.symm⟩, flush1_2 _, ?_⟩
    have h := ((cfg1.win 2).blk ⟨t, ht.trans_eq N_1.symm⟩).view.emb_mem_set (ix2 p l)
    rwa [emb1_2 ⟨t, ht.trans_eq N_1.symm⟩ ht p l] at h

/-- The second call's result. -/
theorem arr2_value : (dat2 V c).arrAt 2 cfg2.N = tcArr (V c (Proc.devRef .tc main_v25)) (V c (Proc.devRef .tc main_v13)) := by
  refine (dat2 V c).arrAt_eq_of_cover 2 _ (fun t _ => ?_) fun i => ?_
  · have ht : t.val < 14 := t.isLt.trans_eq N_2
    funext y
    obtain ⟨i, l, rfl⟩ : ∃ (i : Fin 64) (l : Fin 128), y = ix2 i l := ⟨y 0, y 1, eq_ix2 (n0 := 64) (n1 := 128) y⟩
    show tcBlock (xBlk2 V c t) (nBlk2 V c t) (ix2 i l) = tcArr _ _ (((cfg2.win 2).blk t).view.emb (ix2 i l))
    rw [emb2_2 t ht i l, tcBlock_apply]
    have e0 : ∀ b : Fin 64, xBlk2 V c t (ix2 b l) = V c (Proc.devRef .tc main_v25) (ix2 b (colOf t.val ht l)) := fun b =>
      congrArg (V c (Proc.devRef .tc main_v25)) (emb2_0 t ht b l)
    have e1 : ∀ s b : Fin 64, nBlk2 V c t (ix3 s b l) = V c (Proc.devRef .tc main_v13) (ix3 s b (colOf t.val ht l)) := fun s b =>
      congrArg (V c (Proc.devRef .tc main_v13)) (emb2_1 t ht s b l)
    show score (∑ s : Fin 64, rank (fun b => xBlk2 V c t (ix2 b l) + nBlk2 V c t (ix3 s b l)) i) = _
    simp only [e0, e1]
    rfl
  · obtain ⟨p, j, rfl⟩ : ∃ (p : Fin 64) (j : Fin 1792), i = ix2 p j := ⟨i 0, i 1, eq_ix2 (n0 := 64) (n1 := 1792) i⟩
    obtain ⟨t, ht, l, rfl⟩ := col_cover j
    refine ⟨⟨t, ht.trans_eq N_2.symm⟩, flush2_2 _, ?_⟩
    have h := ((cfg2.win 2).blk ⟨t, ht.trans_eq N_2.symm⟩).view.emb_mem_set (ix2 p l)
    rwa [emb2_2 ⟨t, ht.trans_eq N_2.symm⟩ ht p l] at h

end Cert.Proof.Ranks

end
-- ==== Proof.KerOut.lean ====
/-
  The kernel's result: what each call is handed, what it leaves, and the three results put together, as one function of
  the argument.
-/
module

public import proofs.«01_k».proof.Proof.KerValue
public import proofs.«01_k».proof.Proof.KerNoise
public import proofs.«01_k».proof.Proof.TcValue

@[expose] public section

noncomputable section

namespace Cert.Proof.Ranks

open Cert.KernelIdeal Cert.KernelIdeal.Gen

open Idealize.ShloMosaic hiding ix1 ix2 ix3 ix4 eq_ix2 eq_ix3
open Idealize.ShloMosaic.ValueIdx Idealize.ShloMosaic.StableHlo
open Idealize.ShloMosaic.Pipeline (ucRefs arrRef afterRegion afterRegion_arr afterRegion_of_not_arr)

section Reads

variable {F : FTy → Type} [FloatOps F]

/-! ## The noise, cut -/

set_option maxRecDepth 65536 in
theorem cut_v11 (W : Valuation τ sig (Elt F)) : after opsCut W (Proc.devRef .tc main_v11) = (transpose S64x64x1792 [0, 2, 1]
    (extractStridedSlice S64x1792x64 ![0, 0, 0] (W (Proc.devRef .tc main_v9) : FVec F S64x4096x64 .f32) slices_S64x4096x64_S64x1792x64_0_0_0)
    transposes_S64x1792x64_S64x64x1792_0_2_1 : FVec F S64x64x1792 .f32) := by
  after_reads_simp
set_option maxRecDepth 65536 in
theorem cut_v13 (W : Valuation τ sig (Elt F)) : after opsCut W (Proc.devRef .tc main_v13) = (transpose S64x64x1792 [0, 2, 1]
    (extractStridedSlice S64x1792x64 ![0, 1792, 0] (W (Proc.devRef .tc main_v9) : FVec F S64x4096x64 .f32) slices_S64x4096x64_S64x1792x64_0_1792_0)
    transposes_S64x1792x64_S64x64x1792_0_2_1 : FVec F S64x64x1792 .f32) := by
  after_reads_simp
set_option maxRecDepth 65536 in
theorem cut_v16 (W : Valuation τ sig (Elt F)) : after opsCut W (Proc.devRef .tc main_v16) = (transpose S32x64x64x16 [1, 0, 3, 2]
    (shapeCast S64x32x16x64 (extractStridedSlice S64x512x64 ![0, 3584, 0] (W (Proc.devRef .tc main_v9) : FVec F S64x4096x64 .f32)
      slices_S64x4096x64_S64x512x64_0_3584_0) shapeCasts_S64x512x64_S64x32x16x64) transposes_S64x32x16x64_S32x64x64x16_1_0_3_2 : FVec F S32x64x64x16 .f32) := by
  after_reads_simp
  rfl
set_option maxRecDepth 65536 in
theorem cut_v19 (W : Valuation τ sig (Elt F)) : after ops0.2.1 W (Proc.devRef .tc main_v19) = (transpose S32x64x16 [0, 2, 1]
    (shapeCast S32x16x64 (extractStridedSlice S512x64 ![3584, 0] (W (Proc.devRef .tc main_arg0) : FVec F S4096x64 .f32)
      slices_S4096x64_S512x64_3584_0) shapeCasts_S512x64_S32x16x64) transposes_S32x16x64_S32x64x16_0_2_1 : FVec F S32x64x16 .f32) := by
  after_reads_simp
  rfl

theorem ops0_cut (W : Valuation τ sig (Elt F)) : ∃ W' : Valuation τ sig (Elt F), after ops0.2.1 W = after opsCut W'
    ∧ (W' (Proc.devRef .tc main_v9) : FVec F S64x4096x64 .f32) = noise :=
  ⟨after opsMid (after bits (after opsHead W)), by rw [ops0_eq]; simp only [after_append], noise_value W⟩

variable (m : (ℓ : Loc nD τ sig) → Buf (Elt F) ℓ) (d : Dev nD)

theorem V1_v11 : V1 m d (Proc.devRef .tc main_v11) = (transpose S64x64x1792 [0, 2, 1]
    (extractStridedSlice S64x1792x64 ![0, 0, 0] (noise (F := F)) slices_S64x4096x64_S64x1792x64_0_0_0)
    transposes_S64x1792x64_S64x64x1792_0_2_1 : FVec F S64x64x1792 .f32) := by
  obtain ⟨W', e, h⟩ := ops0_cut (F := F) (launchContents m d)
  rw [V1, e, cut_v11, h]
theorem V1_v13 : V1 m d (Proc.devRef .tc main_v13) = (transpose S64x64x1792 [0, 2, 1]
    (extractStridedSlice S64x1792x64 ![0, 1792, 0] (noise (F := F)) slices_S64x4096x64_S64x1792x64_0_1792_0)
    transposes_S64x1792x64_S64x64x1792_0_2_1 : FVec F S64x64x1792 .f32) := by
  obtain ⟨W', e, h⟩ := ops0_cut (F := F) (launchContents m d)
  rw [V1, e, cut_v13, h]
theorem V1_v16 : fn m d = (transpose S32x64x64x16 [1, 0, 3, 2]
    (shapeCast S64x32x16x64 (extractStridedSlice S64x512x64 ![0, 3584, 0] (noise (F := F))
      slices_S64x4096x64_S64x512x64_0_3584_0) shapeCasts_S64x512x64_S64x32x16x64) transposes_S64x32x16x64_S32x64x64x16_1_0_3_2 : FVec F S32x64x64x16 .f32) := by
  obtain ⟨W', e, h⟩ := ops0_cut (F := F) (launchContents m d)
  rw [fn, V1, e, cut_v16, h]
theorem V1_v19 : fx m d = (transpose S32x64x16 [0, 2, 1]
    (shapeCast S32x16x64 (extractStridedSlice S512x64 ![3584, 0] (argX m d)
      slices_S4096x64_S512x64_3584_0) shapeCasts_S512x64_S32x16x64) transposes_S32x16x64_S32x64x16_0_2_1 : FVec F S32x64x16 .f32) := by
  rw [fx, V1, cut_v19]

theorem V3_v11 : V3 m d (Proc.devRef .tc main_v11) = V1 m d (Proc.devRef .tc main_v11) := by
  unfold V3; after_reads_simp; rw [V2_of_ne _ _ (by decide)]
theorem V5_v13 : V5 m d (Proc.devRef .tc main_v13) = V1 m d (Proc.devRef .tc main_v13) := by
  unfold V5; after_reads_simp; rw [V4_of_ne _ _ (by decide)]
  unfold V3; after_reads_simp; rw [V2_of_ne _ _ (by decide)]

theorem V3_v22 : V3 m d (Proc.devRef .tc main_v22) = (transpose S64x3584 [1, 0] (extractStridedSlice S3584x64 ![0, 0] (argX m d) slices_S4096x64_S3584x64_0_0)
      transposes_S3584x64_S64x3584_1_0 : FVec F S64x3584 .f32) := by
  unfold V3; after_reads_simp; rw [V2_of_ne _ _ (by decide), V1_arg]
theorem V3_v23 : V3 m d (Proc.devRef .tc main_v23) = (extractStridedSlice S64x1792 ![0, 0]
    (transpose S64x3584 [1, 0] (extractStridedSlice S3584x64 ![0, 0] (argX m d) slices_S4096x64_S3584x64_0_0)
      transposes_S3584x64_S64x3584_1_0) slices_S64x3584_S64x1792_0_0 : FVec F S64x1792 .f32) := by
  unfold V3; after_reads_simp; rw [V2_of_ne _ _ (by decide), V1_arg]
theorem V5_v25 : V5 m d (Proc.devRef .tc main_v25) = (extractStridedSlice S64x1792 ![0, 1792]
    (transpose S64x3584 [1, 0] (extractStridedSlice S3584x64 ![0, 0] (argX m d) slices_S4096x64_S3584x64_0_0)
      transposes_S3584x64_S64x3584_1_0) slices_S64x3584_S64x1792_0_1792 : FVec F S64x1792 .f32) := by
  unfold V5; after_reads_simp; rw [V4_of_ne _ _ (by decide), V3_v22]

theorem V6_v20 : V6 m d (Proc.devRef .tc main_v20) = outB (fx m) (fn m) d := by
  rw [V6_of_ne _ _ (by decide)]; unfold V5; after_reads_simp
  rw [V4_of_ne _ _ (by decide)]; unfold V3; after_reads_simp
  exact Function.update_self _ _ _
theorem V6_v24 : V6 m d (Proc.devRef .tc main_v24) = (dat1 (V3 m) d).arrAt 2 cfg1.N := by
  rw [V6_of_ne _ _ (by decide)]; unfold V5; after_reads_simp
  exact afterRegion_arr (cfg := cfgs 0) (dat1 (V3 m) d) (V3 m d) launch1.win.arr_inj 2
theorem V6_v26 : V6 m d (Proc.devRef .tc main_v26) = (dat2 (V5 m) d).arrAt 2 cfg2.N :=
  afterRegion_arr (cfg := cfgs 1) (dat2 (V5 m) d) (V5 m d) launch2.win.arr_inj 2

/-- The three results as the rows they are. -/
abbrev pieces (a b : FVec F S64x1792 .f32) (s : FVec F S32x64x16 .f32) : List ((t : Shape) × (t.Idx → F .f32)) :=
  [⟨S1792x64, transpose S1792x64 [1, 0] a transposes_S64x1792_S1792x64_1_0⟩,
    ⟨S1792x64, transpose S1792x64 [1, 0] b transposes_S64x1792_S1792x64_1_0⟩,
    ⟨S512x64, shapeCast S512x64 (transpose S32x16x64 [0, 2, 1] s transposes_S32x64x16_S32x16x64_0_2_1) shapeCasts_S32x16x64_S512x64⟩]

/-- The three results put together. -/
def joined (a b : FVec F S64x1792 .f32) (s : FVec F S32x64x16 .f32) : FVec F S4096x64 .f32 :=
  concatenate S4096x64 0 (pieces a b s) concatenates_S1792x64_S1792x64_S512x64_S4096x64_d0

theorem V7_v31 : V7 m d (Proc.devRef .tc main_v31)
    = joined (V6 m d (Proc.devRef .tc main_v24)) (V6 m d (Proc.devRef .tc main_v26)) (V6 m d (Proc.devRef .tc main_v20)) := by
  unfold V7
  after_reads_simp
  rfl

end Reads

/-! ## The result, element by element -/

/-- The joined results' first rows, next rows and last rows. -/
theorem joined_first (a b : FVec Ideal S64x1792 .f32) (s : FVec Ideal S32x64x16 .f32) (r : Fin 4096) (j : Fin 64) (h : r.val < 1792) :
    joined a b s (ix2 r j) = a (ix2 j ⟨r.val, h⟩) := by
  unfold joined
  refine (concatenate_apply_piece (t := S4096x64) 0 (pieces a b s) _ _ 0 (by show 0 < 3; decide) S1792x64 _ rfl rfl 0 rfl (ix2 ⟨r.val, h⟩ j) (fun q hq => ?_) ?_).trans ?_
  · match q with
    | ⟨0, _⟩ => exact absurd rfl hq
    | ⟨1, _⟩ => rfl
  · show 0 + r.val = r.val; omega
  · exact transpose_ix2_apply _ _ _ _
theorem joined_next (a b : FVec Ideal S64x1792 .f32) (s : FVec Ideal S32x64x16 .f32) (r : Fin 4096) (j : Fin 64) (h : 1792 ≤ r.val) (h' : r.val < 3584) :
    joined a b s (ix2 r j) = b (ix2 j ⟨r.val - 1792, by omega⟩) := by
  unfold joined
  refine (concatenate_apply_piece (t := S4096x64) 0 (pieces a b s) _ _ 1 (by show 1 < 3; decide) S1792x64 _ rfl rfl 1792 rfl (ix2 ⟨r.val - 1792, by omega⟩ j) (fun q hq => ?_) ?_).trans ?_
  · match q with
    | ⟨0, _⟩ => exact absurd rfl hq
    | ⟨1, _⟩ => rfl
  · show 1792 + (r.val - 1792) = r.val; omega
  · exact transpose_ix2_apply _ _ _ _
theorem joined_last (a b : FVec Ideal S64x1792 .f32) (s : FVec Ideal S32x64x16 .f32) (r : Fin 4096) (j : Fin 64) (w : Fin 32) (l : Fin 16)
    (h : r.val = 3584 + (w.val * 16 + l.val)) : joined a b s (ix2 r j) = s (ix3 w j l) := by
  unfold joined
  refine (concatenate_apply_piece (t := S4096x64) 0 (pieces a b s) _ _ 2 (by show 2 < 3; decide) S512x64 _ rfl rfl 3584 rfl (ix2 ⟨w.val * 16 + l.val, by omega⟩ j) (fun q hq => ?_) ?_).trans ?_
  · match q with
    | ⟨0, _⟩ => exact absurd rfl hq
    | ⟨1, _⟩ => rfl
  · show 3584 + (w.val * 16 + l.val) = r.val; omega
  · refine (shapeCast_apply _ _ _ (ix3 w l j) ?_).trans (transpose_ix3_021_apply _ _ _ _ _)
    rw [Shape.rowMajor_val_two, Shape.rowMajor_val_three]; rfl

/-- A half of the values, row by row. -/
theorem xHalf_apply (X : FVec Ideal S4096x64 .f32) (o : ℕ) (h : S64x3584.Slices ![0, o] S64x1792) (b : Fin 64) (c : Fin 1792) (r : Fin 4096)
    (hr : r.val = o + c.val) :
    extractStridedSlice S64x1792 ![0, o] (transpose S64x3584 [1, 0] (extractStridedSlice S3584x64 ![0, 0] X slices_S4096x64_S3584x64_0_0)
      transposes_S3584x64_S64x3584_1_0) h (ix2 b c) = X (ix2 r b) := by
  have ho : o + 1792 ≤ 3584 := h.2 1
  refine (extractStridedSlice_apply _ _ _ _ (ix2 b ⟨o + c.val, by omega⟩) fun q => ?_).trans
    ((transpose_ix2_apply _ _ _ _).trans (extractStridedSlice_apply _ _ _ _ _ fun q => ?_))
  · match q with
    | ⟨0, _⟩ => show b.val = 0 + b.val; omega
    | ⟨1, _⟩ => rfl
  · match q with
    | ⟨0, _⟩ => show r.val = 0 + (o + c.val); omega
    | ⟨1, _⟩ => show b.val = 0 + b.val; omega

/-- A half of the noise, row by row. -/
theorem nHalf_apply (N : FVec Ideal S64x4096x64 .f32) (o : ℕ) (h : S64x4096x64.Slices ![0, o, 0] S64x1792x64) (s b : Fin 64) (c : Fin 1792) (r : Fin 4096)
    (hr : r.val = o + c.val) :
    transpose S64x64x1792 [0, 2, 1] (extractStridedSlice S64x1792x64 ![0, o, 0] N h) transposes_S64x1792x64_S64x64x1792_0_2_1 (ix3 s b c) = N (ix3 s r b) := by
  refine (transpose_ix3_021_apply _ _ _ _ _).trans (extractStridedSlice_apply _ _ _ _ _ fun q => ?_)
  match q with
  | ⟨0, _⟩ => show s.val = 0 + s.val; omega
  | ⟨1, _⟩ => exact hr
  | ⟨2, _⟩ => show b.val = 0 + b.val; omega

/-- The tiles' values and noise, row by row. -/
theorem xTile_apply (X : FVec Ideal S4096x64 .f32) (w : Fin 32) (l : Fin 16) (b : Fin 64) (r : Fin 4096) (hr : r.val = 3584 + (w.val * 16 + l.val)) :
    transpose S32x64x16 [0, 2, 1] (shapeCast S32x16x64 (extractStridedSlice S512x64 ![3584, 0] X slices_S4096x64_S512x64_3584_0)
      shapeCasts_S512x64_S32x16x64) transposes_S32x16x64_S32x64x16_0_2_1 (ix3 w b l) = X (ix2 r b) := by
  refine (transpose_ix3_021_apply _ _ _ _ _).trans ((shapeCast_apply _ _ _ (ix2 ⟨w.val * 16 + l.val, by omega⟩ b) ?_).trans
    (extractStridedSlice_apply _ _ _ _ _ fun q => ?_))
  · rw [Shape.rowMajor_val_two, Shape.rowMajor_val_three]; rfl
  · match q with
    | ⟨0, _⟩ => exact hr
    | ⟨1, _⟩ => show b.val = 0 + b.val; omega
theorem nTile_apply (N : FVec Ideal S64x4096x64 .f32) (w : Fin 32) (l : Fin 16) (s b : Fin 64) (r : Fin 4096) (hr : r.val = 3584 + (w.val * 16 + l.val)) :
    transpose S32x64x64x16 [1, 0, 3, 2] (shapeCast S64x32x16x64 (extractStridedSlice S64x512x64 ![0, 3584, 0] N slices_S64x4096x64_S64x512x64_0_3584_0)
      shapeCasts_S64x512x64_S64x32x16x64) transposes_S64x32x16x64_S32x64x64x16_1_0_3_2 (ix4 w s b l) = N (ix3 s r b) := by
  refine (transpose_apply _ _ _ _ (ix4 s w l b) fun q => ?_).trans ((shapeCast_apply _ _ _ (ix3 s ⟨w.val * 16 + l.val, by omega⟩ b) ?_).trans
    (extractStridedSlice_apply _ _ _ _ _ fun q => ?_))
  · match q with
    | ⟨0, _⟩ => rfl
    | ⟨1, _⟩ => rfl
    | ⟨2, _⟩ => rfl
    | ⟨3, _⟩ => rfl
  · rw [Shape.rowMajor_val_four, Shape.rowMajor_val_three]
    show (s.val * 512 + (w.val * 16 + l.val)) * 64 + b.val = ((s.val * 32 + w.val) * 16 + l.val) * 64 + b.val
    omega
  · match q with
    | ⟨0, _⟩ => show s.val = 0 + s.val; omega
    | ⟨1, _⟩ => exact hr
    | ⟨2, _⟩ => show b.val = 0 + b.val; omega

/-- Every entry's score among its row's, over the 64 perturbed copies. -/
def scores (X : FVec Ideal S4096x64 .f32) : FVec Ideal S4096x64 .f32 := fun y =>
  score (∑ s : Fin 64, rank (fun b => X (ix2 (y 0) b) + noise (F := Ideal) (ix3 s (y 0) b)) (y 1))

/-- The kernel's result. -/
theorem V7_scores (m : (ℓ : Loc nD τ sig) → Buf (Elt Ideal) ℓ) (d : Dev nD) : V7 m d (Proc.devRef .tc main_v31) = scores (argX m d) := by
  rw [V7_v31, V6_v20, V6_v24, V6_v26, arr1_value, arr2_value, V3_v11, V5_v13, V1_v11, V1_v13, V3_v23, V5_v25]
  funext y
  obtain ⟨r, j, rfl⟩ : ∃ (r : Fin 4096) (j : Fin 64), y = ix2 r j := ⟨y 0, y 1, eq_ix2 (n0 := 4096) (n1 := 64) y⟩
  by_cases h : r.val < 1792
  · rw [joined_first _ _ _ r j h]
    unfold tcArr scores
    dsimp only
    congr 2
    funext s
    congr 1
    funext b
    exact congrArg₂ (· + ·) (xHalf_apply _ _ _ b ⟨r.val, h⟩ r (by dsimp only; omega)) (nHalf_apply _ _ _ s b ⟨r.val, h⟩ r (by dsimp only; omega))
  · by_cases h' : r.val < 3584
    · rw [joined_next _ _ _ r j (by omega) h']
      unfold tcArr scores
      dsimp only
      congr 2
      funext s
      congr 1
      funext b
      exact congrArg₂ (· + ·) (xHalf_apply _ _ _ b ⟨r.val - 1792, by omega⟩ r (by dsimp only; omega))
        (nHalf_apply _ _ _ s b ⟨r.val - 1792, by omega⟩ r (by dsimp only; omega))
    · have hr : r.val = 3584 + ((r.val - 3584) / 16 * 16 + (r.val - 3584) % 16) := by omega
      rw [joined_last _ _ _ r j ⟨(r.val - 3584) / 16, by omega⟩ ⟨(r.val - 3584) % 16, Nat.mod_lt _ (by decide)⟩ hr]
      show scaleMat (accAt (xMat (fx m d) _) (nMat (fn m d) _) 64) (ix2 j ⟨(r.val - 3584) % 16, Nat.mod_lt _ (by decide)⟩) = _
      rw [scaleMat_apply, V1_v16, V1_v19]
      unfold scores
      dsimp only
      congr 2
      funext s
      congr 1
      funext b
      refine congrArg₂ (· + ·) (xTile_apply _ _ _ b r hr) ?_
      have es : Fin.ofNat 64 s.val = s := by apply Fin.ext; show s.val % 64 = _; omega
      show transpose S32x64x64x16 [1, 0, 3, 2] _ _ (ix4 _ (Fin.ofNat 64 s.val) b _) = _
      rw [es]
      exact nTile_apply _ _ _ s b r hr

end Cert.Proof.Ranks

end

end
-- ==== Proof.RefValue.lean ====
/-
  What the reference computes over exact numbers, under the precondition: every element's ranks over the samples, added
  up, scaled and clipped.
-/
module

public import proofs.«01_k».proof.Proof.RefMean
public import proofs.«01_k».proof.Proof.NoTies
public import proofs.«01_k».proof.Proof.KerOut

@[expose] public section

noncomputable section

namespace Cert.Proof.Ranks.Ref

open Cert.ReferenceIdeal Cert.ReferenceIdeal.Gen
open Idealize.ShloMosaic hiding ix1 ix2 ix3 ix4 eq_ix2 eq_ix3
open Idealize.ShloMosaic.ValueIdx Idealize.ShloMosaic.StableHlo Idealize.SL.Sem

variable {F : FTy → Type} [FloatOps F]

/-- The gathered columns, one copy per sample. -/
def copies (x : FVec F S1x4096x64 .f32) : FVec F S64x4096x64 .f32 := broadcastInDim S64x4096x64 ![0, 1, 2] bcast_S1x4096x64_S64x4096x64_0_1_2 x

set_option maxRecDepth 65536 in
theorem tail_value (W : Valuation τ sig (Elt Ideal)) :
    (after opsTail W (Proc.devRef .tc main_v35) : FVec Ideal S4096x64 .f32) =
      clipped (F := Ideal) (Host.scatter scatter_S4096x64_S64x1_S4096x64_0_1_1_1 (fun _ b => b) (W (Proc.devRef .tc main_arg0) : FVec Ideal S4096x64 .f32)
        (startsOf (W (Proc.devRef .tc main_c)))
        (meanOf (places (order (addf (copies (W (Proc.devRef .tc main_v15))) (W (Proc.devRef .tc main_v17) : FVec Ideal S64x4096x64 .f32)))))) := by
  after_reads_simp
  rfl

set_option maxRecDepth 65536 in
theorem mid_keep (W : Valuation τ sig (Elt F)) :
    (after opsMid W (Proc.devRef .tc main_v15) : FVec F S1x4096x64 .f32)
        = broadcastInDim S1x4096x64 ![1, 2] bcast_S4096x64_S1x4096x64_1_2 (W (Proc.devRef .tc main_v6) : FVec F S4096x64 .f32) ∧
      after opsMid W (Proc.devRef .tc main_c) = W (Proc.devRef .tc main_c) ∧
      after opsMid W (Proc.devRef .tc main_arg0) = W (Proc.devRef .tc main_arg0) := by
  refine ⟨?_, ?_, ?_⟩ <;> after_reads_simp

set_option maxRecDepth 65536 in
theorem bits_keep' (W : Valuation τ sig (Elt F)) :
    after bits W (Proc.devRef .tc main_v6) = W (Proc.devRef .tc main_v6) ∧
      after bits W (Proc.devRef .tc main_c) = W (Proc.devRef .tc main_c) ∧
      after bits W (Proc.devRef .tc main_arg0) = W (Proc.devRef .tc main_arg0) := by
  refine ⟨?_, ?_, ?_⟩ <;> after_reads_simp

set_option maxRecDepth 65536 in
theorem head_keep (W : Valuation τ sig (Elt F)) :
    (after opsHead W (Proc.devRef .tc main_v6) : FVec F S4096x64 .f32)
        = Host.gather gather_S4096x64_S64x1_S4096x64_0_1_n_n_1_1_40961 (W (Proc.devRef .tc main_arg0) : FVec F S4096x64 .f32) (startsOf colNums) ∧
      (after opsHead W (Proc.devRef .tc main_c) : IVec S64 32) = colNums ∧
      after opsHead W (Proc.devRef .tc main_arg0) = W (Proc.devRef .tc main_arg0) := by
  refine ⟨?_, ?_, ?_⟩
  · after_reads_simp; rfl
  · after_reads_simp; rfl
  · after_reads_simp

/-- The result of the whole line, as a function of the argument. -/
theorem line_value (W : Valuation τ sig (Elt Ideal)) :
    (after (ops (F := Ideal)).1 W (Proc.devRef .tc main_v35) : FVec Ideal S4096x64 .f32)
      = clipped (F := Ideal) (meanOf (places (order (perturbed (W (Proc.devRef .tc main_arg0)))))) := by
  rw [ops_eq]
  simp only [after_append]
  rw [tail_value, noise_value, (mid_keep _).1, (mid_keep _).2.1, (mid_keep _).2.2, (bits_keep' _).1, (bits_keep' _).2.1, (bits_keep' _).2.2,
    (head_keep _).1, (head_keep _).2.1, (head_keep _).2.2, gather_id, scatter_id]
  rfl

theorem rank_le (v : Fin 64 → EReal) (j : Fin 64) : rank v j ≤ 64 := (Finset.card_le_univ _).trans (by simp)

/-- The reference's result under the precondition. -/
theorem clipped_ranks (X : FVec Ideal S4096x64 .f32) (h : Cert.Pre_no_ties.fn (F := Ideal) X = fun _ => 1#1) :
    clipped (F := Ideal) (meanOf (places (order (perturbed X)))) = scores X := by
  funext y
  obtain ⟨r, j, rfl⟩ : ∃ (r : Fin 4096) (j : Fin 64), y = ix2 r j := ⟨y 0, y 1, eq_ix2 (n0 := 4096) (n1 := 64) y⟩
  rw [clipped_mean _ (fun s => rank (fun b => perturbed X (ix3 s r b)) j) r j (fun s => rank_le _ _)
    (fun s => places_order (perturbed X) s r (row_injective X h s r) j)]
  simp only [perturbed_apply]
  rfl

end Cert.Proof.Ranks.Ref

end

end
-- ==== Proof.Value.lean ====
/-
  The value claim: over exact numbers and without ties, the kernel and the reference give one result.
-/
module

public import proofs.«01_k».proof.Proof.RefValue
public import proofs.«01_k».proof.Proof.Frames

@[expose] public section

noncomputable section

namespace Cert.Proof.Ranks

open Idealize.ShloMosaic Idealize.SL.Sem

/-- Without ties the two programs end with the same array, the clipped mean ranks, and leave their argument as it was. -/
theorem same_scores : Cert.algebraic_KernelIdeal_ReferenceIdeal_pre_no_ties := fun m ρ m' ρ' hpre harg =>
  ⟨fun c => scores (argX m c),
    (θ_run Cert.KernelIdeal.defs _ _).mono (fun _ h c => ⟨(h.1 c _ (Pipeline.devRef_mem_ucRefs rfl)).trans (V7_scores m c),
      (h.1 c _ (Pipeline.devRef_mem_ucRefs rfl)).trans (V7_arg m c)⟩) (run_main (F := Ideal) m ρ),
    (θ_run Cert.ReferenceIdeal.defs _ _).mono (fun _ h c => ⟨(h.1 c Cert.ReferenceIdeal.main_v35).trans ((Ref.line_value _).trans
        ((congrArg (fun X : FVec Ideal Cert.ReferenceIdeal.S4096x64 .f32 => Ref.clipped (F := Ideal) (Ref.meanOf (Ref.places (Ref.order (perturbed X)))))
          (harg c)).trans (Ref.clipped_ranks (argX m c) (hpre c)))),
      (h.1 c Cert.ReferenceIdeal.main_arg0).trans (Ref.keep_arg _)⟩) (Ref.run_main (F := Ideal) m' ρ')⟩

end Cert.Proof.Ranks

end

end
-- ==== Proof.lean ====
/-
  The proof of the certificate's claims: the kernel's two frames, the reference's frame, that the idealised program is the
  kernel's, and that the kernel and the reference give one result where no two entries tie.
-/
module

public import proofs.«01_k».proof.Defs
public import proofs.«01_k».proof.Proof.Gen.Pre_no_ties
public import proofs.«01_k».proof.Proof.Frames
public import proofs.«01_k».proof.Proof.RefLine
public import proofs.«01_k».proof.Proof.Value

@[expose] public section

noncomputable section

namespace Cert.Proof

/-- The claims hold. -/
theorem claim : Cert.Claim := ⟨Cert.Kernel.Gen.facts, Cert.KernelIdeal.Gen.facts, Cert.ReferenceIdeal.Gen.facts, Cert.Pre_no_ties.Gen.facts,
  Ranks.frame_bits, Ranks.frame_ideal, fun m ρ _ => Ranks.frame_ideal m ρ trivial, Ranks.Ref.frame, fun m ρ _ => Ranks.Ref.frame m ρ trivial,
  trivial, Ranks.same_scores⟩

end Cert.Proof

end

end
